-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_finite_encodings_and_weights [hPre_finite_encodings_and_weights : Cert.Pre_finite_encodings_and_weights.Facts] (m : (ℓ : Loc Cert.CmpIdeal.nD Cert.CmpIdeal.τ Cert.CmpIdeal.sig) → Buf (Elt Ideal) ℓ) : Prop :=
  ∀ c : Dev Cert.CmpIdeal.nD,
    (Cert.Pre_finite_encodings_and_weights.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6)) (m ((c.tc : Thread Cert.CmpIdeal.nD Cert.CmpIdeal.τ).loc Cert.CmpIdeal.main_arg7))).1 = (fun _ => 1#1)
    ∧ (Cert.Pre_finite_encodings_and_weights.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6)) (m ((c.tc : Thread Cert.CmpIdeal.nD Cert.CmpIdeal.τ).loc Cert.CmpIdeal.main_arg7))).2.1 = (fun _ => 1#1)
    ∧ (Cert.Pre_finite_encodings_and_weights.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6)) (m ((c.tc : Thread Cert.CmpIdeal.nD Cert.CmpIdeal.τ).loc Cert.CmpIdeal.main_arg7))).2.2.1 = (fun _ => 1#1)
    ∧ (Cert.Pre_finite_encodings_and_weights.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6)) (m ((c.tc : Thread Cert.CmpIdeal.nD Cert.CmpIdeal.τ).loc Cert.CmpIdeal.main_arg7))).2.2.2 = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_finite_encodings_and_weights [hPre_finite_encodings_and_weights : Cert.Pre_finite_encodings_and_weights.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_finite_encodings_and_weights.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4)) (m ((c.tc : Thread Cert.CmpRefIdeal.nD Cert.CmpRefIdeal.τ).loc Cert.CmpRefIdeal.main_arg5)) (m ((c.tc : Thread Cert.CmpRefIdeal.nD Cert.CmpRefIdeal.τ).loc Cert.CmpRefIdeal.main_arg6)) (m ((c.tc : Thread Cert.CmpRefIdeal.nD Cert.CmpRefIdeal.τ).loc Cert.CmpRefIdeal.main_arg7))).1 = (fun _ => 1#1)
    ∧ (Cert.Pre_finite_encodings_and_weights.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4)) (m ((c.tc : Thread Cert.CmpRefIdeal.nD Cert.CmpRefIdeal.τ).loc Cert.CmpRefIdeal.main_arg5)) (m ((c.tc : Thread Cert.CmpRefIdeal.nD Cert.CmpRefIdeal.τ).loc Cert.CmpRefIdeal.main_arg6)) (m ((c.tc : Thread Cert.CmpRefIdeal.nD Cert.CmpRefIdeal.τ).loc Cert.CmpRefIdeal.main_arg7))).2.1 = (fun _ => 1#1)
    ∧ (Cert.Pre_finite_encodings_and_weights.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4)) (m ((c.tc : Thread Cert.CmpRefIdeal.nD Cert.CmpRefIdeal.τ).loc Cert.CmpRefIdeal.main_arg5)) (m ((c.tc : Thread Cert.CmpRefIdeal.nD Cert.CmpRefIdeal.τ).loc Cert.CmpRefIdeal.main_arg6)) (m ((c.tc : Thread Cert.CmpRefIdeal.nD Cert.CmpRefIdeal.τ).loc Cert.CmpRefIdeal.main_arg7))).2.2.1 = (fun _ => 1#1)
    ∧ (Cert.Pre_finite_encodings_and_weights.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4)) (m ((c.tc : Thread Cert.CmpRefIdeal.nD Cert.CmpRefIdeal.τ).loc Cert.CmpRefIdeal.main_arg5)) (m ((c.tc : Thread Cert.CmpRefIdeal.nD Cert.CmpRefIdeal.τ).loc Cert.CmpRefIdeal.main_arg6)) (m ((c.tc : Thread Cert.CmpRefIdeal.nD Cert.CmpRefIdeal.τ).loc Cert.CmpRefIdeal.main_arg7))).2.2.2 = (fun _ => 1#1)

def Pre_Qp (m : (ℓ : Loc Cert.Qp.nD Cert.Qp.τ Cert.Qp.sig) → Buf (Elt Bits) ℓ) : Prop :=
  True

def Pre_QpIdeal (m : (ℓ : Loc Cert.QpIdeal.nD Cert.QpIdeal.τ Cert.QpIdeal.sig) → Buf (Elt Ideal) ℓ) : Prop :=
  True

def Pre_QpRefIdeal (m : (ℓ : Loc Cert.QpRefIdeal.nD Cert.QpRefIdeal.τ Cert.QpRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6)
      ∧ r.2.mem ((c.tc : Thread Cert.Cmp.nD Cert.Cmp.τ).loc Cert.Cmp.main_arg7) = m ((c.tc : Thread Cert.Cmp.nD Cert.Cmp.τ).loc Cert.Cmp.main_arg7))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
      ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7))
      ∧ r.2.sem = fun _ => 0)

def quiescent_CmpIdeal_pre_finite_encodings_and_weights [hCmpIdeal : Cert.CmpIdeal.Facts] [hPre_finite_encodings_and_weights : Cert.Pre_finite_encodings_and_weights.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_finite_encodings_and_weights m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
      ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6)
      ∧ r.2.mem ((c.tc : Thread Cert.CmpRefIdeal.nD Cert.CmpRefIdeal.τ).loc Cert.CmpRefIdeal.main_arg7) = m ((c.tc : Thread Cert.CmpRefIdeal.nD Cert.CmpRefIdeal.τ).loc Cert.CmpRefIdeal.main_arg7))
      ∧ r.2.sem = fun _ => 0)

def quiescent_CmpRefIdeal_pre_finite_encodings_and_weights [hCmpRefIdeal : Cert.CmpRefIdeal.Facts] [hPre_finite_encodings_and_weights : Cert.Pre_finite_encodings_and_weights.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_finite_encodings_and_weights m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6)
      ∧ r.2.mem ((c.tc : Thread Cert.CmpRefIdeal.nD Cert.CmpRefIdeal.τ).loc Cert.CmpRefIdeal.main_arg7) = m ((c.tc : Thread Cert.CmpRefIdeal.nD Cert.CmpRefIdeal.τ).loc Cert.CmpRefIdeal.main_arg7))
      ∧ r.2.sem = fun _ => 0)

def quiescent_Qp [hQp : Cert.Qp.Facts] : Prop :=
  ∀ (m : (ℓ : Loc Cert.Qp.nD Cert.Qp.τ Cert.Qp.sig) → Buf (Elt Bits) ℓ) (g : Dev Cert.Qp.nD → PrngReg), Pre_Qp m →
    θ_run (Cert.Qp.defs (F := Bits)) (onTc (τ := Cert.Qp.τ) (Cert.Qp.main (F := Bits))) ⟨m, fun _ => 0, g⟩ (fun r => (∀ c : Dev Cert.Qp.nD,
      r.2.mem ((c.tc : Thread Cert.Qp.nD Cert.Qp.τ).loc Cert.Qp.main_arg0) = m ((c.tc : Thread Cert.Qp.nD Cert.Qp.τ).loc Cert.Qp.main_arg0)
      ∧ r.2.mem ((c.tc : Thread Cert.Qp.nD Cert.Qp.τ).loc Cert.Qp.main_arg1) = m ((c.tc : Thread Cert.Qp.nD Cert.Qp.τ).loc Cert.Qp.main_arg1)
      ∧ r.2.mem ((c.tc : Thread Cert.Qp.nD Cert.Qp.τ).loc Cert.Qp.main_arg2) = m ((c.tc : Thread Cert.Qp.nD Cert.Qp.τ).loc Cert.Qp.main_arg2))
      ∧ r.2.sem = fun _ => 0)

def quiescent_QpIdeal [hQpIdeal : Cert.QpIdeal.Facts] : Prop :=
  ∀ (m : (ℓ : Loc Cert.QpIdeal.nD Cert.QpIdeal.τ Cert.QpIdeal.sig) → Buf (Elt Ideal) ℓ) (g : Dev Cert.QpIdeal.nD → PrngReg), Pre_QpIdeal m →
    θ_run (Cert.QpIdeal.defs (F := Ideal)) (onTc (τ := Cert.QpIdeal.τ) (Cert.QpIdeal.main (F := Ideal))) ⟨m, fun _ => 0, g⟩ (fun r => (∀ c : Dev Cert.QpIdeal.nD,
      r.2.mem ((c.tc : Thread Cert.QpIdeal.nD Cert.QpIdeal.τ).loc Cert.QpIdeal.main_arg0) = m ((c.tc : Thread Cert.QpIdeal.nD Cert.QpIdeal.τ).loc Cert.QpIdeal.main_arg0)
      ∧ r.2.mem ((c.tc : Thread Cert.QpIdeal.nD Cert.QpIdeal.τ).loc Cert.QpIdeal.main_arg1) = m ((c.tc : Thread Cert.QpIdeal.nD Cert.QpIdeal.τ).loc Cert.QpIdeal.main_arg1)
      ∧ r.2.mem ((c.tc : Thread Cert.QpIdeal.nD Cert.QpIdeal.τ).loc Cert.QpIdeal.main_arg2) = m ((c.tc : Thread Cert.QpIdeal.nD Cert.QpIdeal.τ).loc Cert.QpIdeal.main_arg2))
      ∧ r.2.sem = fun _ => 0)

def quiescent_QpRefIdeal [hQpRefIdeal : Cert.QpRefIdeal.Facts] : Prop :=
  ∀ (m : (ℓ : Loc Cert.QpRefIdeal.nD Cert.QpRefIdeal.τ Cert.QpRefIdeal.sig) → Buf (Elt Ideal) ℓ) (g : Dev Cert.QpRefIdeal.nD → PrngReg), Pre_QpRefIdeal m →
    θ_run (Cert.QpRefIdeal.defs (F := Ideal)) (onTc (τ := Cert.QpRefIdeal.τ) (Cert.QpRefIdeal.main (F := Ideal))) ⟨m, fun _ => 0, g⟩ (fun r => (∀ c : Dev Cert.QpRefIdeal.nD,
      r.2.mem ((c.tc : Thread Cert.QpRefIdeal.nD Cert.QpRefIdeal.τ).loc Cert.QpRefIdeal.main_arg0) = m ((c.tc : Thread Cert.QpRefIdeal.nD Cert.QpRefIdeal.τ).loc Cert.QpRefIdeal.main_arg0)
      ∧ r.2.mem ((c.tc : Thread Cert.QpRefIdeal.nD Cert.QpRefIdeal.τ).loc Cert.QpRefIdeal.main_arg1) = m ((c.tc : Thread Cert.QpRefIdeal.nD Cert.QpRefIdeal.τ).loc Cert.QpRefIdeal.main_arg1)
      ∧ r.2.mem ((c.tc : Thread Cert.QpRefIdeal.nD Cert.QpRefIdeal.τ).loc Cert.QpRefIdeal.main_arg2) = m ((c.tc : Thread Cert.QpRefIdeal.nD Cert.QpRefIdeal.τ).loc Cert.QpRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v48) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v10)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v10) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v25) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v14)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v14) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v42) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v25_0)) (v1 : (c : Dev Cert.KvIdeal.nD) → Buf (Elt Ideal) ((c.tc : Thread Cert.KvIdeal.nD Cert.KvIdeal.τ).loc Cert.KvIdeal.main_v25_1)) (v2 : (c : Dev Cert.KvIdeal.nD) → Buf (Elt Ideal) ((c.tc : Thread Cert.KvIdeal.nD Cert.KvIdeal.τ).loc Cert.KvIdeal.main_v25_2)) (v3 : (c : Dev Cert.KvIdeal.nD) → Buf (Elt Ideal) ((c.tc : Thread Cert.KvIdeal.nD Cert.KvIdeal.τ).loc Cert.KvIdeal.main_v25_3)) (v4 : (c : Dev Cert.KvIdeal.nD) → Buf (Elt Ideal) ((c.tc : Thread Cert.KvIdeal.nD Cert.KvIdeal.τ).loc Cert.KvIdeal.main_v25_4)) (v5 : (c : Dev Cert.KvIdeal.nD) → Buf (Elt Ideal) ((c.tc : Thread Cert.KvIdeal.nD Cert.KvIdeal.τ).loc Cert.KvIdeal.main_v25_5)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v25_0) = v0 c
          ∧ r.2.mem ((c.tc : Thread Cert.KvIdeal.nD Cert.KvIdeal.τ).loc Cert.KvIdeal.main_v25_1) = v1 c
          ∧ r.2.mem ((c.tc : Thread Cert.KvIdeal.nD Cert.KvIdeal.τ).loc Cert.KvIdeal.main_v25_2) = v2 c
          ∧ r.2.mem ((c.tc : Thread Cert.KvIdeal.nD Cert.KvIdeal.τ).loc Cert.KvIdeal.main_v25_3) = v3 c
          ∧ r.2.mem ((c.tc : Thread Cert.KvIdeal.nD Cert.KvIdeal.τ).loc Cert.KvIdeal.main_v25_4) = v4 c
          ∧ r.2.mem ((c.tc : Thread Cert.KvIdeal.nD Cert.KvIdeal.τ).loc Cert.KvIdeal.main_v25_5) = v5 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v26) = v0 c
          ∧ r.2.mem ((c.tc : Thread Cert.KvRefIdeal.nD Cert.KvRefIdeal.τ).loc Cert.KvRefIdeal.main_v32) = v1 c
          ∧ r.2.mem ((c.tc : Thread Cert.KvRefIdeal.nD Cert.KvRefIdeal.τ).loc Cert.KvRefIdeal.main_v40) = v2 c
          ∧ r.2.mem ((c.tc : Thread Cert.KvRefIdeal.nD Cert.KvRefIdeal.τ).loc Cert.KvRefIdeal.main_v46) = v3 c
          ∧ r.2.mem ((c.tc : Thread Cert.KvRefIdeal.nD Cert.KvRefIdeal.τ).loc Cert.KvRefIdeal.main_v53) = v4 c
          ∧ r.2.mem ((c.tc : Thread Cert.KvRefIdeal.nD Cert.KvRefIdeal.τ).loc Cert.KvRefIdeal.main_v60) = v5 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Cmp_CmpIdeal : Prop :=
  True

def algebraic_CmpIdeal_CmpRefIdeal_pre_finite_encodings_and_weights [hCmpIdeal : Cert.CmpIdeal.Facts] [hCmpRefIdeal : Cert.CmpRefIdeal.Facts] [hPre_finite_encodings_and_weights : Cert.Pre_finite_encodings_and_weights.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_finite_encodings_and_weights m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)
      ∧ m' ((c.tc : Thread Cert.CmpRefIdeal.nD Cert.CmpRefIdeal.τ).loc Cert.CmpRefIdeal.main_arg6) = m ((c.tc : Thread Cert.CmpIdeal.nD Cert.CmpIdeal.τ).loc Cert.CmpIdeal.main_arg6)
      ∧ m' ((c.tc : Thread Cert.CmpRefIdeal.nD Cert.CmpRefIdeal.τ).loc Cert.CmpRefIdeal.main_arg7) = m ((c.tc : Thread Cert.CmpIdeal.nD Cert.CmpIdeal.τ).loc Cert.CmpIdeal.main_arg7)) →
    ∃ (v0 : (c : Dev Cert.CmpIdeal.nD) → Buf (Elt Ideal) ((c.tc : Thread Cert.CmpIdeal.nD Cert.CmpIdeal.τ).loc Cert.CmpIdeal.main_v43_0)) (v1 : (c : Dev Cert.CmpIdeal.nD) → Buf (Elt Ideal) ((c.tc : Thread Cert.CmpIdeal.nD Cert.CmpIdeal.τ).loc Cert.CmpIdeal.main_v43_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v43_0) = v0 c
          ∧ r.2.mem ((c.tc : Thread Cert.CmpIdeal.nD Cert.CmpIdeal.τ).loc Cert.CmpIdeal.main_v43_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
          ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v59) = v0 c
          ∧ r.2.mem ((c.tc : Thread Cert.CmpRefIdeal.nD Cert.CmpRefIdeal.τ).loc Cert.CmpRefIdeal.main_v60) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5)
          ∧ r.2.mem ((c.tc : Thread Cert.CmpRefIdeal.nD Cert.CmpRefIdeal.τ).loc Cert.CmpRefIdeal.main_arg6) = m' ((c.tc : Thread Cert.CmpRefIdeal.nD Cert.CmpRefIdeal.τ).loc Cert.CmpRefIdeal.main_arg6)
          ∧ r.2.mem ((c.tc : Thread Cert.CmpRefIdeal.nD Cert.CmpRefIdeal.τ).loc Cert.CmpRefIdeal.main_arg7) = m' ((c.tc : Thread Cert.CmpRefIdeal.nD Cert.CmpRefIdeal.τ).loc Cert.CmpRefIdeal.main_arg7))

def preserves_Qp_QpIdeal : Prop :=
  True

def algebraic_QpIdeal_QpRefIdeal [hQpIdeal : Cert.QpIdeal.Facts] [hQpRefIdeal : Cert.QpRefIdeal.Facts] : Prop :=
  ∀ (m : (ℓ : Loc Cert.QpIdeal.nD Cert.QpIdeal.τ Cert.QpIdeal.sig) → Buf (Elt Ideal) ℓ) (g : Dev Cert.QpIdeal.nD → PrngReg)
    (m' : (ℓ : Loc Cert.QpRefIdeal.nD Cert.QpRefIdeal.τ Cert.QpRefIdeal.sig) → Buf (Elt Ideal) ℓ) (g' : Dev Cert.QpRefIdeal.nD → PrngReg), Pre_QpIdeal m →
    (∀ c : Dev Cert.QpIdeal.nD,
      m' ((c.tc : Thread Cert.QpRefIdeal.nD Cert.QpRefIdeal.τ).loc Cert.QpRefIdeal.main_arg0) = m ((c.tc : Thread Cert.QpIdeal.nD Cert.QpIdeal.τ).loc Cert.QpIdeal.main_arg0)
      ∧ m' ((c.tc : Thread Cert.QpRefIdeal.nD Cert.QpRefIdeal.τ).loc Cert.QpRefIdeal.main_arg1) = m ((c.tc : Thread Cert.QpIdeal.nD Cert.QpIdeal.τ).loc Cert.QpIdeal.main_arg1)
      ∧ m' ((c.tc : Thread Cert.QpRefIdeal.nD Cert.QpRefIdeal.τ).loc Cert.QpRefIdeal.main_arg2) = m ((c.tc : Thread Cert.QpIdeal.nD Cert.QpIdeal.τ).loc Cert.QpIdeal.main_arg2)) →
    ∃ (v0 : (c : Dev Cert.QpIdeal.nD) → Buf (Elt Ideal) ((c.tc : Thread Cert.QpIdeal.nD Cert.QpIdeal.τ).loc Cert.QpIdeal.main_v13_0)) (v1 : (c : Dev Cert.QpIdeal.nD) → Buf (Elt Ideal) ((c.tc : Thread Cert.QpIdeal.nD Cert.QpIdeal.τ).loc Cert.QpIdeal.main_v13_1)),
      θ_run (Cert.QpIdeal.defs (F := Ideal)) (onTc (τ := Cert.QpIdeal.τ) (Cert.QpIdeal.main (F := Ideal))) ⟨m, fun _ => 0, g⟩ (fun r => ∀ c : Dev Cert.QpIdeal.nD,
          r.2.mem ((c.tc : Thread Cert.QpIdeal.nD Cert.QpIdeal.τ).loc Cert.QpIdeal.main_v13_0) = v0 c
          ∧ r.2.mem ((c.tc : Thread Cert.QpIdeal.nD Cert.QpIdeal.τ).loc Cert.QpIdeal.main_v13_1) = v1 c
          ∧ r.2.mem ((c.tc : Thread Cert.QpIdeal.nD Cert.QpIdeal.τ).loc Cert.QpIdeal.main_arg0) = m ((c.tc : Thread Cert.QpIdeal.nD Cert.QpIdeal.τ).loc Cert.QpIdeal.main_arg0)
          ∧ r.2.mem ((c.tc : Thread Cert.QpIdeal.nD Cert.QpIdeal.τ).loc Cert.QpIdeal.main_arg1) = m ((c.tc : Thread Cert.QpIdeal.nD Cert.QpIdeal.τ).loc Cert.QpIdeal.main_arg1)
          ∧ r.2.mem ((c.tc : Thread Cert.QpIdeal.nD Cert.QpIdeal.τ).loc Cert.QpIdeal.main_arg2) = m ((c.tc : Thread Cert.QpIdeal.nD Cert.QpIdeal.τ).loc Cert.QpIdeal.main_arg2))
      ∧ θ_run (Cert.QpRefIdeal.defs (F := Ideal)) (onTc (τ := Cert.QpRefIdeal.τ) (Cert.QpRefIdeal.main (F := Ideal))) ⟨m', fun _ => 0, g'⟩ (fun r => ∀ c : Dev Cert.QpRefIdeal.nD,
          r.2.mem ((c.tc : Thread Cert.QpRefIdeal.nD Cert.QpRefIdeal.τ).loc Cert.QpRefIdeal.main_v29) = v0 c
          ∧ r.2.mem ((c.tc : Thread Cert.QpRefIdeal.nD Cert.QpRefIdeal.τ).loc Cert.QpRefIdeal.main_v33) = v1 c
          ∧ r.2.mem ((c.tc : Thread Cert.QpRefIdeal.nD Cert.QpRefIdeal.τ).loc Cert.QpRefIdeal.main_arg0) = m' ((c.tc : Thread Cert.QpRefIdeal.nD Cert.QpRefIdeal.τ).loc Cert.QpRefIdeal.main_arg0)
          ∧ r.2.mem ((c.tc : Thread Cert.QpRefIdeal.nD Cert.QpRefIdeal.τ).loc Cert.QpRefIdeal.main_arg1) = m' ((c.tc : Thread Cert.QpRefIdeal.nD Cert.QpRefIdeal.τ).loc Cert.QpRefIdeal.main_arg1)
          ∧ r.2.mem ((c.tc : Thread Cert.QpRefIdeal.nD Cert.QpRefIdeal.τ).loc Cert.QpRefIdeal.main_arg2) = m' ((c.tc : Thread Cert.QpRefIdeal.nD Cert.QpRefIdeal.τ).loc Cert.QpRefIdeal.main_arg2))

def preserves_Attn_AttnIdeal : Prop :=
  True

def Claim : Prop :=
  ∃ (hMix : Cert.Mix.Facts) (hMixIdeal : Cert.MixIdeal.Facts) (hMixRefIdeal : Cert.MixRefIdeal.Facts) (hMlp : Cert.Mlp.Facts) (hMlpIdeal : Cert.MlpIdeal.Facts) (hMlpRefIdeal : Cert.MlpRefIdeal.Facts) (hOut : Cert.Out.Facts) (hOutIdeal : Cert.OutIdeal.Facts) (hOutRefIdeal : Cert.OutRefIdeal.Facts) (hKv : Cert.Kv.Facts) (hKvIdeal : Cert.KvIdeal.Facts) (hKvRefIdeal : Cert.KvRefIdeal.Facts) (hCmp : Cert.Cmp.Facts) (hCmpIdeal : Cert.CmpIdeal.Facts) (hCmpRefIdeal : Cert.CmpRefIdeal.Facts) (hQp : Cert.Qp.Facts) (hQpIdeal : Cert.QpIdeal.Facts) (hQpRefIdeal : Cert.QpRefIdeal.Facts) (hAttn : Cert.Attn.Facts) (hAttnIdeal : Cert.AttnIdeal.Facts) (hPre_finite_encodings_and_weights : Cert.Pre_finite_encodings_and_weights.Facts),
    quiescent_Mix (hMix := hMix)
    ∧ quiescent_MixIdeal (hMixIdeal := hMixIdeal)
    ∧ quiescent_MixRefIdeal (hMixRefIdeal := hMixRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Out (hOut := hOut)
    ∧ quiescent_OutIdeal (hOutIdeal := hOutIdeal)
    ∧ quiescent_OutRefIdeal (hOutRefIdeal := hOutRefIdeal)
    ∧ quiescent_Kv (hKv := hKv)
    ∧ quiescent_KvIdeal (hKvIdeal := hKvIdeal)
    ∧ quiescent_KvRefIdeal (hKvRefIdeal := hKvRefIdeal)
    ∧ quiescent_Cmp (hCmp := hCmp)
    ∧ quiescent_CmpIdeal (hCmpIdeal := hCmpIdeal)
    ∧ quiescent_CmpIdeal_pre_finite_encodings_and_weights (hCmpIdeal := hCmpIdeal) (hPre_finite_encodings_and_weights := hPre_finite_encodings_and_weights)
    ∧ quiescent_CmpRefIdeal (hCmpRefIdeal := hCmpRefIdeal)
    ∧ quiescent_CmpRefIdeal_pre_finite_encodings_and_weights (hCmpRefIdeal := hCmpRefIdeal) (hPre_finite_encodings_and_weights := hPre_finite_encodings_and_weights)
    ∧ quiescent_Qp (hQp := hQp)
    ∧ quiescent_QpIdeal (hQpIdeal := hQpIdeal)
    ∧ quiescent_QpRefIdeal (hQpRefIdeal := hQpRefIdeal)
    ∧ quiescent_Attn (hAttn := hAttn)
    ∧ quiescent_AttnIdeal (hAttnIdeal := hAttnIdeal)
    ∧ preserves_Mix_MixIdeal
    ∧ algebraic_MixIdeal_MixRefIdeal (hMixIdeal := hMixIdeal) (hMixRefIdeal := hMixRefIdeal)
    ∧ preserves_Mlp_MlpIdeal
    ∧ algebraic_MlpIdeal_MlpRefIdeal (hMlpIdeal := hMlpIdeal) (hMlpRefIdeal := hMlpRefIdeal)
    ∧ preserves_Out_OutIdeal
    ∧ algebraic_OutIdeal_OutRefIdeal (hOutIdeal := hOutIdeal) (hOutRefIdeal := hOutRefIdeal)
    ∧ preserves_Kv_KvIdeal
    ∧ algebraic_KvIdeal_KvRefIdeal (hKvIdeal := hKvIdeal) (hKvRefIdeal := hKvRefIdeal)
    ∧ preserves_Cmp_CmpIdeal
    ∧ algebraic_CmpIdeal_CmpRefIdeal_pre_finite_encodings_and_weights (hCmpIdeal := hCmpIdeal) (hCmpRefIdeal := hCmpRefIdeal) (hPre_finite_encodings_and_weights := hPre_finite_encodings_and_weights)
    ∧ preserves_Qp_QpIdeal
    ∧ algebraic_QpIdeal_QpRefIdeal (hQpIdeal := hQpIdeal) (hQpRefIdeal := hQpRefIdeal)
    ∧ preserves_Attn_AttnIdeal
-- ==== Pre_finite_encodings_and_weights.lean ====
abbrev S4x2x512x2048 : Shape := ⟨4, ![4, 2, 512, 2048]⟩
abbrev S32x64 : Shape := ⟨2, ![32, 64]⟩
abbrev S2048x256 : Shape := ⟨2, ![2048, 256]⟩
abbrev S256x64 : Shape := ⟨2, ![256, 64]⟩
abbrev S_ : Shape := ⟨0, ![]⟩

class Facts : Prop where
  bcast_S_S32x64 : S_.BroadcastsInDim S32x64 (![] : Fin 0 → Fin S32x64.rank)
  bcast_S_S2048x256 : S_.BroadcastsInDim S2048x256 (![] : Fin 0 → Fin S2048x256.rank)

variable [Facts]

def fn {F : FTy → Type} [FloatOps F] (main_arg0 : FVec F S4x2x512x2048 .bf16) (main_arg1 : FVec F S4x2x512x2048 .bf16) (main_arg2 : FVec F S32x64 .f32) (main_arg3 : FVec F S32x64 .f32) (main_arg4 : FVec F S2048x256 .f32) (main_arg5 : FVec F S256x64 .f32) (main_arg6 : FVec F S2048x256 .f32) (main_arg7 : FVec F S256x64 .f32) : IVec S32x64 1 × IVec S32x64 1 × IVec S2048x256 1 × IVec S2048x256 1 :=
  let main_v0 : FVec F S32x64 .f32 := Host.absf main_arg2
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_v3 : FVec F S32x64 .f32 := Host.absf main_arg3
  let main_cst_0 : FVec F S_ .f32 := constant S_ .f32 0x7F800000#32
  let main_v4 : FVec F S32x64 .f32 := broadcastInDim S32x64 ![] bcast_S_S32x64 main_cst_0
  let main_v5 : IVec S32x64 1 := cmpf .olt main_v3 main_v4
  let main_v6 : FVec F S2048x256 .f32 := Host.absf main_arg4
  let main_cst_1 : FVec F S_ .f32 := constant S_ .f32 0x7F800000#32
  let main_v7 : FVec F S2048x256 .f32 := broadcastInDim S2048x256 ![] bcast_S_S2048x256 main_cst_1
  let main_v8 : IVec S2048x256 1 := cmpf .olt main_v6 main_v7
  let main_v9 : FVec F S2048x256 .f32 := Host.absf main_arg6
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  (main_v2, main_v5, main_v8, main_v11)
-- ==== Mix.lean ====
abbrev S4x8192x1024 : Shape := ⟨3, ![4, 8192, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S1x1024 : Shape := ⟨2, ![1, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S8x1024 : Shape := ⟨2, ![8, 1024]⟩
abbrev S1024x1 : Shape := ⟨2, ![1024, 1]⟩
abbrev S1024x512 : Shape := ⟨2, ![1024, 512]⟩
abbrev S8x512 : Shape := ⟨2, ![8, 512]⟩
abbrev S1x512 : Shape := ⟨2, ![1, 512]⟩
abbrev S512x1024 : Shape := ⟨2, ![512, 1024]⟩

abbrev nBuf : Space → Nat
  | .hbm => 14
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x3072, .f32⟩
  | .hbm, ⟨9, _⟩ => ⟨S1024x3072, .bf16⟩
  | .hbm, ⟨10, _⟩ => ⟨S3x1024, .f32⟩
  | .hbm, ⟨11, _⟩ => ⟨S1024x1024, .f32⟩
  | .hbm, ⟨12, _⟩ => ⟨S1024x1024, .bf16⟩
  | .hbm, ⟨13, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3072, .bf16⟩
  | .local _ .vmem, ⟨4, _⟩ => ⟨S3x1024, .f32⟩
  | .local _ .vmem, ⟨5, _⟩ => ⟨S1024x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S8x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixRefIdeal.lean ====
abbrev S4x8192x1024 : Shape := ⟨3, ![4, 8192, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x3072 : Shape := ⟨2, ![1024, 3072]⟩
abbrev S3x1024 : Shape := ⟨2, ![3, 1024]⟩
abbrev S1024x1024 : Shape := ⟨2, ![1024, 1024]⟩
abbrev S4x8192x3072 : Shape := ⟨3, ![4, 8192, 3072]⟩
abbrev S4x8194x1024 : Shape := ⟨3, ![4, 8194, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S1x1024, .f32⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S1024x3072, .f32⟩
  | .hbm, ⟨24, _⟩ => ⟨S3x1024, .f32⟩
  | .hbm, ⟨25, _⟩ => ⟨S1024x1024, .f32⟩
  | .hbm, ⟨26, _⟩ => ⟨S4x8192x3072, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S_, .i32⟩
  | .hbm, ⟨32, _⟩ => ⟨S_, .f32⟩
  | .hbm, ⟨33, _⟩ => ⟨S4x8194x1024, .f32⟩
  | .hbm, ⟨34, _⟩ => ⟨S1x1024, .f32⟩
  | .hbm, ⟨35, _⟩ => ⟨S1024, .f32⟩
  | .hbm, ⟨36, _⟩ => ⟨S4x8192x1024, .f32⟩
  | .hbm, ⟨37, _⟩ => ⟨S1x1x1024, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x8192x1024, .f32⟩
  | .hbm, ⟨42, _⟩ => ⟨S4x8192x1024, .f32⟩
  | .hbm, ⟨43, _⟩ => ⟨S1x1024, .f32⟩
  | .hbm, ⟨44, _⟩ => ⟨S1024, .f32⟩
  | .hbm, ⟨45, _⟩ => ⟨S4x8192x1024, .f32⟩
  | .hbm, ⟨46, _⟩ => ⟨S1x1x1024, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S1x1024, .f32⟩
  | .hbm, ⟨51, _⟩ => ⟨S1024, .f32⟩
  | .hbm, ⟨52, _⟩ => ⟨S4x8192x1024, .f32⟩
  | .hbm, ⟨53, _⟩ => ⟨S1x1x1024, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_call0_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Mlp.lean ====
abbrev S4x8192x1024 : Shape := ⟨3, ![4, 8192, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S32768x1024 : Shape := ⟨2, ![32768, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1024x1024 : Shape := ⟨2, ![1024, 1024]⟩
abbrev S1024x1 : Shape := ⟨2, ![1024, 1]⟩

abbrev nBuf : Space → Nat
  | .hbm => 15
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S32768x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024x4096, .f32⟩
  | .hbm, ⟨9, _⟩ => ⟨S1024x4096, .f32⟩
  | .hbm, ⟨10, _⟩ => ⟨S1024x4096, .bf16⟩
  | .hbm, ⟨11, _⟩ => ⟨S1x4096x1024, .f32⟩
  | .hbm, ⟨12, _⟩ => ⟨S4096x1024, .f32⟩
  | .hbm, ⟨13, _⟩ => ⟨S4096x1024, .bf16⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1024x1024, .f32⟩
  | .local _ .vmem, ⟨6, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlpRefIdeal.lean ====
abbrev S4x8192x1024 : Shape := ⟨3, ![4, 8192, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x8192x4096 : Shape := ⟨3, ![4, 8192, 4096]⟩
abbrev S32768x1024 : Shape := ⟨2, ![32768, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1x1024, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S1x1024x4096, .f32⟩
  | .hbm, ⟨23, _⟩ => ⟨S1024x4096, .f32⟩
  | .hbm, ⟨24, _⟩ => ⟨S1x4096x1024, .f32⟩
  | .hbm, ⟨25, _⟩ => ⟨S4096x1024, .f32⟩
  | .hbm, ⟨26, _⟩ => ⟨S4x8192x4096, .f32⟩
  | .hbm, ⟨27, _⟩ => ⟨S_, .f32⟩
  | .hbm, ⟨28, _⟩ => ⟨S4x8192x4096, .f32⟩
  | .hbm, ⟨29, _⟩ => ⟨S4x8192x4096, .f32⟩
  | .hbm, ⟨30, _⟩ => ⟨S4x8192x4096, .f32⟩
  | .hbm, ⟨31, _⟩ => ⟨S4x8192x1024, .f32⟩
  | .hbm, ⟨32, _⟩ => ⟨S4x8192x1024, .f32⟩
  | .hbm, ⟨33, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Out.lean ====
abbrev S4x8192x1024 : Shape := ⟨3, ![4, 8192, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024 : Shape := ⟨1, ![1024]⟩
abbrev S32768x1024 : Shape := ⟨2, ![32768, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1024x1024 : Shape := ⟨2, ![1024, 1024]⟩
abbrev S1024x1 : Shape := ⟨2, ![1024, 1]⟩

abbrev nBuf : Space → Nat
  | .hbm => 22
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S2x1024, .f32⟩
  | .hbm, ⟨3, _⟩ => ⟨S2x1024x4096, .f32⟩
  | .hbm, ⟨4, _⟩ => ⟨S2x4096x1024, .f32⟩
  | .hbm, ⟨5, _⟩ => ⟨S1x1024x1024, .f32⟩
  | .hbm, ⟨6, _⟩ => ⟨S1024, .f32⟩
  | .hbm, ⟨7, _⟩ => ⟨S32768x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024x4096, .f32⟩
  | .hbm, ⟨12, _⟩ => ⟨S1024x4096, .f32⟩
  | .hbm, ⟨13, _⟩ => ⟨S1024x4096, .bf16⟩
  | .hbm, ⟨14, _⟩ => ⟨S1x4096x1024, .f32⟩
  | .hbm, ⟨15, _⟩ => ⟨S4096x1024, .f32⟩
  | .hbm, ⟨16, _⟩ => ⟨S4096x1024, .bf16⟩
  | .hbm, ⟨17, _⟩ => ⟨S32768x1024, .bf16⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S4x8192x1024 : Shape := ⟨3, ![4, 8192, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x8192x4096 : Shape := ⟨3, ![4, 8192, 4096]⟩
abbrev S32768x1024 : Shape := ⟨2, ![32768, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S2x1024, .f32⟩
  | .hbm, ⟨3, _⟩ => ⟨S2x1024x4096, .f32⟩
  | .hbm, ⟨4, _⟩ => ⟨S2x4096x1024, .f32⟩
  | .hbm, ⟨5, _⟩ => ⟨S1x1024x1024, .f32⟩
  | .hbm, ⟨6, _⟩ => ⟨S1024, .f32⟩
  | .hbm, ⟨7, _⟩ => ⟨S4x8192x1024, .f32⟩
  | .hbm, ⟨8, _⟩ => ⟨S1024x1024, .f32⟩
  | .hbm, ⟨9, _⟩ => ⟨S4x8192x1024, .f32⟩
  | .hbm, ⟨10, _⟩ => ⟨S4x8192x1024, .f32⟩
  | .hbm, ⟨11, _⟩ => ⟨S1x1024, .f32⟩
  | .hbm, ⟨12, _⟩ => ⟨S1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S1x1024x4096, .f32⟩
  | .hbm, ⟨30, _⟩ => ⟨S1024x4096, .f32⟩
  | .hbm, ⟨31, _⟩ => ⟨S1x4096x1024, .f32⟩
  | .hbm, ⟨32, _⟩ => ⟨S4096x1024, .f32⟩
  | .hbm, ⟨33, _⟩ => ⟨S4x8192x4096, .f32⟩
  | .hbm, ⟨34, _⟩ => ⟨S_, .f32⟩
  | .hbm, ⟨35, _⟩ => ⟨S4x8192x4096, .f32⟩
  | .hbm, ⟨36, _⟩ => ⟨S4x8192x4096, .f32⟩
  | .hbm, ⟨37, _⟩ => ⟨S4x8192x4096, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x8192x1, .f32⟩
  | .hbm, ⟨51, _⟩ => ⟨S4x8192x1024, .f32⟩
  | .hbm, ⟨52, _⟩ => ⟨S4x8192x1024, .f32⟩
  | .hbm, ⟨53, _⟩ => ⟨S1x1x1024, .f32⟩
  | .hbm, ⟨54, _⟩ => ⟨S4x8192x1024, .f32⟩
  | .hbm, ⟨55, _⟩ => ⟨S4x8192x1024, .f32⟩
  | .hbm, ⟨56, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kv.lean ====
abbrev S4x8192x1024 : Shape := ⟨3, ![4, 8192, 1024]⟩
abbrev S1024 : Shape := ⟨1, ![1024]⟩
abbrev S1024x1536 : Shape := ⟨2, ![1024, 1536]⟩
abbrev S1024x256 : Shape := ⟨2, ![1024, 256]⟩
abbrev S1024x4x64 : Shape := ⟨3, ![1024, 4, 64]⟩
abbrev S_ : Shape := ⟨0, ![]⟩
abbrev S1024x4x128 : Shape := ⟨3, ![1024, 4, 128]⟩
abbrev S1024x512 : Shape := ⟨2, ![1024, 512]⟩
abbrev S1024x4x80 : Shape := ⟨3, ![1024, 4, 80]⟩
abbrev S1024x320 : Shape := ⟨2, ![1024, 320]⟩
abbrev S320x1024 : Shape := ⟨2, ![320, 1024]⟩
abbrev S640x1024 : Shape := ⟨2, ![640, 1024]⟩
abbrev S1x1024 : Shape := ⟨2, ![1, 1024]⟩
abbrev S4x2x512x2048 : Shape := ⟨4, ![4, 2, 512, 2048]⟩
abbrev S4x4x8192x256 : Shape := ⟨4, ![4, 4, 8192, 256]⟩
abbrev S4x4x8192x128 : Shape := ⟨4, ![4, 4, 8192, 128]⟩
abbrev S4x4x80x8192 : Shape := ⟨4, ![4, 4, 80, 8192]⟩
abbrev S1x512x1024 : Shape := ⟨3, ![1, 512, 1024]⟩
abbrev S1x2x32x2048 : Shape := ⟨4, ![1, 2, 32, 2048]⟩
abbrev S1x4x512x256 : Shape := ⟨4, ![1, 4, 512, 256]⟩
abbrev S1x4x512x128 : Shape := ⟨4, ![1, 4, 512, 128]⟩
abbrev S1x4x80x512 : Shape := ⟨4, ![1, 4, 80, 512]⟩
abbrev S4x512x128 : Shape := ⟨3, ![4, 512, 128]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S1x512x128 : Shape := ⟨3, ![1, 512, 128]⟩
abbrev S1x32x128 : Shape := ⟨3, ![1, 32, 128]⟩
abbrev S32x128 : Shape := ⟨2, ![32, 128]⟩
abbrev S1x1x32x128 : Shape := ⟨4, ![1, 1, 32, 128]⟩
abbrev S1x1x512x128 : Shape := ⟨4, ![1, 1, 512, 128]⟩
abbrev S640x512 : Shape := ⟨2, ![640, 512]⟩
abbrev S80x512 : Shape := ⟨2, ![80, 512]⟩
abbrev S1x1x80x512 : Shape := ⟨4, ![1, 1, 80, 512]⟩

abbrev nBuf : Space → Nat
  | .hbm => 42
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1536, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x4x64, .f32⟩
  | .hbm, ⟨7, _⟩ => ⟨S_, .i32⟩
  | .hbm, ⟨8, _⟩ => ⟨S_, .f32⟩
  | .hbm, ⟨9, _⟩ => ⟨S1024x4x128, .f32⟩
  | .hbm, ⟨10, _⟩ => ⟨S1024x512, .f32⟩
  | .hbm, ⟨11, _⟩ => ⟨S1024x256, .f32⟩
  | .hbm, ⟨12, _⟩ => ⟨S1024x4x64, .f32⟩
  | .hbm, ⟨13, _⟩ => ⟨S_, .i32⟩
  | .hbm, ⟨14, _⟩ => ⟨S_, .f32⟩
  | .hbm, ⟨15, _⟩ => ⟨S1024x4x128, .f32⟩
  | .hbm, ⟨16, _⟩ => ⟨S1024x512, .f32⟩
  | .hbm, ⟨17, _⟩ => ⟨S1024x1536, .f32⟩
  | .hbm, ⟨18, _⟩ => ⟨S1024x256, .f32⟩
  | .hbm, ⟨19, _⟩ => ⟨S1024x4x64, .f32⟩
  | .hbm, ⟨20, _⟩ => ⟨S_, .i32⟩
  | .hbm, ⟨21, _⟩ => ⟨S_, .f32⟩
  | .hbm, ⟨22, _⟩ => ⟨S1024x4x80, .f32⟩
  | .hbm, ⟨23, _⟩ => ⟨S1024x320, .f32⟩
  | .hbm, ⟨24, _⟩ => ⟨S320x1024, .f32⟩
  | .hbm, ⟨25, _⟩ => ⟨S1024x256, .f32⟩
  | .hbm, ⟨26, _⟩ => ⟨S1024x4x64, .f32⟩
  | .hbm, ⟨27, _⟩ => ⟨S_, .i32⟩
  | .hbm, ⟨28, _⟩ => ⟨S_, .f32⟩
  | .hbm, ⟨29, _⟩ => ⟨S1024x4x80, .f32⟩
  | .hbm, ⟨30, _⟩ => ⟨S1024x320, .f32⟩
  | .hbm, ⟨31, _⟩ => ⟨S320x1024, .f32⟩
  | .hbm, ⟨32, _⟩ => ⟨S640x1024, .f32⟩
  | .hbm, ⟨33, _⟩ => ⟨S1x1024, .f32⟩
  | .hbm, ⟨34, _⟩ => ⟨S1024x1536, .bf16⟩
  | .hbm, ⟨35, _⟩ => ⟨S640x1024, .bf16⟩
  | .hbm, ⟨36, _⟩ => ⟨S4x2x512x2048, .bf16⟩
  | .hbm, ⟨37, _⟩ => ⟨S4x2x512x2048, .bf16⟩
  | .hbm, ⟨38, _⟩ => ⟨S4x4x8192x256, .bf16⟩
  | .hbm, ⟨39, _⟩ => ⟨S4x4x8192x128, .bf16⟩
  | .hbm, ⟨40, _⟩ => ⟨S4x4x80x8192, .bf16⟩
  | .hbm, ⟨41, _⟩ => ⟨S4x4x80x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1536, .bf16⟩
  | .local _ .vmem, ⟨4, _⟩ => ⟨S640x1024, .bf16⟩
  | .local _ .vmem, ⟨5, _⟩ => ⟨S1x2x32x2048, .bf16⟩
  | .local _ .vmem, ⟨6, _⟩ => ⟨S1x2x32x2048, .bf16⟩
  | .local _ .vmem, ⟨7, _⟩ => ⟨S1x2x32x2048, .bf16⟩
  | .local _ .vmem, ⟨8, _⟩ => ⟨S1x2x32x2048, .bf16⟩
  | .local _ .vmem, ⟨9, _⟩ => ⟨S1x4x512x256, .bf16⟩
  | .local _ .vmem, ⟨10, _⟩ => ⟨S1x4x512x256, .bf16⟩
  | .local _ .vmem, ⟨11, _⟩ => ⟨S1x4x512x128, .bf16⟩
  | .local _ .vmem, ⟨12, _⟩ => ⟨S1x4x512x128, .bf16⟩
  | .local _ .vmem, ⟨13, _⟩ => ⟨S1x4x80x512, .bf16⟩
  | .local _ .vmem, ⟨14, _⟩ => ⟨S1x4x80x512, .bf16⟩
  | .local _ .vmem, ⟨15, _⟩ => ⟨S1x4x80x512, .bf16⟩
  | .local _ .vmem, ⟨16, _⟩ => ⟨S1x4x80x512, .bf16⟩
  | .local _ .vmem, ⟨17, _⟩ => ⟨S4x512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_call2_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_call3_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev main_v25_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x80x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x80x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KvRefIdeal.lean ====
abbrev S4x8192x1024 : Shape := ⟨3, ![4, 8192, 1024]⟩
abbrev S1024 : Shape := ⟨1, ![1024]⟩
abbrev S1024x1536 : Shape := ⟨2, ![1024, 1536]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1536 : Shape := ⟨3, ![4, 8192, 1536]⟩
abbrev S4x8192x6x4x64 : Shape := ⟨5, ![4, 8192, 6, 4, 64]⟩
abbrev S4x4x8192x128 : Shape := ⟨4, ![4, 4, 8192, 128]⟩
abbrev S4x8192x1x4x64 : Shape := ⟨5, ![4, 8192, 1, 4, 64]⟩
abbrev S4x8192x4x64 : Shape := ⟨4, ![4, 8192, 4, 64]⟩
abbrev S4x512x16x2x128 : Shape := ⟨5, ![4, 512, 16, 2, 128]⟩
abbrev S4x2x512x16x128 : Shape := ⟨5, ![4, 2, 512, 16, 128]⟩
abbrev S4x2x512x2048 : Shape := ⟨4, ![4, 2, 512, 2048]⟩
abbrev S4x4x8192x64 : Shape := ⟨4, ![4, 4, 8192, 64]⟩
abbrev S4x4x8192x256 : Shape := ⟨4, ![4, 4, 8192, 256]⟩
abbrev S4x4x64x8192 : Shape := ⟨4, ![4, 4, 64, 8192]⟩
abbrev S4x4x1x8192 : Shape := ⟨4, ![4, 4, 1, 8192]⟩
abbrev S4x4x15x8192 : Shape := ⟨4, ![4, 4, 15, 8192]⟩
abbrev S4x4x80x8192 : Shape := ⟨4, ![4, 4, 80, 8192]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1536, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x1536, .f32⟩
  | .hbm, ⟨20, _⟩ => ⟨S4x8192x6x4x64, .f32⟩
  | .hbm, ⟨21, _⟩ => ⟨S4x4x8192x128, .i32⟩
  | .hbm, ⟨22, _⟩ => ⟨S_, .i32⟩
  | .hbm, ⟨23, _⟩ => ⟨S4x4x8192x128, .i32⟩
  | .hbm, ⟨24, _⟩ => ⟨S4x4x8192x128, .i32⟩
  | .hbm, ⟨25, _⟩ => ⟨S4x4x8192x128, .i32⟩
  | .hbm, ⟨26, _⟩ => ⟨S4x4x8192x128, .i1⟩
  | .hbm, ⟨27, _⟩ => ⟨S_, .f32⟩
  | .hbm, ⟨28, _⟩ => ⟨S_, .f32⟩
  | .hbm, ⟨29, _⟩ => ⟨S4x4x8192x128, .f32⟩
  | .hbm, ⟨30, _⟩ => ⟨S4x4x8192x128, .f32⟩
  | .hbm, ⟨31, _⟩ => ⟨S4x4x8192x128, .f32⟩
  | .hbm, ⟨32, _⟩ => ⟨S4x8192x1x4x64, .f32⟩
  | .hbm, ⟨33, _⟩ => ⟨S4x8192x4x64, .f32⟩
  | .hbm, ⟨34, _⟩ => ⟨S4x512x16x2x128, .f32⟩
  | .hbm, ⟨35, _⟩ => ⟨S4x2x512x16x128, .f32⟩
  | .hbm, ⟨36, _⟩ => ⟨S4x2x512x2048, .f32⟩
  | .hbm, ⟨37, _⟩ => ⟨S4x2x512x2048, .bf16⟩
  | .hbm, ⟨38, _⟩ => ⟨S4x8192x1x4x64, .f32⟩
  | .hbm, ⟨39, _⟩ => ⟨S4x8192x4x64, .f32⟩
  | .hbm, ⟨40, _⟩ => ⟨S4x512x16x2x128, .f32⟩
  | .hbm, ⟨41, _⟩ => ⟨S4x2x512x16x128, .f32⟩
  | .hbm, ⟨42, _⟩ => ⟨S4x2x512x2048, .f32⟩
  | .hbm, ⟨43, _⟩ => ⟨S4x2x512x2048, .bf16⟩
  | .hbm, ⟨44, _⟩ => ⟨S4x8192x1x4x64, .f32⟩
  | .hbm, ⟨45, _⟩ => ⟨S4x8192x4x64, .f32⟩
  | .hbm, ⟨46, _⟩ => ⟨S4x4x8192x64, .f32⟩
  | .hbm, ⟨47, _⟩ => ⟨S_, .f32⟩
  | .hbm, ⟨48, _⟩ => ⟨S4x4x8192x64, .f32⟩
  | .hbm, ⟨49, _⟩ => ⟨S4x4x8192x128, .f32⟩
  | .hbm, ⟨50, _⟩ => ⟨S4x4x8192x128, .f32⟩
  | .hbm, ⟨51, _⟩ => ⟨S4x4x8192x256, .f32⟩
  | .hbm, ⟨52, _⟩ => ⟨S4x4x8192x256, .bf16⟩
  | .hbm, ⟨53, _⟩ => ⟨S4x8192x1x4x64, .f32⟩
  | .hbm, ⟨54, _⟩ => ⟨S4x8192x4x64, .f32⟩
  | .hbm, ⟨55, _⟩ => ⟨S4x4x8192x64, .f32⟩
  | .hbm, ⟨56, _⟩ => ⟨S_, .f32⟩
  | .hbm, ⟨57, _⟩ => ⟨S4x4x8192x64, .f32⟩
  | .hbm, ⟨58, _⟩ => ⟨S4x4x8192x128, .f32⟩
  | .hbm, ⟨59, _⟩ => ⟨S4x4x8192x128, .bf16⟩
  | .hbm, ⟨60, _⟩ => ⟨S4x8192x1x4x64, .f32⟩
  | .hbm, ⟨61, _⟩ => ⟨S4x8192x4x64, .f32⟩
  | .hbm, ⟨62, _⟩ => ⟨S4x4x64x8192, .f32⟩
  | .hbm, ⟨63, _⟩ => ⟨S_, .f32⟩
  | .hbm, ⟨64, _⟩ => ⟨S4x4x1x8192, .f32⟩
  | .hbm, ⟨65, _⟩ => ⟨S_, .f32⟩
  | .hbm, ⟨66, _⟩ => ⟨S4x4x15x8192, .f32⟩
  | .hbm, ⟨67, _⟩ => ⟨S4x4x80x8192, .f32⟩
  | .hbm, ⟨68, _⟩ => ⟨S4x4x80x8192, .bf16⟩
  | .hbm, ⟨69, _⟩ => ⟨S4x8192x1x4x64, .f32⟩
  | .hbm, ⟨70, _⟩ => ⟨S4x8192x4x64, .f32⟩
  | .hbm, ⟨71, _⟩ => ⟨S4x4x64x8192, .f32⟩
  | .hbm, ⟨72, _⟩ => ⟨S_, .f32⟩
  | .hbm, ⟨73, _⟩ => ⟨S4x4x1x8192, .f32⟩
  | .hbm, ⟨74, _⟩ => ⟨S_, .f32⟩
  | .hbm, ⟨75, _⟩ => ⟨S4x4x15x8192, .f32⟩
  | .hbm, ⟨76, _⟩ => ⟨S4x4x80x8192, .f32⟩
  | .hbm, ⟨77, _⟩ => ⟨S4x4x80x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Cmp.lean ====
abbrev S4x2x512x2048 : Shape := ⟨4, ![4, 2, 512, 2048]⟩
abbrev S32x64 : Shape := ⟨2, ![32, 64]⟩
abbrev S2048x256 : Shape := ⟨2, ![2048, 256]⟩
abbrev S256x64 : Shape := ⟨2, ![256, 64]⟩
abbrev S_ : Shape := ⟨0, ![]⟩
abbrev S256x128 : Shape := ⟨2, ![256, 128]⟩
abbrev S64x256 : Shape := ⟨2, ![64, 256]⟩
abbrev S80x256 : Shape := ⟨2, ![80, 256]⟩
abbrev S1024x256 : Shape := ⟨2, ![1024, 256]⟩
abbrev S1024x512 : Shape := ⟨2, ![1024, 512]⟩
abbrev S16x64x512 : Shape := ⟨3, ![16, 64, 512]⟩
abbrev S16x128x512 : Shape := ⟨3, ![16, 128, 512]⟩
abbrev S1x16x128x512 : Shape := ⟨4, ![1, 16, 128, 512]⟩
abbrev S2x16x128x512 : Shape := ⟨4, ![2, 16, 128, 512]⟩
abbrev S2x2048x512 : Shape := ⟨3, ![2, 2048, 512]⟩
abbrev S1x2048 : Shape := ⟨2, ![1, 2048]⟩
abbrev S16x2048 : Shape := ⟨2, ![16, 2048]⟩
abbrev S4x4x512x128 : Shape := ⟨4, ![4, 4, 512, 128]⟩
abbrev S4x4x80x512 : Shape := ⟨4, ![4, 4, 80, 512]⟩
abbrev S1x1x512x2048 : Shape := ⟨4, ![1, 1, 512, 2048]⟩
abbrev S1x2048x512 : Shape := ⟨3, ![1, 2048, 512]⟩
abbrev S1x1x512x128 : Shape := ⟨4, ![1, 1, 512, 128]⟩
abbrev S1x1x80x512 : Shape := ⟨4, ![1, 1, 80, 512]⟩
abbrev S512x2048 : Shape := ⟨2, ![512, 2048]⟩
abbrev S2048x512 : Shape := ⟨2, ![2048, 512]⟩
abbrev S512x512 : Shape := ⟨2, ![512, 512]⟩
abbrev S16x1024 : Shape := ⟨2, ![16, 1024]⟩
abbrev S16x256 : Shape := ⟨2, ![16, 256]⟩
abbrev S512x256 : Shape := ⟨2, ![512, 256]⟩
abbrev S1x256 : Shape := ⟨2, ![1, 256]⟩
abbrev S512x128 : Shape := ⟨2, ![512, 128]⟩
abbrev S80x512 : Shape := ⟨2, ![80, 512]⟩

abbrev nBuf : Space → Nat
  | .hbm => 59
  | .vmem => 18
  | .smem => 0
  | _ => 0

abbrev bufTy : (tb : Table) → Fin (tcTables nBuf tb) → BufTy
  | .hbm, ⟨0, _⟩ => ⟨S4x2x512x2048, .bf16⟩
  | .hbm, ⟨1, _⟩ => ⟨S4x2x512x2048, .bf16⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S_, .i32⟩
  | .hbm, ⟨9, _⟩ => ⟨S_, .f32⟩
  | .hbm, ⟨10, _⟩ => ⟨S256x128, .f32⟩
  | .hbm, ⟨11, _⟩ => ⟨S256x128, .bf16⟩
  | .hbm, ⟨12, _⟩ => ⟨S64x256, .f32⟩
  | .hbm, ⟨13, _⟩ => ⟨S_, .i32⟩
  | .hbm, ⟨14, _⟩ => ⟨S_, .f32⟩
  | .hbm, ⟨15, _⟩ => ⟨S80x256, .f32⟩
  | .hbm, ⟨16, _⟩ => ⟨S80x256, .bf16⟩
  | .hbm, ⟨17, _⟩ => ⟨S1024x256, .f32⟩
  | .hbm, ⟨18, _⟩ => ⟨S1024x256, .f32⟩
  | .hbm, ⟨19, _⟩ => ⟨S1024x512, .f32⟩
  | .hbm, ⟨20, _⟩ => ⟨S1024x512, .bf16⟩
  | .hbm, ⟨21, _⟩ => ⟨S16x64x512, .bf16⟩
  | .hbm, ⟨22, _⟩ => ⟨S_, .bf16⟩
  | .hbm, ⟨23, _⟩ => ⟨S16x64x512, .bf16⟩
  | .hbm, ⟨24, _⟩ => ⟨S16x128x512, .bf16⟩
  | .hbm, ⟨25, _⟩ => ⟨S16x128x512, .bf16⟩
  | .hbm, ⟨26, _⟩ => ⟨S1x16x128x512, .bf16⟩
  | .hbm, ⟨27, _⟩ => ⟨S1x16x128x512, .bf16⟩
  | .hbm, ⟨28, _⟩ => ⟨S2x16x128x512, .bf16⟩
  | .hbm, ⟨29, _⟩ => ⟨S2x2048x512, .bf16⟩
  | .hbm, ⟨30, _⟩ => ⟨S1024x256, .f32⟩
  | .hbm, ⟨31, _⟩ => ⟨S1024x256, .f32⟩
  | .hbm, ⟨32, _⟩ => ⟨S1024x512, .f32⟩
  | .hbm, ⟨33, _⟩ => ⟨S1024x512, .bf16⟩
  | .hbm, ⟨34, _⟩ => ⟨S16x64x512, .bf16⟩
  | .hbm, ⟨35, _⟩ => ⟨S_, .bf16⟩
  | .hbm, ⟨36, _⟩ => ⟨S16x64x512, .bf16⟩
  | .hbm, ⟨37, _⟩ => ⟨S16x128x512, .bf16⟩
  | .hbm, ⟨38, _⟩ => ⟨S16x128x512, .bf16⟩
  | .hbm, ⟨39, _⟩ => ⟨S1x16x128x512, .bf16⟩
  | .hbm, ⟨40, _⟩ => ⟨S1x16x128x512, .bf16⟩
  | .hbm, ⟨41, _⟩ => ⟨S2x16x128x512, .bf16⟩
  | .hbm, ⟨42, _⟩ => ⟨S2x2048x512, .bf16⟩
  | .hbm, ⟨43, _⟩ => ⟨S1024x256, .f32⟩
  | .hbm, ⟨44, _⟩ => ⟨S1024x256, .f32⟩
  | .hbm, ⟨45, _⟩ => ⟨S1024x512, .f32⟩
  | .hbm, ⟨46, _⟩ => ⟨S1024x512, .bf16⟩
  | .hbm, ⟨47, _⟩ => ⟨S1024x256, .f32⟩
  | .hbm, ⟨48, _⟩ => ⟨S1024x256, .f32⟩
  | .hbm, ⟨49, _⟩ => ⟨S1024x512, .f32⟩
  | .hbm, ⟨50, _⟩ => ⟨S1024x512, .bf16⟩
  | .hbm, ⟨51, _⟩ => ⟨S1x2048, .f32⟩
  | .hbm, ⟨52, _⟩ => ⟨S16x2048, .f32⟩
  | .hbm, ⟨53, _⟩ => ⟨S16x2048, .bf16⟩
  | .hbm, ⟨54, _⟩ => ⟨S1x2048, .f32⟩
  | .hbm, ⟨55, _⟩ => ⟨S16x2048, .f32⟩
  | .hbm, ⟨56, _⟩ => ⟨S16x2048, .bf16⟩
  | .hbm, ⟨57, _⟩ => ⟨S4x4x512x128, .bf16⟩
  | .hbm, ⟨58, _⟩ => ⟨S4x4x80x512, .bf16⟩
  | .local _ .vmem, ⟨0, _⟩ => ⟨S1x1x512x2048, .bf16⟩
  | .local _ .vmem, ⟨1, _⟩ => ⟨S1x1x512x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .bf16⟩
  | .local _ .vmem, ⟨9, _⟩ => ⟨S1024x512, .bf16⟩
  | .local _ .vmem, ⟨10, _⟩ => ⟨S16x2048, .bf16⟩
  | .local _ .vmem, ⟨11, _⟩ => ⟨S16x2048, .bf16⟩
  | .local _ .vmem, ⟨12, _⟩ => ⟨S256x128, .bf16⟩
  | .local _ .vmem, ⟨13, _⟩ => ⟨S80x256, .bf16⟩
  | .local _ .vmem, ⟨14, _⟩ => ⟨S1x1x512x128, .bf16⟩
  | .local _ .vmem, ⟨15, _⟩ => ⟨S1x1x512x128, .bf16⟩
  | .local _ .vmem, ⟨16, _⟩ => ⟨S1x1x80x512, .bf16⟩
  | .local _ .vmem, ⟨17, _⟩ => ⟨S1x1x80x512, .bf16⟩
  | _, _ => ⟨S4x2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S80x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x80x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== CmpRefIdeal.lean ====
abbrev S4x2x512x2048 : Shape := ⟨4, ![4, 2, 512, 2048]⟩
abbrev S32x64 : Shape := ⟨2, ![32, 64]⟩
abbrev S2048x256 : Shape := ⟨2, ![2048, 256]⟩
abbrev S256x64 : Shape := ⟨2, ![256, 64]⟩
abbrev S4x2x512x16x128 : Shape := ⟨5, ![4, 2, 512, 16, 128]⟩
abbrev S4x512x16x2x128 : Shape := ⟨5, ![4, 512, 16, 2, 128]⟩
abbrev S4x8192x4x64 : Shape := ⟨4, ![4, 8192, 4, 64]⟩
abbrev S4x512x16x4x64 : Shape := ⟨5, ![4, 512, 16, 4, 64]⟩
abbrev S4x511x16x4x64 : Shape := ⟨5, ![4, 511, 16, 4, 64]⟩
abbrev S4x511x32x4x64 : Shape := ⟨5, ![4, 511, 32, 4, 64]⟩
abbrev S1x1x32x1x64 : Shape := ⟨5, ![1, 1, 32, 1, 64]⟩
abbrev S4x511x4x32x64 : Shape := ⟨5, ![4, 511, 4, 32, 64]⟩
abbrev S4x511x4x2048 : Shape := ⟨4, ![4, 511, 4, 2048]⟩
abbrev S4x511x4x256 : Shape := ⟨4, ![4, 511, 4, 256]⟩
abbrev S_ : Shape := ⟨0, ![]⟩
abbrev S4x511x4x64 : Shape := ⟨4, ![4, 511, 4, 64]⟩
abbrev S4x4x511x64 : Shape := ⟨4, ![4, 4, 511, 64]⟩
abbrev S4x4x512x64 : Shape := ⟨4, ![4, 4, 512, 64]⟩
abbrev S4x4x64x511 : Shape := ⟨4, ![4, 4, 64, 511]⟩
abbrev S4x4x64x512 : Shape := ⟨4, ![4, 4, 64, 512]⟩
abbrev S4x4x512x128 : Shape := ⟨4, ![4, 4, 512, 128]⟩
abbrev S4x4x1x512 : Shape := ⟨4, ![4, 4, 1, 512]⟩
abbrev S4x4x15x512 : Shape := ⟨4, ![4, 4, 15, 512]⟩
abbrev S4x4x80x512 : Shape := ⟨4, ![4, 4, 80, 512]⟩

abbrev nBuf : Space → Nat
  | .hbm => 84
  | .vmem => 0
  | .smem => 0
  | _ => 0

abbrev bufTy : (tb : Table) → Fin (tcTables nBuf tb) → BufTy
  | .hbm, ⟨0, _⟩ => ⟨S4x2x512x2048, .bf16⟩
  | .hbm, ⟨1, _⟩ => ⟨S4x2x512x2048, .bf16⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S4x2x512x2048, .f32⟩
  | .hbm, ⟨9, _⟩ => ⟨S4x2x512x16x128, .f32⟩
  | .hbm, ⟨10, _⟩ => ⟨S4x512x16x2x128, .f32⟩
  | .hbm, ⟨11, _⟩ => ⟨S4x8192x4x64, .f32⟩
  | .hbm, ⟨12, _⟩ => ⟨S4x512x16x4x64, .f32⟩
  | .hbm, ⟨13, _⟩ => ⟨S4x511x16x4x64, .f32⟩
  | .hbm, ⟨14, _⟩ => ⟨S4x511x16x4x64, .f32⟩
  | .hbm, ⟨15, _⟩ => ⟨S4x511x32x4x64, .f32⟩
  | .hbm, ⟨16, _⟩ => ⟨S1x1x32x1x64, .f32⟩
  | .hbm, ⟨17, _⟩ => ⟨S4x511x32x4x64, .f32⟩
  | .hbm, ⟨18, _⟩ => ⟨S4x511x32x4x64, .f32⟩
  | .hbm, ⟨19, _⟩ => ⟨S4x511x4x32x64, .f32⟩
  | .hbm, ⟨20, _⟩ => ⟨S4x511x4x2048, .f32⟩
  | .hbm, ⟨21, _⟩ => ⟨S4x511x4x256, .f32⟩
  | .hbm, ⟨22, _⟩ => ⟨S4x511x4x256, .f32⟩
  | .hbm, ⟨23, _⟩ => ⟨S4x511x4x256, .f32⟩
  | .hbm, ⟨24, _⟩ => ⟨S_, .f32⟩
  | .hbm, ⟨25, _⟩ => ⟨S4x511x4x256, .f32⟩
  | .hbm, ⟨26, _⟩ => ⟨S4x511x4x256, .f32⟩
  | .hbm, ⟨27, _⟩ => ⟨S_, .f32⟩
  | .hbm, ⟨28, _⟩ => ⟨S4x511x4x256, .f32⟩
  | .hbm, ⟨29, _⟩ => ⟨S4x511x4x256, .f32⟩
  | .hbm, ⟨30, _⟩ => ⟨S4x511x4x256, .f32⟩
  | .hbm, ⟨31, _⟩ => ⟨S4x511x4x64, .f32⟩
  | .hbm, ⟨32, _⟩ => ⟨S4x2x512x2048, .f32⟩
  | .hbm, ⟨33, _⟩ => ⟨S4x2x512x16x128, .f32⟩
  | .hbm, ⟨34, _⟩ => ⟨S4x512x16x2x128, .f32⟩
  | .hbm, ⟨35, _⟩ => ⟨S4x8192x4x64, .f32⟩
  | .hbm, ⟨36, _⟩ => ⟨S4x512x16x4x64, .f32⟩
  | .hbm, ⟨37, _⟩ => ⟨S4x511x16x4x64, .f32⟩
  | .hbm, ⟨38, _⟩ => ⟨S4x511x16x4x64, .f32⟩
  | .hbm, ⟨39, _⟩ => ⟨S4x511x32x4x64, .f32⟩
  | .hbm, ⟨40, _⟩ => ⟨S1x1x32x1x64, .f32⟩
  | .hbm, ⟨41, _⟩ => ⟨S4x511x32x4x64, .f32⟩
  | .hbm, ⟨42, _⟩ => ⟨S4x511x32x4x64, .f32⟩
  | .hbm, ⟨43, _⟩ => ⟨S4x511x4x32x64, .f32⟩
  | .hbm, ⟨44, _⟩ => ⟨S4x511x4x2048, .f32⟩
  | .hbm, ⟨45, _⟩ => ⟨S4x511x4x256, .f32⟩
  | .hbm, ⟨46, _⟩ => ⟨S4x511x4x256, .f32⟩
  | .hbm, ⟨47, _⟩ => ⟨S4x511x4x256, .f32⟩
  | .hbm, ⟨48, _⟩ => ⟨S_, .f32⟩
  | .hbm, ⟨49, _⟩ => ⟨S4x511x4x256, .f32⟩
  | .hbm, ⟨50, _⟩ => ⟨S4x511x4x256, .f32⟩
  | .hbm, ⟨51, _⟩ => ⟨S_, .f32⟩
  | .hbm, ⟨52, _⟩ => ⟨S4x511x4x256, .f32⟩
  | .hbm, ⟨53, _⟩ => ⟨S4x511x4x256, .f32⟩
  | .hbm, ⟨54, _⟩ => ⟨S4x511x4x256, .f32⟩
  | .hbm, ⟨55, _⟩ => ⟨S4x511x4x64, .f32⟩
  | .hbm, ⟨56, _⟩ => ⟨S4x4x511x64, .f32⟩
  | .hbm, ⟨57, _⟩ => ⟨S_, .i32⟩
  | .hbm, ⟨58, _⟩ => ⟨S_, .f32⟩
  | .hbm, ⟨59, _⟩ => ⟨S4x4x512x64, .f32⟩
  | .hbm, ⟨60, _⟩ => ⟨S4x4x64x511, .f32⟩
  | .hbm, ⟨61, _⟩ => ⟨S_, .i32⟩
  | .hbm, ⟨62, _⟩ => ⟨S_, .f32⟩
  | .hbm, ⟨63, _⟩ => ⟨S4x4x64x512, .f32⟩
  | .hbm, ⟨64, _⟩ => ⟨S4x4x512x64, .i32⟩
  | .hbm, ⟨65, _⟩ => ⟨S_, .i32⟩
  | .hbm, ⟨66, _⟩ => ⟨S4x4x512x64, .i32⟩
  | .hbm, ⟨67, _⟩ => ⟨S4x4x512x64, .i32⟩
  | .hbm, ⟨68, _⟩ => ⟨S4x4x512x64, .i32⟩
  | .hbm, ⟨69, _⟩ => ⟨S4x4x512x64, .i1⟩
  | .hbm, ⟨70, _⟩ => ⟨S_, .f32⟩
  | .hbm, ⟨71, _⟩ => ⟨S_, .f32⟩
  | .hbm, ⟨72, _⟩ => ⟨S4x4x512x64, .f32⟩
  | .hbm, ⟨73, _⟩ => ⟨S4x4x512x64, .f32⟩
  | .hbm, ⟨74, _⟩ => ⟨S4x4x512x64, .f32⟩
  | .hbm, ⟨75, _⟩ => ⟨S4x4x512x64, .f32⟩
  | .hbm, ⟨76, _⟩ => ⟨S4x4x512x128, .f32⟩
  | .hbm, ⟨77, _⟩ => ⟨S_, .f32⟩
  | .hbm, ⟨78, _⟩ => ⟨S4x4x1x512, .f32⟩
  | .hbm, ⟨79, _⟩ => ⟨S_, .f32⟩
  | .hbm, ⟨80, _⟩ => ⟨S4x4x15x512, .f32⟩
  | .hbm, ⟨81, _⟩ => ⟨S4x4x80x512, .f32⟩
  | .hbm, ⟨82, _⟩ => ⟨S4x4x512x128, .bf16⟩
  | .hbm, ⟨83, _⟩ => ⟨S4x4x80x512, .bf16⟩
  | _, _ => ⟨S4x2x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c : Ref sig .tc := ⟨.hbm, 57, rfl⟩
abbrev main_call0_v0 : Ref sig .tc := ⟨.hbm, 58, rfl⟩
abbrev main_v45 : Ref sig .tc := ⟨.hbm, 59, rfl⟩
abbrev main_v46 : Ref sig .tc := ⟨.hbm, 60, rfl⟩
abbrev main_c_3 : Ref sig .tc := ⟨.hbm, 61, rfl⟩
abbrev main_call1_v0 : Ref sig .tc := ⟨.hbm, 62, rfl⟩
abbrev main_v47 : Ref sig .tc := ⟨.hbm, 63, rfl⟩
abbrev main_v48 : Ref sig .tc := ⟨.hbm, 64, rfl⟩
abbrev main_c_4 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_5 : Ref sig .tc := ⟨.hbm, 70, rfl⟩
abbrev main_cst_6 : Ref sig .tc := ⟨.hbm, 71, rfl⟩
abbrev main_call2_v0 : Ref sig .tc := ⟨.hbm, 72, rfl⟩
abbrev main_call2_v1 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Qp.lean ====
abbrev S4x8192x1024 : Shape := ⟨3, ![4, 8192, 1024]⟩
abbrev S2x1024 : Shape := ⟨2, ![2, 1024]⟩
abbrev S1x1024x1072 : Shape := ⟨3, ![1, 1024, 1072]⟩
abbrev S1024x1072 : Shape := ⟨2, ![1024, 1072]⟩
abbrev S1024x1024 : Shape := ⟨2, ![1024, 1024]⟩
abbrev S1024x48 : Shape := ⟨2, ![1024, 48]⟩
abbrev S1024x4x12 : Shape := ⟨3, ![1024, 4, 12]⟩
abbrev S_ : Shape := ⟨0, ![]⟩
abbrev S1024x4x16 : Shape := ⟨3, ![1024, 4, 16]⟩
abbrev S1024x64 : Shape := ⟨2, ![1024, 64]⟩
abbrev S64x1024 : Shape := ⟨2, ![64, 1024]⟩
abbrev S1x1024 : Shape := ⟨2, ![1, 1024]⟩
abbrev S1024 : Shape := ⟨1, ![1024]⟩
abbrev S4x1024x8192 : Shape := ⟨3, ![4, 1024, 8192]⟩
abbrev S4x64x8192 : Shape := ⟨3, ![4, 64, 8192]⟩
abbrev S1x1024x1024 : Shape := ⟨3, ![1, 1024, 1024]⟩
abbrev S1x64x1024 : Shape := ⟨3, ![1, 64, 1024]⟩
abbrev S1024x1 : Shape := ⟨2, ![1024, 1]⟩

abbrev nBuf : Space → Nat
  | .hbm => 20
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S1x1024x1072, .f32⟩
  | .hbm, ⟨3, _⟩ => ⟨S1024x1072, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x48, .f32⟩
  | .hbm, ⟨8, _⟩ => ⟨S1024x4x12, .f32⟩
  | .hbm, ⟨9, _⟩ => ⟨S_, .i32⟩
  | .hbm, ⟨10, _⟩ => ⟨S_, .f32⟩
  | .hbm, ⟨11, _⟩ => ⟨S1024x4x16, .f32⟩
  | .hbm, ⟨12, _⟩ => ⟨S1024x64, .f32⟩
  | .hbm, ⟨13, _⟩ => ⟨S64x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S64x1024, .bf16⟩
  | .hbm, ⟨18, _⟩ => ⟨S4x1024x8192, .bf16⟩
  | .hbm, ⟨19, _⟩ => ⟨S4x64x8192, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S64x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x64x1024, .f32⟩
  | .local _ .vmem, ⟨8, _⟩ => ⟨S1x64x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QpRefIdeal.lean ====
abbrev S4x8192x1024 : Shape := ⟨3, ![4, 8192, 1024]⟩
abbrev S2x1024 : Shape := ⟨2, ![2, 1024]⟩
abbrev S1x1024x1072 : Shape := ⟨3, ![1, 1024, 1072]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x1072 : Shape := ⟨2, ![1024, 1072]⟩
abbrev S4x8192x1072 : Shape := ⟨3, ![4, 8192, 1072]⟩
abbrev S4x8192x48 : Shape := ⟨3, ![4, 8192, 48]⟩
abbrev S4x8192x4x12 : Shape := ⟨4, ![4, 8192, 4, 12]⟩
abbrev S4x1024x8192 : Shape := ⟨3, ![4, 1024, 8192]⟩
abbrev S4x4x4x8192 : Shape := ⟨4, ![4, 4, 4, 8192]⟩
abbrev S4x4x12x8192 : Shape := ⟨4, ![4, 4, 12, 8192]⟩
abbrev S4x4x16x8192 : Shape := ⟨4, ![4, 4, 16, 8192]⟩
abbrev S4x64x8192 : Shape := ⟨3, ![4, 64, 8192]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S1x1024x1072, .f32⟩
  | .hbm, ⟨3, _⟩ => ⟨S1x1024, .f32⟩
  | .hbm, ⟨4, _⟩ => ⟨S1024, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S1024x1072, .f32⟩
  | .hbm, ⟨22, _⟩ => ⟨S4x8192x1072, .f32⟩
  | .hbm, ⟨23, _⟩ => ⟨S4x8192x1024, .f32⟩
  | .hbm, ⟨24, _⟩ => ⟨S_, .f32⟩
  | .hbm, ⟨25, _⟩ => ⟨S4x8192x1024, .f32⟩
  | .hbm, ⟨26, _⟩ => ⟨S4x8192x1024, .f32⟩
  | .hbm, ⟨27, _⟩ => ⟨S4x8192x48, .f32⟩
  | .hbm, ⟨28, _⟩ => ⟨S4x8192x48, .f32⟩
  | .hbm, ⟨29, _⟩ => ⟨S4x8192x48, .f32⟩
  | .hbm, ⟨30, _⟩ => ⟨S_, .f32⟩
  | .hbm, ⟨31, _⟩ => ⟨S4x8192x48, .f32⟩
  | .hbm, ⟨32, _⟩ => ⟨S4x8192x48, .f32⟩
  | .hbm, ⟨33, _⟩ => ⟨S_, .f32⟩
  | .hbm, ⟨34, _⟩ => ⟨S4x8192x48, .f32⟩
  | .hbm, ⟨35, _⟩ => ⟨S4x8192x48, .f32⟩
  | .hbm, ⟨36, _⟩ => ⟨S4x8192x4x12, .f32⟩
  | .hbm, ⟨37, _⟩ => ⟨S4x1024x8192, .f32⟩
  | .hbm, ⟨38, _⟩ => ⟨S4x1024x8192, .bf16⟩
  | .hbm, ⟨39, _⟩ => ⟨S_, .f32⟩
  | .hbm, ⟨40, _⟩ => ⟨S4x4x4x8192, .f32⟩
  | .hbm, ⟨41, _⟩ => ⟨S4x4x12x8192, .f32⟩
  | .hbm, ⟨42, _⟩ => ⟨S4x4x16x8192, .f32⟩
  | .hbm, ⟨43, _⟩ => ⟨S4x64x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Attn.lean ====
abbrev S4x1024x8192 : Shape := ⟨3, ![4, 1024, 8192]⟩
abbrev S4x64x8192 : Shape := ⟨3, ![4, 64, 8192]⟩
abbrev S4x4x512x128 : Shape := ⟨4, ![4, 4, 512, 128]⟩
abbrev S4x4x80x512 : Shape := ⟨4, ![4, 4, 80, 512]⟩
abbrev S4x4x8192x256 : Shape := ⟨4, ![4, 4, 8192, 256]⟩
abbrev S4x4x80x8192 : Shape := ⟨4, ![4, 4, 80, 8192]⟩
abbrev S4x4x8192x128 : Shape := ⟨4, ![4, 4, 8192, 128]⟩
abbrev S4x1152x512 : Shape := ⟨3, ![4, 1152, 512]⟩
abbrev S4x64x512 : Shape := ⟨3, ![4, 64, 512]⟩
abbrev S4x8192x1024 : Shape := ⟨3, ![4, 8192, 1024]⟩
abbrev S1x256x128 : Shape := ⟨3, ![1, 256, 128]⟩
abbrev S1x16x128 : Shape := ⟨3, ![1, 16, 128]⟩
abbrev S1x1x512x128 : Shape := ⟨4, ![1, 1, 512, 128]⟩
abbrev S1x1x80x512 : Shape := ⟨4, ![1, 1, 80, 512]⟩
abbrev S1x1x8192x256 : Shape := ⟨4, ![1, 1, 8192, 256]⟩
abbrev S1x1x80x8192 : Shape := ⟨4, ![1, 1, 80, 8192]⟩
abbrev S1x1x8192x128 : Shape := ⟨4, ![1, 1, 8192, 128]⟩
abbrev S1x1152x512 : Shape := ⟨3, ![1, 1152, 512]⟩
abbrev S1x64x512 : Shape := ⟨3, ![1, 64, 512]⟩
abbrev S1x128x256 : Shape := ⟨3, ![1, 128, 256]⟩
abbrev S256x512 : Shape := ⟨2, ![256, 512]⟩
abbrev S512x256 : Shape := ⟨2, ![512, 256]⟩
abbrev S528x128 : Shape := ⟨2, ![528, 128]⟩
abbrev S80x512 : Shape := ⟨2, ![80, 512]⟩
abbrev S8x512 : Shape := ⟨2, ![8, 512]⟩
abbrev S128x128 : Shape := ⟨2, ![128, 128]⟩
abbrev S1x64x128 : Shape := ⟨3, ![1, 64, 128]⟩
abbrev S64x128 : Shape := ⟨2, ![64, 128]⟩
abbrev S64x512 : Shape := ⟨2, ![64, 512]⟩
abbrev S512x128 : Shape := ⟨2, ![512, 128]⟩
abbrev S512x512 : Shape := ⟨2, ![512, 512]⟩
abbrev S1x1x640x128 : Shape := ⟨4, ![1, 1, 640, 128]⟩
abbrev S640x128 : Shape := ⟨2, ![640, 128]⟩
abbrev S128x512 : Shape := ⟨2, ![128, 512]⟩
abbrev S640x512 : Shape := ⟨2, ![640, 512]⟩
abbrev S1x640x512 : Shape := ⟨3, ![1, 640, 512]⟩
abbrev S1x1x256x128 : Shape := ⟨4, ![1, 1, 256, 128]⟩
abbrev S256x128 : Shape := ⟨2, ![256, 128]⟩
abbrev S1x256x512 : Shape := ⟨3, ![1, 256, 512]⟩
abbrev S512 : Shape := ⟨1, ![512]⟩
abbrev S1x512 : Shape := ⟨2, ![1, 512]⟩
abbrev S1x1x80x640 : Shape := ⟨4, ![1, 1, 80, 640]⟩
abbrev S80x640 : Shape := ⟨2, ![80, 640]⟩
abbrev S8x128 : Shape := ⟨2, ![8, 128]⟩
abbrev S128 : Shape := ⟨1, ![128]⟩
abbrev S1x128 : Shape := ⟨2, ![1, 128]⟩
abbrev S1x1x80x256 : Shape := ⟨4, ![1, 1, 80, 256]⟩
abbrev S80x256 : Shape := ⟨2, ![80, 256]⟩
abbrev S1x1x1024x256 : Shape := ⟨4, ![1, 1, 1024, 256]⟩
abbrev S1024x256 : Shape := ⟨2, ![1024, 256]⟩
abbrev S1x1x80x1024 : Shape := ⟨4, ![1, 1, 80, 1024]⟩
abbrev S80x1024 : Shape := ⟨2, ![80, 1024]⟩
abbrev S1024x512 : Shape := ⟨2, ![1024, 512]⟩
abbrev S1x1x512 : Shape := ⟨3, ![1, 1, 512]⟩
abbrev S1 : Shape := ⟨1, ![1]⟩
abbrev S1x1x1 : Shape := ⟨3, ![1, 1, 1]⟩
abbrev S1x1x128 : Shape := ⟨3, ![1, 1, 128]⟩
abbrev S1x128x128 : Shape := ⟨3, ![1, 128, 128]⟩
abbrev S1x1x256x256 : Shape := ⟨4, ![1, 1, 256, 256]⟩
abbrev S256x256 : Shape := ⟨2, ![256, 256]⟩

abbrev nBuf : Space → Nat
  | .hbm => 11
  | .vmem => 30
  | .smem => 0
  | _ => 0

abbrev bufTy : (tb : Table) → Fin (tcTables nBuf tb) → BufTy
  | .hbm, ⟨0, _⟩ => ⟨S4x1024x8192, .bf16⟩
  | .hbm, ⟨1, _⟩ => ⟨S4x64x8192, .f32⟩
  | .hbm, ⟨2, _⟩ => ⟨S4x4x512x128, .bf16⟩
  | .hbm, ⟨3, _⟩ => ⟨S4x4x80x512, .bf16⟩
  | .hbm, ⟨4, _⟩ => ⟨S4x4x8192x256, .bf16⟩
  | .hbm, ⟨5, _⟩ => ⟨S4x4x80x8192, .bf16⟩
  | .hbm, ⟨6, _⟩ => ⟨S4x4x8192x128, .bf16⟩
  | .hbm, ⟨7, _⟩ => ⟨S4x4x80x8192, .bf16⟩
  | .hbm, ⟨8, _⟩ => ⟨S4x1152x512, .f32⟩
  | .hbm, ⟨9, _⟩ => ⟨S4x64x512, .bf16⟩
  | .hbm, ⟨10, _⟩ => ⟨S4x8192x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x16x128, .f32⟩
  | .local _ .vmem, ⟨3, _⟩ => ⟨S1x16x128, .f32⟩
  | .local _ .vmem, ⟨4, _⟩ => ⟨S1x1x512x128, .bf16⟩
  | .local _ .vmem, ⟨5, _⟩ => ⟨S1x1x512x128, .bf16⟩
  | .local _ .vmem, ⟨6, _⟩ => ⟨S1x1x80x512, .bf16⟩
  | .local _ .vmem, ⟨7, _⟩ => ⟨S1x1x80x512, .bf16⟩
  | .local _ .vmem, ⟨8, _⟩ => ⟨S1x1x8192x256, .bf16⟩
  | .local _ .vmem, ⟨9, _⟩ => ⟨S1x1x8192x256, .bf16⟩
  | .local _ .vmem, ⟨10, _⟩ => ⟨S1x1x80x8192, .bf16⟩
  | .local _ .vmem, ⟨11, _⟩ => ⟨S1x1x80x8192, .bf16⟩
  | .local _ .vmem, ⟨12, _⟩ => ⟨S1x1x8192x128, .bf16⟩
  | .local _ .vmem, ⟨13, _⟩ => ⟨S1x1x8192x128, .bf16⟩
  | .local _ .vmem, ⟨14, _⟩ => ⟨S1x1x80x8192, .bf16⟩
  | .local _ .vmem, ⟨15, _⟩ => ⟨S1x1x80x8192, .bf16⟩
  | .local _ .vmem, ⟨16, _⟩ => ⟨S1x1152x512, .f32⟩
  | .local _ .vmem, ⟨17, _⟩ => ⟨S1x1152x512, .f32⟩
  | .local _ .vmem, ⟨18, _⟩ => ⟨S1x64x512, .bf16⟩
  | .local _ .vmem, ⟨19, _⟩ => ⟨S1x64x512, .bf16⟩
  | .local _ .vmem, ⟨20, _⟩ => ⟨S1x128x256, .bf16⟩
  | .local _ .vmem, ⟨21, _⟩ => ⟨S1x128x256, .bf16⟩
  | .local _ .vmem, ⟨22, _⟩ => ⟨S256x512, .bf16⟩
  | .local _ .vmem, ⟨23, _⟩ => ⟨S256x512, .bf16⟩
  | .local _ .vmem, ⟨24, _⟩ => ⟨S512x256, .bf16⟩
  | .local _ .vmem, ⟨25, _⟩ => ⟨S528x128, .f32⟩
  | .local _ .vmem, ⟨26, _⟩ => ⟨S80x512, .f32⟩
  | .local _ .vmem, ⟨27, _⟩ => ⟨S8x512, .f32⟩
  | .local _ .vmem, ⟨28, _⟩ => ⟨S8x512, .f32⟩
  | .local _ .vmem, ⟨29, _⟩ => ⟨S128x128, .f32⟩
  | _, _ => ⟨S4x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 4, 64], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  v0
def k0_mult2 (i : grid0.Coords) : BitVec 32 :=
  let arg2 : BitVec 32 := BitVec.ofNat 32 (i 2).val
  let c128_i32 : BitVec 32 := 128#32
  let v0 : BitVec 32 := Scalar.muli arg2 c128_i32
  let v1 : BitVec 32 := v0
  let c512_i32 : BitVec 32 := 512#32
  let v72 : BitVec 32 := Scalar.subi v1 c512_i32
  let c0_i32_38 : BitVec 32 := 0#32
  let v73 : BitVec 32 := Scalar.maxsi v72 c0_i32_38
  v73
def k0_off1 (i : grid0.Coords) : Fin 4 → Nat :=
  let c0_39 : Index := 0#32
  let c0_40 : Index := 0#32
  let arg2 : BitVec 32 := BitVec.ofNat 32 (i 2).val
  let c128_i32 : BitVec 32 := 128#32
  let v0 : BitVec 32 := Scalar.muli arg2 c128_i32
  let v1 : BitVec 32 := v0
  let c512_i32 : BitVec 32 := 512#32
  let v72 : BitVec 32 := Scalar.subi v1 c512_i32
  let c0_i32_38 : BitVec 32 := 0#32
  let v73 : BitVec 32 := Scalar.maxsi v72 c0_i32_38
  let v74 : BitVec 32 := v73
  let v75 : Index := Scalar.indexCast v74
  let c0_41 : Index := 0#32
  ![0, 0, v75.toNat, 0]
def k0_mult3 (i : grid0.Coords) : BitVec 32 :=
  let arg2 : BitVec 32 := BitVec.ofNat 32 (i 2).val
  let c128_i32 : BitVec 32 := 128#32
  let v0 : BitVec 32 := Scalar.muli arg2 c128_i32
  let v1 : BitVec 32 := v0
  let c512_i32 : BitVec 32 := 512#32
  let v72 : BitVec 32 := Scalar.subi v1 c512_i32
  let c0_i32_38 : BitVec 32 := 0#32
  let v73 : BitVec 32 := Scalar.maxsi v72 c0_i32_38
  let v74 : BitVec 32 := v73
  let c512_i32_45 : BitVec 32 := 512#32
  let v80 : BitVec 32 := Scalar.subi v1 c512_i32_45
  let v81 : BitVec 32 := Scalar.subi v74 v80
  v81
def k0_off2 (i : grid0.Coords) : Fin 3 → Nat :=
  let c0_46 : Index := 0#32
  let arg2 : BitVec 32 := BitVec.ofNat 32 (i 2).val
  let c128_i32 : BitVec 32 := 128#32
  let v0 : BitVec 32 := Scalar.muli arg2 c128_i32
  let v1 : BitVec 32 := v0
  let c512_i32 : BitVec 32 := 512#32
  let v72 : BitVec 32 := Scalar.subi v1 c512_i32
  let c0_i32_38 : BitVec 32 := 0#32
  let v73 : BitVec 32 := Scalar.maxsi v72 c0_i32_38
  let v74 : BitVec 32 := v73
  let c512_i32_45 : BitVec 32 := 512#32
  let v80 : BitVec 32 := Scalar.subi v1 c512_i32_45
  let v81 : BitVec 32 := Scalar.subi v74 v80
  let v82 : BitVec 32 := v81
  let v83 : Index := Scalar.indexCast v82
  let c0_47 : Index := 0#32
  ![0, v83.toNat, 0]
def k0_mult4 (i : grid0.Coords) : BitVec 32 :=
  let arg2 : BitVec 32 := BitVec.ofNat 32 (i 2).val
  let c128_i32 : BitVec 32 := 128#32
  let v0 : BitVec 32 := Scalar.muli arg2 c128_i32
  let v1 : BitVec 32 := v0
  let c128_i32_48 : BitVec 32 := 128#32
  let v87 : BitVec 32 := Scalar.subi v1 c128_i32_48
  let c0_i32_49 : BitVec 32 := 0#32
  let v88 : BitVec 32 := Scalar.maxsi v87 c0_i32_49
  v88
def k0_off3 (i : grid0.Coords) : Fin 4 → Nat :=
  let c0_50 : Index := 0#32
  let c0_51 : Index := 0#32
  let arg2 : BitVec 32 := BitVec.ofNat 32 (i 2).val
  let c128_i32 : BitVec 32 := 128#32
  let v0 : BitVec 32 := Scalar.muli arg2 c128_i32
  let v1 : BitVec 32 := v0
  let c128_i32_48 : BitVec 32 := 128#32
  let v87 : BitVec 32 := Scalar.subi v1 c128_i32_48
  let c0_i32_49 : BitVec 32 := 0#32
  let v88 : BitVec 32 := Scalar.maxsi v87 c0_i32_49
  let v89 : BitVec 32 := v88
  let v90 : Index := Scalar.indexCast v89
  let c0_52 : Index := 0#32
  ![0, 0, v90.toNat, 0]
def k0_mult5 (i : grid0.Coords) : BitVec 32 :=
  let arg2 : BitVec 32 := BitVec.ofNat 32 (i 2).val
  let c128_i32 : BitVec 32 := 128#32
  let v0 : BitVec 32 := Scalar.muli arg2 c128_i32
  let v1 : BitVec 32 := v0
  let c128_i32_48 : BitVec 32 := 128#32
  let v87 : BitVec 32 := Scalar.subi v1 c128_i32_48
  let c0_i32_49 : BitVec 32 := 0#32
  let v88 : BitVec 32 := Scalar.maxsi v87 c0_i32_49
  let v89 : BitVec 32 := v88
  let c512_i32_56 : BitVec 32 := 512#32
  let v95 : BitVec 32 := Scalar.subi v1 c512_i32_56
  let v96 : BitVec 32 := Scalar.subi v89 v95
  v96
def k0_off4 (i : grid0.Coords) : Fin 3 → Nat :=
  let c0_57 : Index := 0#32
  let arg2 : BitVec 32 := BitVec.ofNat 32 (i 2).val
  let c128_i32 : BitVec 32 := 128#32
  let v0 : BitVec 32 := Scalar.muli arg2 c128_i32
  let v1 : BitVec 32 := v0
  let c128_i32_48 : BitVec 32 := 128#32
  let v87 : BitVec 32 := Scalar.subi v1 c128_i32_48
  let c0_i32_49 : BitVec 32 := 0#32
  let v88 : BitVec 32 := Scalar.maxsi v87 c0_i32_49
  let v89 : BitVec 32 := v88
  let c512_i32_56 : BitVec 32 := 512#32
  let v95 : BitVec 32 := Scalar.subi v1 c512_i32_56
  let v96 : BitVec 32 := Scalar.subi v89 v95
  let v97 : BitVec 32 := v96
  let v98 : Index := Scalar.indexCast v97
  let c0_58 : Index := 0#32
  ![0, v98.toNat, 0]
def k0_off5 (i : grid0.Coords) : Fin 4 → Nat :=
  let c0_70 : Index := 0#32
  let c0_71 : Index := 0#32
  let c0_72 : Index := 0#32
  let arg2 : BitVec 32 := BitVec.ofNat 32 (i 2).val
  let c128_i32 : BitVec 32 := 128#32
  let v0 : BitVec 32 := Scalar.muli arg2 c128_i32
  let v1 : BitVec 32 := v0
  let c512_i32 : BitVec 32 := 512#32
  let v72 : BitVec 32 := Scalar.subi v1 c512_i32
  let c0_i32_38 : BitVec 32 := 0#32
  let v73 : BitVec 32 := Scalar.maxsi v72 c0_i32_38
  let v74 : BitVec 32 := v73
  let v127 : Index := Scalar.indexCast v74
  ![0, 0, 0, v127.toNat]
def k0_off6 (i : grid0.Coords) (c0_i32_196 : BitVec 32) : Fin 2 → Nat :=
  let arg2 : BitVec 32 := BitVec.ofNat 32 (i 2).val
  let c128_i32 : BitVec 32 := 128#32
  let v0 : BitVec 32 := Scalar.muli arg2 c128_i32
  let v1 : BitVec 32 := v0
  let c128_i32_48 : BitVec 32 := 128#32
  let v87 : BitVec 32 := Scalar.subi v1 c128_i32_48
  let c0_i32_49 : BitVec 32 := 0#32
  let v88 : BitVec 32 := Scalar.maxsi v87 c0_i32_49
  let v89 : BitVec 32 := v88
  let c0_i32_190 : BitVec 32 := 0#32
  let v414 : BitVec 1 := Scalar.cmpi .sgt v89 c0_i32_190
  let v415 : BitVec 32 := Scalar.extui v414
  let c0_i32_191 : BitVec 32 := 0#32
  let v416 : BitVec 1 := Scalar.cmpi .slt v89 c0_i32_191
  let v417 : BitVec 32 := Scalar.extui v416
  let v418 : BitVec 32 := Scalar.subi v415 v417
  let c64_i32_189 : BitVec 32 := 64#32
  let c0_i32_192 : BitVec 32 := 0#32
  let v419 : BitVec 1 := Scalar.cmpi .sgt c64_i32_189 c0_i32_192
  let v420 : BitVec 32 := Scalar.extui v419
  let c0_i32_193 : BitVec 32 := 0#32
  let v421 : BitVec 1 := Scalar.cmpi .slt c64_i32_189 c0_i32_193
  let v422 : BitVec 32 := Scalar.extui v421
  let v423 : BitVec 32 := Scalar.subi v420 v422
  let v424 : BitVec 1 := Scalar.cmpi .ne v418 v423
  let v425 : BitVec 32 := Scalar.remsi v89 c64_i32_189
  let c0_i32_194 : BitVec 32 := 0#32
  let v426 : BitVec 1 := Scalar.cmpi .ne v425 c0_i32_194
  let v427 : BitVec 1 := Scalar.andi v424 v426
  let v413 : BitVec 32 := Scalar.divsi v89 c64_i32_189
  let c1_i32_195 : BitVec 32 := 1#32
  let v428 : BitVec 32 := Scalar.subi v413 c1_i32_195
  let v429 : BitVec 32 := Scalar.select v427 v428 v413
  let v430 : BitVec 32 := Scalar.addi v429 c0_i32_196
  let v431 : Index := Scalar.indexCast v430
  let c0_197 : Index := 0#32
  ![v431.toNat, 0]
def k0_off7 (i : grid0.Coords) : Fin 4 → Nat :=
  let c0_205 : Index := 0#32
  let c0_206 : Index := 0#32
  let c0_207 : Index := 0#32
  let arg2 : BitVec 32 := BitVec.ofNat 32 (i 2).val
  let c128_i32 : BitVec 32 := 128#32
  let v0 : BitVec 32 := Scalar.muli arg2 c128_i32
  let v1 : BitVec 32 := v0
  let c128_i32_48 : BitVec 32 := 128#32
  let v87 : BitVec 32 := Scalar.subi v1 c128_i32_48
  let c0_i32_49 : BitVec 32 := 0#32
  let v88 : BitVec 32 := Scalar.maxsi v87 c0_i32_49
  let v89 : BitVec 32 := v88
  let v458 : Index := Scalar.indexCast v89
  ![0, 0, 0, v458.toNat]
@[reducible] def k0_t1_loop (i : grid0.Coords) : Scf.Loop 32 :=
  let c0_i32_229 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_223 : BitVec 32 := 0#32
  let v486 : BitVec 1 := Scalar.cmpi .sgt v404 c0_i32_223
  let v487 : BitVec 32 := Scalar.extui v486
  let c0_i32_224 : BitVec 32 := 0#32
  let v488 : BitVec 1 := Scalar.cmpi .slt v404 c0_i32_224
  let v489 : BitVec 32 := Scalar.extui v488
  let v490 : BitVec 32 := Scalar.subi v487 v489
  let c4_i32_222 : BitVec 32 := 4#32
  let c0_i32_225 : BitVec 32 := 0#32
  let v491 : BitVec 1 := Scalar.cmpi .sgt c4_i32_222 c0_i32_225
  let v492 : BitVec 32 := Scalar.extui v491
  let c0_i32_226 : BitVec 32 := 0#32
  let v493 : BitVec 1 := Scalar.cmpi .slt c4_i32_222 c0_i32_226
  let v494 : BitVec 32 := Scalar.extui v493
  let v495 : BitVec 32 := Scalar.subi v492 v494
  let v496 : BitVec 1 := Scalar.cmpi .ne v490 v495
  let v497 : BitVec 32 := Scalar.remsi v404 c4_i32_222
  let c0_i32_227 : BitVec 32 := 0#32
  let v498 : BitVec 1 := Scalar.cmpi .ne v497 c0_i32_227
  let v499 : BitVec 1 := Scalar.andi v496 v498
  let v485 : BitVec 32 := Scalar.divsi v404 c4_i32_222
  let c1_i32_228 : BitVec 32 := 1#32
  let v500 : BitVec 32 := Scalar.subi v485 c1_i32_228
  let v501 : BitVec 32 := Scalar.select v499 v500 v485
  let v502 : BitVec 32 := Scalar.subi v501 c0_i32_229
  let c1_i32_231 : BitVec 32 := 1#32
  let v504 : BitVec 32 := Scalar.divsi v502 c1_i32_231
  let v505 : BitVec 32 := Scalar.muli v504 c1_i32_231
  let v506 : BitVec 32 := Scalar.addi c0_i32_229 v505
  let c1_i32_232 : BitVec 32 := 1#32
  ⟨c0_i32_229, v506, c1_i32_232⟩
def k0_mult6 (i : grid0.Coords) (k0_t1 : Fin (k0_t1_loop i).trips) : BitVec 32 :=
  let c4_i32_311 : BitVec 32 := 4#32
  let c0_i32_229 : BitVec 32 := 0#32
  let c1_i32_232 : BitVec 32 := 1#32
  let arg22 : BitVec 32 := Scf.iv c0_i32_229 c1_i32_232 k0_t1
  let v667 : BitVec 32 := Scalar.muli c4_i32_311 arg22
  let c1024_i32 : BitVec 32 := 1024#32
  let v676 : BitVec 32 := Scalar.muli v667 c1024_i32
  v676
def k0_off8 (i : grid0.Coords) (k0_t1 : Fin (k0_t1_loop i).trips) : Fin 4 → Nat :=
  let c0_322 : Index := 0#32
  let c0_323 : Index := 0#32
  let c4_i32_311 : BitVec 32 := 4#32
  let c0_i32_229 : BitVec 32 := 0#32
  let c1_i32_232 : BitVec 32 := 1#32
  let arg22 : BitVec 32 := Scf.iv c0_i32_229 c1_i32_232 k0_t1
  let v667 : BitVec 32 := Scalar.muli c4_i32_311 arg22
  let c1024_i32 : BitVec 32 := 1024#32
  let v676 : BitVec 32 := Scalar.muli v667 c1024_i32
  let v677 : BitVec 32 := v676
  let v678 : Index := Scalar.indexCast v677
  let c0_324 : Index := 0#32
  ![0, 0, v678.toNat, 0]
def k0_off9 (i : grid0.Coords) (k0_t1 : Fin (k0_t1_loop i).trips) : Fin 4 → Nat :=
  let c0_325 : Index := 0#32
  let c0_326 : Index := 0#32
  let c0_327 : Index := 0#32
  let c4_i32_311 : BitVec 32 := 4#32
  let c0_i32_229 : BitVec 32 := 0#32
  let c1_i32_232 : BitVec 32 := 1#32
  let arg22 : BitVec 32 := Scf.iv c0_i32_229 c1_i32_232 k0_t1
  let v667 : BitVec 32 := Scalar.muli c4_i32_311 arg22
  let c1024_i32 : BitVec 32 := 1024#32
  let v676 : BitVec 32 := Scalar.muli v667 c1024_i32
  let v677 : BitVec 32 := v676
  let v681 : Index := Scalar.indexCast v677
  ![0, 0, 0, v681.toNat]
def k0_mult7 (i : grid0.Coords) (k0_t1 : Fin (k0_t1_loop i).trips) : BitVec 32 :=
  let c4_i32_312 : BitVec 32 := 4#32
  let c0_i32_229 : BitVec 32 := 0#32
  let c1_i32_232 : BitVec 32 := 1#32
  let arg22 : BitVec 32 := Scf.iv c0_i32_229 c1_i32_232 k0_t1
  let v668 : BitVec 32 := Scalar.muli c4_i32_312 arg22
  let c1_i32_313 : BitVec 32 := 1#32
  let v669 : BitVec 32 := Scalar.addi v668 c1_i32_313
  let c1024_i32_333 : BitVec 32 := 1024#32
  let v695 : BitVec 32 := Scalar.muli v669 c1024_i32_333
  v695
def k0_off10 (i : grid0.Coords) (k0_t1 : Fin (k0_t1_loop i).trips) (c1_i32_313 : BitVec 32) : Fin 4 → Nat :=
  let c0_334 : Index := 0#32
  let c0_335 : Index := 0#32
  let c4_i32_312 : BitVec 32 := 4#32
  let c0_i32_229 : BitVec 32 := 0#32
  let c1_i32_232 : BitVec 32 := 1#32
  let arg22 : BitVec 32 := Scf.iv c0_i32_229 c1_i32_232 k0_t1
  let v668 : BitVec 32 := Scalar.muli c4_i32_312 arg22
  let v669 : BitVec 32 := Scalar.addi v668 c1_i32_313
  let c1024_i32_333 : BitVec 32 := 1024#32
  let v695 : BitVec 32 := Scalar.muli v669 c1024_i32_333
  let v696 : BitVec 32 := v695
  let v697 : Index := Scalar.indexCast v696
  let c0_336 : Index := 0#32
  ![0, 0, v697.toNat, 0]
def k0_off11 (i : grid0.Coords) (k0_t1 : Fin (k0_t1_loop i).trips) (c1_i32_313 : BitVec 32) : Fin 4 → Nat :=
  let c0_337 : Index := 0#32
  let c0_338 : Index := 0#32
  let c0_339 : Index := 0#32
  let c4_i32_312 : BitVec 32 := 4#32
  let c0_i32_229 : BitVec 32 := 0#32
  let c1_i32_232 : BitVec 32 := 1#32
  let arg22 : BitVec 32 := Scf.iv c0_i32_229 c1_i32_232 k0_t1
  let v668 : BitVec 32 := Scalar.muli c4_i32_312 arg22
  let v669 : BitVec 32 := Scalar.addi v668 c1_i32_313
  let c1024_i32_333 : BitVec 32 := 1024#32
  let v695 : BitVec 32 := Scalar.muli v669 c1024_i32_333
  let v696 : BitVec 32 := v695
  let v700 : Index := Scalar.indexCast v696
  ![0, 0, 0, v700.toNat]
def k0_mult8 (i : grid0.Coords) (k0_t1 : Fin (k0_t1_loop i).trips) : BitVec 32 :=
  let c4_i32_314 : BitVec 32 := 4#32
  let c0_i32_229 : BitVec 32 := 0#32
  let c1_i32_232 : BitVec 32 := 1#32
  let arg22 : BitVec 32 := Scf.iv c0_i32_229 c1_i32_232 k0_t1
  let v670 : BitVec 32 := Scalar.muli c4_i32_314 arg22
  let c2_i32_315 : BitVec 32 := 2#32
  let v671 : BitVec 32 := Scalar.addi v670 c2_i32_315
  let c1024_i32_345 : BitVec 32 := 1024#32
  let v714 : BitVec 32 := Scalar.muli v671 c1024_i32_345
  v714
def k0_mult9 (i : grid0.Coords) (k0_t1 : Fin (k0_t1_loop i).trips) : BitVec 32 :=
  let c4_i32_316 : BitVec 32 := 4#32
  let c0_i32_229 : BitVec 32 := 0#32
  let c1_i32_232 : BitVec 32 := 1#32
  let arg22 : BitVec 32 := Scf.iv c0_i32_229 c1_i32_232 k0_t1
  let v672 : BitVec 32 := Scalar.muli c4_i32_316 arg22
  let c3_i32_317 : BitVec 32 := 3#32
  let v673 : BitVec 32 := Scalar.addi v672 c3_i32_317
  let c1024_i32_357 : BitVec 32 := 1024#32
  let v733 : BitVec 32 := Scalar.muli v673 c1024_i32_357
  v733
@[reducible] def k0_t2_loop (i : grid0.Coords) : Scf.Loop 32 :=
  let c0_i32_229 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_223 : BitVec 32 := 0#32
  let v486 : BitVec 1 := Scalar.cmpi .sgt v404 c0_i32_223
  let v487 : BitVec 32 := Scalar.extui v486
  let c0_i32_224 : BitVec 32 := 0#32
  let v488 : BitVec 1 := Scalar.cmpi .slt v404 c0_i32_224
  let v489 : BitVec 32 := Scalar.extui v488
  let v490 : BitVec 32 := Scalar.subi v487 v489
  let c4_i32_222 : BitVec 32 := 4#32
  let c0_i32_225 : BitVec 32 := 0#32
  let v491 : BitVec 1 := Scalar.cmpi .sgt c4_i32_222 c0_i32_225
  let v492 : BitVec 32 := Scalar.extui v491
  let c0_i32_226 : BitVec 32 := 0#32
  let v493 : BitVec 1 := Scalar.cmpi .slt c4_i32_222 c0_i32_226
  let v494 : BitVec 32 := Scalar.extui v493
  let v495 : BitVec 32 := Scalar.subi v492 v494
  let v496 : BitVec 1 := Scalar.cmpi .ne v490 v495
  let v497 : BitVec 32 := Scalar.remsi v404 c4_i32_222
  let c0_i32_227 : BitVec 32 := 0#32
  let v498 : BitVec 1 := Scalar.cmpi .ne v497 c0_i32_227
  let v499 : BitVec 1 := Scalar.andi v496 v498
  let v485 : BitVec 32 := Scalar.divsi v404 c4_i32_222
  let c1_i32_228 : BitVec 32 := 1#32
  let v500 : BitVec 32 := Scalar.subi v485 c1_i32_228
  let v501 : BitVec 32 := Scalar.select v499 v500 v485
  let v502 : BitVec 32 := Scalar.subi v501 c0_i32_229
  let c1_i32_231 : BitVec 32 := 1#32
  let v504 : BitVec 32 := Scalar.divsi v502 c1_i32_231
  let v505 : BitVec 32 := Scalar.muli v504 c1_i32_231
  let v506 : BitVec 32 := Scalar.addi c0_i32_229 v505
  let v503 : BitVec 32 := Scalar.addi c0_i32_229 v502
  let c1_i32_233 : BitVec 32 := 1#32
  ⟨v506, v503, c1_i32_233⟩
def k0_mult10 (i : grid0.Coords) (k0_t2 : Fin (k0_t2_loop i).trips) : BitVec 32 :=
  let c4_i32_311 : BitVec 32 := 4#32
  let c0_i32_229 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_223 : BitVec 32 := 0#32
  let v486 : BitVec 1 := Scalar.cmpi .sgt v404 c0_i32_223
  let v487 : BitVec 32 := Scalar.extui v486
  let c0_i32_224 : BitVec 32 := 0#32
  let v488 : BitVec 1 := Scalar.cmpi .slt v404 c0_i32_224
  let v489 : BitVec 32 := Scalar.extui v488
  let v490 : BitVec 32 := Scalar.subi v487 v489
  let c4_i32_222 : BitVec 32 := 4#32
  let c0_i32_225 : BitVec 32 := 0#32
  let v491 : BitVec 1 := Scalar.cmpi .sgt c4_i32_222 c0_i32_225
  let v492 : BitVec 32 := Scalar.extui v491
  let c0_i32_226 : BitVec 32 := 0#32
  let v493 : BitVec 1 := Scalar.cmpi .slt c4_i32_222 c0_i32_226
  let v494 : BitVec 32 := Scalar.extui v493
  let v495 : BitVec 32 := Scalar.subi v492 v494
  let v496 : BitVec 1 := Scalar.cmpi .ne v490 v495
  let v497 : BitVec 32 := Scalar.remsi v404 c4_i32_222
  let c0_i32_227 : BitVec 32 := 0#32
  let v498 : BitVec 1 := Scalar.cmpi .ne v497 c0_i32_227
  let v499 : BitVec 1 := Scalar.andi v496 v498
  let v485 : BitVec 32 := Scalar.divsi v404 c4_i32_222
  let c1_i32_228 : BitVec 32 := 1#32
  let v500 : BitVec 32 := Scalar.subi v485 c1_i32_228
  let v501 : BitVec 32 := Scalar.select v499 v500 v485
  let v502 : BitVec 32 := Scalar.subi v501 c0_i32_229
  let c1_i32_231 : BitVec 32 := 1#32
  let v504 : BitVec 32 := Scalar.divsi v502 c1_i32_231
  let v505 : BitVec 32 := Scalar.muli v504 c1_i32_231
  let v506 : BitVec 32 := Scalar.addi c0_i32_229 v505
  let c1_i32_233 : BitVec 32 := 1#32
  let arg22 : BitVec 32 := Scf.iv v506 c1_i32_233 k0_t2
  let v667 : BitVec 32 := Scalar.muli c4_i32_311 arg22
  let c1024_i32 : BitVec 32 := 1024#32
  let v676 : BitVec 32 := Scalar.muli v667 c1024_i32
  v676
def k0_off12 (i : grid0.Coords) (k0_t2 : Fin (k0_t2_loop i).trips) : Fin 4 → Nat :=
  let c0_322 : Index := 0#32
  let c0_323 : Index := 0#32
  let c4_i32_311 : BitVec 32 := 4#32
  let c0_i32_229 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_223 : BitVec 32 := 0#32
  let v486 : BitVec 1 := Scalar.cmpi .sgt v404 c0_i32_223
  let v487 : BitVec 32 := Scalar.extui v486
  let c0_i32_224 : BitVec 32 := 0#32
  let v488 : BitVec 1 := Scalar.cmpi .slt v404 c0_i32_224
  let v489 : BitVec 32 := Scalar.extui v488
  let v490 : BitVec 32 := Scalar.subi v487 v489
  let c4_i32_222 : BitVec 32 := 4#32
  let c0_i32_225 : BitVec 32 := 0#32
  let v491 : BitVec 1 := Scalar.cmpi .sgt c4_i32_222 c0_i32_225
  let v492 : BitVec 32 := Scalar.extui v491
  let c0_i32_226 : BitVec 32 := 0#32
  let v493 : BitVec 1 := Scalar.cmpi .slt c4_i32_222 c0_i32_226
  let v494 : BitVec 32 := Scalar.extui v493
  let v495 : BitVec 32 := Scalar.subi v492 v494
  let v496 : BitVec 1 := Scalar.cmpi .ne v490 v495
  let v497 : BitVec 32 := Scalar.remsi v404 c4_i32_222
  let c0_i32_227 : BitVec 32 := 0#32
  let v498 : BitVec 1 := Scalar.cmpi .ne v497 c0_i32_227
  let v499 : BitVec 1 := Scalar.andi v496 v498
  let v485 : BitVec 32 := Scalar.divsi v404 c4_i32_222
  let c1_i32_228 : BitVec 32 := 1#32
  let v500 : BitVec 32 := Scalar.subi v485 c1_i32_228
  let v501 : BitVec 32 := Scalar.select v499 v500 v485
  let v502 : BitVec 32 := Scalar.subi v501 c0_i32_229
  let c1_i32_231 : BitVec 32 := 1#32
  let v504 : BitVec 32 := Scalar.divsi v502 c1_i32_231
  let v505 : BitVec 32 := Scalar.muli v504 c1_i32_231
  let v506 : BitVec 32 := Scalar.addi c0_i32_229 v505
  let c1_i32_233 : BitVec 32 := 1#32
  let arg22 : BitVec 32 := Scf.iv v506 c1_i32_233 k0_t2
  let v667 : BitVec 32 := Scalar.muli c4_i32_311 arg22
  let c1024_i32 : BitVec 32 := 1024#32
  let v676 : BitVec 32 := Scalar.muli v667 c1024_i32
  let v677 : BitVec 32 := v676
  let v678 : Index := Scalar.indexCast v677
  let c0_324 : Index := 0#32
  ![0, 0, v678.toNat, 0]
def k0_off13 (i : grid0.Coords) (k0_t2 : Fin (k0_t2_loop i).trips) : Fin 4 → Nat :=
  let c0_325 : Index := 0#32
  let c0_326 : Index := 0#32
  let c0_327 : Index := 0#32
  let c4_i32_311 : BitVec 32 := 4#32
  let c0_i32_229 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_223 : BitVec 32 := 0#32
  let v486 : BitVec 1 := Scalar.cmpi .sgt v404 c0_i32_223
  let v487 : BitVec 32 := Scalar.extui v486
  let c0_i32_224 : BitVec 32 := 0#32
  let v488 : BitVec 1 := Scalar.cmpi .slt v404 c0_i32_224
  let v489 : BitVec 32 := Scalar.extui v488
  let v490 : BitVec 32 := Scalar.subi v487 v489
  let c4_i32_222 : BitVec 32 := 4#32
  let c0_i32_225 : BitVec 32 := 0#32
  let v491 : BitVec 1 := Scalar.cmpi .sgt c4_i32_222 c0_i32_225
  let v492 : BitVec 32 := Scalar.extui v491
  let c0_i32_226 : BitVec 32 := 0#32
  let v493 : BitVec 1 := Scalar.cmpi .slt c4_i32_222 c0_i32_226
  let v494 : BitVec 32 := Scalar.extui v493
  let v495 : BitVec 32 := Scalar.subi v492 v494
  let v496 : BitVec 1 := Scalar.cmpi .ne v490 v495
  let v497 : BitVec 32 := Scalar.remsi v404 c4_i32_222
  let c0_i32_227 : BitVec 32 := 0#32
  let v498 : BitVec 1 := Scalar.cmpi .ne v497 c0_i32_227
  let v499 : BitVec 1 := Scalar.andi v496 v498
  let v485 : BitVec 32 := Scalar.divsi v404 c4_i32_222
  let c1_i32_228 : BitVec 32 := 1#32
  let v500 : BitVec 32 := Scalar.subi v485 c1_i32_228
  let v501 : BitVec 32 := Scalar.select v499 v500 v485
  let v502 : BitVec 32 := Scalar.subi v501 c0_i32_229
  let c1_i32_231 : BitVec 32 := 1#32
  let v504 : BitVec 32 := Scalar.divsi v502 c1_i32_231
  let v505 : BitVec 32 := Scalar.muli v504 c1_i32_231
  let v506 : BitVec 32 := Scalar.addi c0_i32_229 v505
  let c1_i32_233 : BitVec 32 := 1#32
  let arg22 : BitVec 32 := Scf.iv v506 c1_i32_233 k0_t2
  let v667 : BitVec 32 := Scalar.muli c4_i32_311 arg22
  let c1024_i32 : BitVec 32 := 1024#32
  let v676 : BitVec 32 := Scalar.muli v667 c1024_i32
  let v677 : BitVec 32 := v676
  let v681 : Index := Scalar.indexCast v677
  ![0, 0, 0, v681.toNat]
def k0_mult11 (i : grid0.Coords) (k0_t2 : Fin (k0_t2_loop i).trips) : BitVec 32 :=
  let c4_i32_312 : BitVec 32 := 4#32
  let c0_i32_229 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_223 : BitVec 32 := 0#32
  let v486 : BitVec 1 := Scalar.cmpi .sgt v404 c0_i32_223
  let v487 : BitVec 32 := Scalar.extui v486
  let c0_i32_224 : BitVec 32 := 0#32
  let v488 : BitVec 1 := Scalar.cmpi .slt v404 c0_i32_224
  let v489 : BitVec 32 := Scalar.extui v488
  let v490 : BitVec 32 := Scalar.subi v487 v489
  let c4_i32_222 : BitVec 32 := 4#32
  let c0_i32_225 : BitVec 32 := 0#32
  let v491 : BitVec 1 := Scalar.cmpi .sgt c4_i32_222 c0_i32_225
  let v492 : BitVec 32 := Scalar.extui v491
  let c0_i32_226 : BitVec 32 := 0#32
  let v493 : BitVec 1 := Scalar.cmpi .slt c4_i32_222 c0_i32_226
  let v494 : BitVec 32 := Scalar.extui v493
  let v495 : BitVec 32 := Scalar.subi v492 v494
  let v496 : BitVec 1 := Scalar.cmpi .ne v490 v495
  let v497 : BitVec 32 := Scalar.remsi v404 c4_i32_222
  let c0_i32_227 : BitVec 32 := 0#32
  let v498 : BitVec 1 := Scalar.cmpi .ne v497 c0_i32_227
  let v499 : BitVec 1 := Scalar.andi v496 v498
  let v485 : BitVec 32 := Scalar.divsi v404 c4_i32_222
  let c1_i32_228 : BitVec 32 := 1#32
  let v500 : BitVec 32 := Scalar.subi v485 c1_i32_228
  let v501 : BitVec 32 := Scalar.select v499 v500 v485
  let v502 : BitVec 32 := Scalar.subi v501 c0_i32_229
  let c1_i32_231 : BitVec 32 := 1#32
  let v504 : BitVec 32 := Scalar.divsi v502 c1_i32_231
  let v505 : BitVec 32 := Scalar.muli v504 c1_i32_231
  let v506 : BitVec 32 := Scalar.addi c0_i32_229 v505
  let c1_i32_233 : BitVec 32 := 1#32
  let arg22 : BitVec 32 := Scf.iv v506 c1_i32_233 k0_t2
  let v668 : BitVec 32 := Scalar.muli c4_i32_312 arg22
  let c1_i32_313 : BitVec 32 := 1#32
  let v669 : BitVec 32 := Scalar.addi v668 c1_i32_313
  let c1024_i32_333 : BitVec 32 := 1024#32
  let v695 : BitVec 32 := Scalar.muli v669 c1024_i32_333
  v695
def k0_off14 (i : grid0.Coords) (k0_t2 : Fin (k0_t2_loop i).trips) (c1_i32_313 : BitVec 32) : Fin 4 → Nat :=
  let c0_334 : Index := 0#32
  let c0_335 : Index := 0#32
  let c4_i32_312 : BitVec 32 := 4#32
  let c0_i32_229 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_223 : BitVec 32 := 0#32
  let v486 : BitVec 1 := Scalar.cmpi .sgt v404 c0_i32_223
  let v487 : BitVec 32 := Scalar.extui v486
  let c0_i32_224 : BitVec 32 := 0#32
  let v488 : BitVec 1 := Scalar.cmpi .slt v404 c0_i32_224
  let v489 : BitVec 32 := Scalar.extui v488
  let v490 : BitVec 32 := Scalar.subi v487 v489
  let c4_i32_222 : BitVec 32 := 4#32
  let c0_i32_225 : BitVec 32 := 0#32
  let v491 : BitVec 1 := Scalar.cmpi .sgt c4_i32_222 c0_i32_225
  let v492 : BitVec 32 := Scalar.extui v491
  let c0_i32_226 : BitVec 32 := 0#32
  let v493 : BitVec 1 := Scalar.cmpi .slt c4_i32_222 c0_i32_226
  let v494 : BitVec 32 := Scalar.extui v493
  let v495 : BitVec 32 := Scalar.subi v492 v494
  let v496 : BitVec 1 := Scalar.cmpi .ne v490 v495
  let v497 : BitVec 32 := Scalar.remsi v404 c4_i32_222
  let c0_i32_227 : BitVec 32 := 0#32
  let v498 : BitVec 1 := Scalar.cmpi .ne v497 c0_i32_227
  let v499 : BitVec 1 := Scalar.andi v496 v498
  let v485 : BitVec 32 := Scalar.divsi v404 c4_i32_222
  let c1_i32_228 : BitVec 32 := 1#32
  let v500 : BitVec 32 := Scalar.subi v485 c1_i32_228
  let v501 : BitVec 32 := Scalar.select v499 v500 v485
  let v502 : BitVec 32 := Scalar.subi v501 c0_i32_229
  let c1_i32_231 : BitVec 32 := 1#32
  let v504 : BitVec 32 := Scalar.divsi v502 c1_i32_231
  let v505 : BitVec 32 := Scalar.muli v504 c1_i32_231
  let v506 : BitVec 32 := Scalar.addi c0_i32_229 v505
  let c1_i32_233 : BitVec 32 := 1#32
  let arg22 : BitVec 32 := Scf.iv v506 c1_i32_233 k0_t2
  let v668 : BitVec 32 := Scalar.muli c4_i32_312 arg22
  let v669 : BitVec 32 := Scalar.addi v668 c1_i32_313
  let c1024_i32_333 : BitVec 32 := 1024#32
  let v695 : BitVec 32 := Scalar.muli v669 c1024_i32_333
  let v696 : BitVec 32 := v695
  let v697 : Index := Scalar.indexCast v696
  let c0_336 : Index := 0#32
  ![0, 0, v697.toNat, 0]
def k0_off15 (i : grid0.Coords) (k0_t2 : Fin (k0_t2_loop i).trips) (c1_i32_313 : BitVec 32) : Fin 4 → Nat :=
  let c0_337 : Index := 0#32
  let c0_338 : Index := 0#32
  let c0_339 : Index := 0#32
  let c4_i32_312 : BitVec 32 := 4#32
  let c0_i32_229 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_223 : BitVec 32 := 0#32
  let v486 : BitVec 1 := Scalar.cmpi .sgt v404 c0_i32_223
  let v487 : BitVec 32 := Scalar.extui v486
  let c0_i32_224 : BitVec 32 := 0#32
  let v488 : BitVec 1 := Scalar.cmpi .slt v404 c0_i32_224
  let v489 : BitVec 32 := Scalar.extui v488
  let v490 : BitVec 32 := Scalar.subi v487 v489
  let c4_i32_222 : BitVec 32 := 4#32
  let c0_i32_225 : BitVec 32 := 0#32
  let v491 : BitVec 1 := Scalar.cmpi .sgt c4_i32_222 c0_i32_225
  let v492 : BitVec 32 := Scalar.extui v491
  let c0_i32_226 : BitVec 32 := 0#32
  let v493 : BitVec 1 := Scalar.cmpi .slt c4_i32_222 c0_i32_226
  let v494 : BitVec 32 := Scalar.extui v493
  let v495 : BitVec 32 := Scalar.subi v492 v494
  let v496 : BitVec 1 := Scalar.cmpi .ne v490 v495
  let v497 : BitVec 32 := Scalar.remsi v404 c4_i32_222
  let c0_i32_227 : BitVec 32 := 0#32
  let v498 : BitVec 1 := Scalar.cmpi .ne v497 c0_i32_227
  let v499 : BitVec 1 := Scalar.andi v496 v498
  let v485 : BitVec 32 := Scalar.divsi v404 c4_i32_222
  let c1_i32_228 : BitVec 32 := 1#32
  let v500 : BitVec 32 := Scalar.subi v485 c1_i32_228
  let v501 : BitVec 32 := Scalar.select v499 v500 v485
  let v502 : BitVec 32 := Scalar.subi v501 c0_i32_229
  let c1_i32_231 : BitVec 32 := 1#32
  let v504 : BitVec 32 := Scalar.divsi v502 c1_i32_231
  let v505 : BitVec 32 := Scalar.muli v504 c1_i32_231
  let v506 : BitVec 32 := Scalar.addi c0_i32_229 v505
  let c1_i32_233 : BitVec 32 := 1#32
  let arg22 : BitVec 32 := Scf.iv v506 c1_i32_233 k0_t2
  let v668 : BitVec 32 := Scalar.muli c4_i32_312 arg22
  let v669 : BitVec 32 := Scalar.addi v668 c1_i32_313
  let c1024_i32_333 : BitVec 32 := 1024#32
  let v695 : BitVec 32 := Scalar.muli v669 c1024_i32_333
  let v696 : BitVec 32 := v695
  let v700 : Index := Scalar.indexCast v696
  ![0, 0, 0, v700.toNat]
def k0_mult12 (i : grid0.Coords) (k0_t2 : Fin (k0_t2_loop i).trips) : BitVec 32 :=
  let c4_i32_314 : BitVec 32 := 4#32
  let c0_i32_229 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_223 : BitVec 32 := 0#32
  let v486 : BitVec 1 := Scalar.cmpi .sgt v404 c0_i32_223
  let v487 : BitVec 32 := Scalar.extui v486
  let c0_i32_224 : BitVec 32 := 0#32
  let v488 : BitVec 1 := Scalar.cmpi .slt v404 c0_i32_224
  let v489 : BitVec 32 := Scalar.extui v488
  let v490 : BitVec 32 := Scalar.subi v487 v489
  let c4_i32_222 : BitVec 32 := 4#32
  let c0_i32_225 : BitVec 32 := 0#32
  let v491 : BitVec 1 := Scalar.cmpi .sgt c4_i32_222 c0_i32_225
  let v492 : BitVec 32 := Scalar.extui v491
  let c0_i32_226 : BitVec 32 := 0#32
  let v493 : BitVec 1 := Scalar.cmpi .slt c4_i32_222 c0_i32_226
  let v494 : BitVec 32 := Scalar.extui v493
  let v495 : BitVec 32 := Scalar.subi v492 v494
  let v496 : BitVec 1 := Scalar.cmpi .ne v490 v495
  let v497 : BitVec 32 := Scalar.remsi v404 c4_i32_222
  let c0_i32_227 : BitVec 32 := 0#32
  let v498 : BitVec 1 := Scalar.cmpi .ne v497 c0_i32_227
  let v499 : BitVec 1 := Scalar.andi v496 v498
  let v485 : BitVec 32 := Scalar.divsi v404 c4_i32_222
  let c1_i32_228 : BitVec 32 := 1#32
  let v500 : BitVec 32 := Scalar.subi v485 c1_i32_228
  let v501 : BitVec 32 := Scalar.select v499 v500 v485
  let v502 : BitVec 32 := Scalar.subi v501 c0_i32_229
  let c1_i32_231 : BitVec 32 := 1#32
  let v504 : BitVec 32 := Scalar.divsi v502 c1_i32_231
  let v505 : BitVec 32 := Scalar.muli v504 c1_i32_231
  let v506 : BitVec 32 := Scalar.addi c0_i32_229 v505
  let c1_i32_233 : BitVec 32 := 1#32
  let arg22 : BitVec 32 := Scf.iv v506 c1_i32_233 k0_t2
  let v670 : BitVec 32 := Scalar.muli c4_i32_314 arg22
  let c2_i32_315 : BitVec 32 := 2#32
  let v671 : BitVec 32 := Scalar.addi v670 c2_i32_315
  let c1024_i32_345 : BitVec 32 := 1024#32
  let v714 : BitVec 32 := Scalar.muli v671 c1024_i32_345
  v714
def k0_mult13 (i : grid0.Coords) (k0_t2 : Fin (k0_t2_loop i).trips) : BitVec 32 :=
  let c4_i32_316 : BitVec 32 := 4#32
  let c0_i32_229 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_223 : BitVec 32 := 0#32
  let v486 : BitVec 1 := Scalar.cmpi .sgt v404 c0_i32_223
  let v487 : BitVec 32 := Scalar.extui v486
  let c0_i32_224 : BitVec 32 := 0#32
  let v488 : BitVec 1 := Scalar.cmpi .slt v404 c0_i32_224
  let v489 : BitVec 32 := Scalar.extui v488
  let v490 : BitVec 32 := Scalar.subi v487 v489
  let c4_i32_222 : BitVec 32 := 4#32
  let c0_i32_225 : BitVec 32 := 0#32
  let v491 : BitVec 1 := Scalar.cmpi .sgt c4_i32_222 c0_i32_225
  let v492 : BitVec 32 := Scalar.extui v491
  let c0_i32_226 : BitVec 32 := 0#32
  let v493 : BitVec 1 := Scalar.cmpi .slt c4_i32_222 c0_i32_226
  let v494 : BitVec 32 := Scalar.extui v493
  let v495 : BitVec 32 := Scalar.subi v492 v494
  let v496 : BitVec 1 := Scalar.cmpi .ne v490 v495
  let v497 : BitVec 32 := Scalar.remsi v404 c4_i32_222
  let c0_i32_227 : BitVec 32 := 0#32
  let v498 : BitVec 1 := Scalar.cmpi .ne v497 c0_i32_227
  let v499 : BitVec 1 := Scalar.andi v496 v498
  let v485 : BitVec 32 := Scalar.divsi v404 c4_i32_222
  let c1_i32_228 : BitVec 32 := 1#32
  let v500 : BitVec 32 := Scalar.subi v485 c1_i32_228
  let v501 : BitVec 32 := Scalar.select v499 v500 v485
  let v502 : BitVec 32 := Scalar.subi v501 c0_i32_229
  let c1_i32_231 : BitVec 32 := 1#32
  let v504 : BitVec 32 := Scalar.divsi v502 c1_i32_231
  let v505 : BitVec 32 := Scalar.muli v504 c1_i32_231
  let v506 : BitVec 32 := Scalar.addi c0_i32_229 v505
  let c1_i32_233 : BitVec 32 := 1#32
  let arg22 : BitVec 32 := Scf.iv v506 c1_i32_233 k0_t2
  let v672 : BitVec 32 := Scalar.muli c4_i32_316 arg22
  let c3_i32_317 : BitVec 32 := 3#32
  let v673 : BitVec 32 := Scalar.addi v672 c3_i32_317
  let c1024_i32_357 : BitVec 32 := 1024#32
  let v733 : BitVec 32 := Scalar.muli v673 c1024_i32_357
  v733
def k0_cond1 (i : grid0.Coords) : BitVec 1 :=
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c4_i32_242 : BitVec 32 := 4#32
  let c0_i32_243 : BitVec 32 := 0#32
  let v527 : BitVec 1 := Scalar.cmpi .eq c4_i32_242 c0_i32_243
  let c1_i32_244 : BitVec 32 := 1#32
  let v528 : BitVec 32 := Scalar.select v527 c1_i32_244 c4_i32_242
  let v529 : BitVec 32 := Scalar.remsi v404 v528
  let c0_i32_246 : BitVec 32 := 0#32
  let v531 : BitVec 1 := Scalar.cmpi .slt v529 c0_i32_246
  let c0_i32_247 : BitVec 32 := 0#32
  let v532 : BitVec 1 := Scalar.cmpi .slt v528 c0_i32_247
  let v533 : BitVec 1 := Scalar.xori v531 v532
  let c0_i32_245 : BitVec 32 := 0#32
  let v530 : BitVec 1 := Scalar.cmpi .ne v529 c0_i32_245
  let v534 : BitVec 1 := Scalar.andi v533 v530
  let v535 : BitVec 32 := Scalar.addi v529 v528
  let v536 : BitVec 32 := Scalar.select v534 v535 v529
  let c1_i32_248 : BitVec 32 := 1#32
  let v537 : BitVec 1 := Scalar.cmpi .eq v536 c1_i32_248
  let v538 : BitVec 32 := Scalar.extui v537
  let c0_i32_249 : BitVec 32 := 0#32
  let v539 : BitVec 1 := Scalar.cmpi .ne v538 c0_i32_249
  v539

def k0_mult14 (i : grid0.Coords) : BitVec 32 :=
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_235 : BitVec 32 := 0#32
  let v510 : BitVec 1 := Scalar.cmpi .sgt v404 c0_i32_235
  let v511 : BitVec 32 := Scalar.extui v510
  let c0_i32_236 : BitVec 32 := 0#32
  let v512 : BitVec 1 := Scalar.cmpi .slt v404 c0_i32_236
  let v513 : BitVec 32 := Scalar.extui v512
  let v514 : BitVec 32 := Scalar.subi v511 v513
  let c4_i32_234 : BitVec 32 := 4#32
  let c0_i32_237 : BitVec 32 := 0#32
  let v515 : BitVec 1 := Scalar.cmpi .sgt c4_i32_234 c0_i32_237
  let v516 : BitVec 32 := Scalar.extui v515
  let c0_i32_238 : BitVec 32 := 0#32
  let v517 : BitVec 1 := Scalar.cmpi .slt c4_i32_234 c0_i32_238
  let v518 : BitVec 32 := Scalar.extui v517
  let v519 : BitVec 32 := Scalar.subi v516 v518
  let v520 : BitVec 1 := Scalar.cmpi .ne v514 v519
  let v521 : BitVec 32 := Scalar.remsi v404 c4_i32_234
  let c0_i32_239 : BitVec 32 := 0#32
  let v522 : BitVec 1 := Scalar.cmpi .ne v521 c0_i32_239
  let v523 : BitVec 1 := Scalar.andi v520 v522
  let v509 : BitVec 32 := Scalar.divsi v404 c4_i32_234
  let c1_i32_240 : BitVec 32 := 1#32
  let v524 : BitVec 32 := Scalar.subi v509 c1_i32_240
  let v525 : BitVec 32 := Scalar.select v523 v524 v509
  let c4_i32_241 : BitVec 32 := 4#32
  let v526 : BitVec 32 := Scalar.muli v525 c4_i32_241
  let c0_i32_311 : BitVec 32 := 0#32
  let v667 : BitVec 32 := Scalar.addi v526 c0_i32_311
  let c1024_i32 : BitVec 32 := 1024#32
  let v670 : BitVec 32 := Scalar.muli v667 c1024_i32
  v670
def k0_off16 (i : grid0.Coords) : Fin 4 → Nat :=
  let c0_316 : Index := 0#32
  let c0_317 : Index := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_235 : BitVec 32 := 0#32
  let v510 : BitVec 1 := Scalar.cmpi .sgt v404 c0_i32_235
  let v511 : BitVec 32 := Scalar.extui v510
  let c0_i32_236 : BitVec 32 := 0#32
  let v512 : BitVec 1 := Scalar.cmpi .slt v404 c0_i32_236
  let v513 : BitVec 32 := Scalar.extui v512
  let v514 : BitVec 32 := Scalar.subi v511 v513
  let c4_i32_234 : BitVec 32 := 4#32
  let c0_i32_237 : BitVec 32 := 0#32
  let v515 : BitVec 1 := Scalar.cmpi .sgt c4_i32_234 c0_i32_237
  let v516 : BitVec 32 := Scalar.extui v515
  let c0_i32_238 : BitVec 32 := 0#32
  let v517 : BitVec 1 := Scalar.cmpi .slt c4_i32_234 c0_i32_238
  let v518 : BitVec 32 := Scalar.extui v517
  let v519 : BitVec 32 := Scalar.subi v516 v518
  let v520 : BitVec 1 := Scalar.cmpi .ne v514 v519
  let v521 : BitVec 32 := Scalar.remsi v404 c4_i32_234
  let c0_i32_239 : BitVec 32 := 0#32
  let v522 : BitVec 1 := Scalar.cmpi .ne v521 c0_i32_239
  let v523 : BitVec 1 := Scalar.andi v520 v522
  let v509 : BitVec 32 := Scalar.divsi v404 c4_i32_234
  let c1_i32_240 : BitVec 32 := 1#32
  let v524 : BitVec 32 := Scalar.subi v509 c1_i32_240
  let v525 : BitVec 32 := Scalar.select v523 v524 v509
  let c4_i32_241 : BitVec 32 := 4#32
  let v526 : BitVec 32 := Scalar.muli v525 c4_i32_241
  let c0_i32_311 : BitVec 32 := 0#32
  let v667 : BitVec 32 := Scalar.addi v526 c0_i32_311
  let c1024_i32 : BitVec 32 := 1024#32
  let v670 : BitVec 32 := Scalar.muli v667 c1024_i32
  let v671 : BitVec 32 := v670
  let v672 : Index := Scalar.indexCast v671
  let c0_318 : Index := 0#32
  ![0, 0, v672.toNat, 0]
def k0_off17 (i : grid0.Coords) : Fin 4 → Nat :=
  let c0_319 : Index := 0#32
  let c0_320 : Index := 0#32
  let c0_321 : Index := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_235 : BitVec 32 := 0#32
  let v510 : BitVec 1 := Scalar.cmpi .sgt v404 c0_i32_235
  let v511 : BitVec 32 := Scalar.extui v510
  let c0_i32_236 : BitVec 32 := 0#32
  let v512 : BitVec 1 := Scalar.cmpi .slt v404 c0_i32_236
  let v513 : BitVec 32 := Scalar.extui v512
  let v514 : BitVec 32 := Scalar.subi v511 v513
  let c4_i32_234 : BitVec 32 := 4#32
  let c0_i32_237 : BitVec 32 := 0#32
  let v515 : BitVec 1 := Scalar.cmpi .sgt c4_i32_234 c0_i32_237
  let v516 : BitVec 32 := Scalar.extui v515
  let c0_i32_238 : BitVec 32 := 0#32
  let v517 : BitVec 1 := Scalar.cmpi .slt c4_i32_234 c0_i32_238
  let v518 : BitVec 32 := Scalar.extui v517
  let v519 : BitVec 32 := Scalar.subi v516 v518
  let v520 : BitVec 1 := Scalar.cmpi .ne v514 v519
  let v521 : BitVec 32 := Scalar.remsi v404 c4_i32_234
  let c0_i32_239 : BitVec 32 := 0#32
  let v522 : BitVec 1 := Scalar.cmpi .ne v521 c0_i32_239
  let v523 : BitVec 1 := Scalar.andi v520 v522
  let v509 : BitVec 32 := Scalar.divsi v404 c4_i32_234
  let c1_i32_240 : BitVec 32 := 1#32
  let v524 : BitVec 32 := Scalar.subi v509 c1_i32_240
  let v525 : BitVec 32 := Scalar.select v523 v524 v509
  let c4_i32_241 : BitVec 32 := 4#32
  let v526 : BitVec 32 := Scalar.muli v525 c4_i32_241
  let c0_i32_311 : BitVec 32 := 0#32
  let v667 : BitVec 32 := Scalar.addi v526 c0_i32_311
  let c1024_i32 : BitVec 32 := 1024#32
  let v670 : BitVec 32 := Scalar.muli v667 c1024_i32
  let v671 : BitVec 32 := v670
  let v675 : Index := Scalar.indexCast v671
  ![0, 0, 0, v675.toNat]
def k0_cond2 (i : grid0.Coords) : BitVec 1 :=
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c4_i32_250 : BitVec 32 := 4#32
  let c0_i32_251 : BitVec 32 := 0#32
  let v540 : BitVec 1 := Scalar.cmpi .eq c4_i32_250 c0_i32_251
  let c1_i32_252 : BitVec 32 := 1#32
  let v541 : BitVec 32 := Scalar.select v540 c1_i32_252 c4_i32_250
  let v542 : BitVec 32 := Scalar.remsi v404 v541
  let c0_i32_254 : BitVec 32 := 0#32
  let v544 : BitVec 1 := Scalar.cmpi .slt v542 c0_i32_254
  let c0_i32_255 : BitVec 32 := 0#32
  let v545 : BitVec 1 := Scalar.cmpi .slt v541 c0_i32_255
  let v546 : BitVec 1 := Scalar.xori v544 v545
  let c0_i32_253 : BitVec 32 := 0#32
  let v543 : BitVec 1 := Scalar.cmpi .ne v542 c0_i32_253
  let v547 : BitVec 1 := Scalar.andi v546 v543
  let v548 : BitVec 32 := Scalar.addi v542 v541
  let v549 : BitVec 32 := Scalar.select v547 v548 v542
  let c2_i32_256 : BitVec 32 := 2#32
  let v550 : BitVec 1 := Scalar.cmpi .eq v549 c2_i32_256
  let v551 : BitVec 32 := Scalar.extui v550
  let c0_i32_257 : BitVec 32 := 0#32
  let v552 : BitVec 1 := Scalar.cmpi .ne v551 c0_i32_257
  v552

def k0_mult15 (i : grid0.Coords) : BitVec 32 :=
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_235 : BitVec 32 := 0#32
  let v510 : BitVec 1 := Scalar.cmpi .sgt v404 c0_i32_235
  let v511 : BitVec 32 := Scalar.extui v510
  let c0_i32_236 : BitVec 32 := 0#32
  let v512 : BitVec 1 := Scalar.cmpi .slt v404 c0_i32_236
  let v513 : BitVec 32 := Scalar.extui v512
  let v514 : BitVec 32 := Scalar.subi v511 v513
  let c4_i32_234 : BitVec 32 := 4#32
  let c0_i32_237 : BitVec 32 := 0#32
  let v515 : BitVec 1 := Scalar.cmpi .sgt c4_i32_234 c0_i32_237
  let v516 : BitVec 32 := Scalar.extui v515
  let c0_i32_238 : BitVec 32 := 0#32
  let v517 : BitVec 1 := Scalar.cmpi .slt c4_i32_234 c0_i32_238
  let v518 : BitVec 32 := Scalar.extui v517
  let v519 : BitVec 32 := Scalar.subi v516 v518
  let v520 : BitVec 1 := Scalar.cmpi .ne v514 v519
  let v521 : BitVec 32 := Scalar.remsi v404 c4_i32_234
  let c0_i32_239 : BitVec 32 := 0#32
  let v522 : BitVec 1 := Scalar.cmpi .ne v521 c0_i32_239
  let v523 : BitVec 1 := Scalar.andi v520 v522
  let v509 : BitVec 32 := Scalar.divsi v404 c4_i32_234
  let c1_i32_240 : BitVec 32 := 1#32
  let v524 : BitVec 32 := Scalar.subi v509 c1_i32_240
  let v525 : BitVec 32 := Scalar.select v523 v524 v509
  let c4_i32_241 : BitVec 32 := 4#32
  let v526 : BitVec 32 := Scalar.muli v525 c4_i32_241
  let c0_i32_311 : BitVec 32 := 0#32
  let v667 : BitVec 32 := Scalar.addi v526 c0_i32_311
  let c1024_i32 : BitVec 32 := 1024#32
  let v671 : BitVec 32 := Scalar.muli v667 c1024_i32
  v671
def k0_off18 (i : grid0.Coords) (c0_i32_311 : BitVec 32) : Fin 4 → Nat :=
  let c0_317 : Index := 0#32
  let c0_318 : Index := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_235 : BitVec 32 := 0#32
  let v510 : BitVec 1 := Scalar.cmpi .sgt v404 c0_i32_235
  let v511 : BitVec 32 := Scalar.extui v510
  let c0_i32_236 : BitVec 32 := 0#32
  let v512 : BitVec 1 := Scalar.cmpi .slt v404 c0_i32_236
  let v513 : BitVec 32 := Scalar.extui v512
  let v514 : BitVec 32 := Scalar.subi v511 v513
  let c4_i32_234 : BitVec 32 := 4#32
  let c0_i32_237 : BitVec 32 := 0#32
  let v515 : BitVec 1 := Scalar.cmpi .sgt c4_i32_234 c0_i32_237
  let v516 : BitVec 32 := Scalar.extui v515
  let c0_i32_238 : BitVec 32 := 0#32
  let v517 : BitVec 1 := Scalar.cmpi .slt c4_i32_234 c0_i32_238
  let v518 : BitVec 32 := Scalar.extui v517
  let v519 : BitVec 32 := Scalar.subi v516 v518
  let v520 : BitVec 1 := Scalar.cmpi .ne v514 v519
  let v521 : BitVec 32 := Scalar.remsi v404 c4_i32_234
  let c0_i32_239 : BitVec 32 := 0#32
  let v522 : BitVec 1 := Scalar.cmpi .ne v521 c0_i32_239
  let v523 : BitVec 1 := Scalar.andi v520 v522
  let v509 : BitVec 32 := Scalar.divsi v404 c4_i32_234
  let c1_i32_240 : BitVec 32 := 1#32
  let v524 : BitVec 32 := Scalar.subi v509 c1_i32_240
  let v525 : BitVec 32 := Scalar.select v523 v524 v509
  let c4_i32_241 : BitVec 32 := 4#32
  let v526 : BitVec 32 := Scalar.muli v525 c4_i32_241
  let v667 : BitVec 32 := Scalar.addi v526 c0_i32_311
  let c1024_i32 : BitVec 32 := 1024#32
  let v671 : BitVec 32 := Scalar.muli v667 c1024_i32
  let v672 : BitVec 32 := v671
  let v673 : Index := Scalar.indexCast v672
  let c0_319 : Index := 0#32
  ![0, 0, v673.toNat, 0]
def k0_off19 (i : grid0.Coords) (c0_i32_311 : BitVec 32) : Fin 4 → Nat :=
  let c0_320 : Index := 0#32
  let c0_321 : Index := 0#32
  let c0_322 : Index := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_235 : BitVec 32 := 0#32
  let v510 : BitVec 1 := Scalar.cmpi .sgt v404 c0_i32_235
  let v511 : BitVec 32 := Scalar.extui v510
  let c0_i32_236 : BitVec 32 := 0#32
  let v512 : BitVec 1 := Scalar.cmpi .slt v404 c0_i32_236
  let v513 : BitVec 32 := Scalar.extui v512
  let v514 : BitVec 32 := Scalar.subi v511 v513
  let c4_i32_234 : BitVec 32 := 4#32
  let c0_i32_237 : BitVec 32 := 0#32
  let v515 : BitVec 1 := Scalar.cmpi .sgt c4_i32_234 c0_i32_237
  let v516 : BitVec 32 := Scalar.extui v515
  let c0_i32_238 : BitVec 32 := 0#32
  let v517 : BitVec 1 := Scalar.cmpi .slt c4_i32_234 c0_i32_238
  let v518 : BitVec 32 := Scalar.extui v517
  let v519 : BitVec 32 := Scalar.subi v516 v518
  let v520 : BitVec 1 := Scalar.cmpi .ne v514 v519
  let v521 : BitVec 32 := Scalar.remsi v404 c4_i32_234
  let c0_i32_239 : BitVec 32 := 0#32
  let v522 : BitVec 1 := Scalar.cmpi .ne v521 c0_i32_239
  let v523 : BitVec 1 := Scalar.andi v520 v522
  let v509 : BitVec 32 := Scalar.divsi v404 c4_i32_234
  let c1_i32_240 : BitVec 32 := 1#32
  let v524 : BitVec 32 := Scalar.subi v509 c1_i32_240
  let v525 : BitVec 32 := Scalar.select v523 v524 v509
  let c4_i32_241 : BitVec 32 := 4#32
  let v526 : BitVec 32 := Scalar.muli v525 c4_i32_241
  let v667 : BitVec 32 := Scalar.addi v526 c0_i32_311
  let c1024_i32 : BitVec 32 := 1024#32
  let v671 : BitVec 32 := Scalar.muli v667 c1024_i32
  let v672 : BitVec 32 := v671
  let v676 : Index := Scalar.indexCast v672
  ![0, 0, 0, v676.toNat]
def k0_mult16 (i : grid0.Coords) : BitVec 32 :=
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_235 : BitVec 32 := 0#32
  let v510 : BitVec 1 := Scalar.cmpi .sgt v404 c0_i32_235
  let v511 : BitVec 32 := Scalar.extui v510
  let c0_i32_236 : BitVec 32 := 0#32
  let v512 : BitVec 1 := Scalar.cmpi .slt v404 c0_i32_236
  let v513 : BitVec 32 := Scalar.extui v512
  let v514 : BitVec 32 := Scalar.subi v511 v513
  let c4_i32_234 : BitVec 32 := 4#32
  let c0_i32_237 : BitVec 32 := 0#32
  let v515 : BitVec 1 := Scalar.cmpi .sgt c4_i32_234 c0_i32_237
  let v516 : BitVec 32 := Scalar.extui v515
  let c0_i32_238 : BitVec 32 := 0#32
  let v517 : BitVec 1 := Scalar.cmpi .slt c4_i32_234 c0_i32_238
  let v518 : BitVec 32 := Scalar.extui v517
  let v519 : BitVec 32 := Scalar.subi v516 v518
  let v520 : BitVec 1 := Scalar.cmpi .ne v514 v519
  let v521 : BitVec 32 := Scalar.remsi v404 c4_i32_234
  let c0_i32_239 : BitVec 32 := 0#32
  let v522 : BitVec 1 := Scalar.cmpi .ne v521 c0_i32_239
  let v523 : BitVec 1 := Scalar.andi v520 v522
  let v509 : BitVec 32 := Scalar.divsi v404 c4_i32_234
  let c1_i32_240 : BitVec 32 := 1#32
  let v524 : BitVec 32 := Scalar.subi v509 c1_i32_240
  let v525 : BitVec 32 := Scalar.select v523 v524 v509
  let c4_i32_241 : BitVec 32 := 4#32
  let v526 : BitVec 32 := Scalar.muli v525 c4_i32_241
  let c1_i32_312 : BitVec 32 := 1#32
  let v668 : BitVec 32 := Scalar.addi v526 c1_i32_312
  let c1024_i32_328 : BitVec 32 := 1024#32
  let v690 : BitVec 32 := Scalar.muli v668 c1024_i32_328
  v690
def k0_cond3 (i : grid0.Coords) : BitVec 1 :=
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c4_i32_258 : BitVec 32 := 4#32
  let c0_i32_259 : BitVec 32 := 0#32
  let v553 : BitVec 1 := Scalar.cmpi .eq c4_i32_258 c0_i32_259
  let c1_i32_260 : BitVec 32 := 1#32
  let v554 : BitVec 32 := Scalar.select v553 c1_i32_260 c4_i32_258
  let v555 : BitVec 32 := Scalar.remsi v404 v554
  let c0_i32_262 : BitVec 32 := 0#32
  let v557 : BitVec 1 := Scalar.cmpi .slt v555 c0_i32_262
  let c0_i32_263 : BitVec 32 := 0#32
  let v558 : BitVec 1 := Scalar.cmpi .slt v554 c0_i32_263
  let v559 : BitVec 1 := Scalar.xori v557 v558
  let c0_i32_261 : BitVec 32 := 0#32
  let v556 : BitVec 1 := Scalar.cmpi .ne v555 c0_i32_261
  let v560 : BitVec 1 := Scalar.andi v559 v556
  let v561 : BitVec 32 := Scalar.addi v555 v554
  let v562 : BitVec 32 := Scalar.select v560 v561 v555
  let c3_i32_264 : BitVec 32 := 3#32
  let v563 : BitVec 1 := Scalar.cmpi .eq v562 c3_i32_264
  let v564 : BitVec 32 := Scalar.extui v563
  let c0_i32_265 : BitVec 32 := 0#32
  let v565 : BitVec 1 := Scalar.cmpi .ne v564 c0_i32_265
  v565

def k0_mult17 (i : grid0.Coords) : BitVec 32 :=
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_235 : BitVec 32 := 0#32
  let v510 : BitVec 1 := Scalar.cmpi .sgt v404 c0_i32_235
  let v511 : BitVec 32 := Scalar.extui v510
  let c0_i32_236 : BitVec 32 := 0#32
  let v512 : BitVec 1 := Scalar.cmpi .slt v404 c0_i32_236
  let v513 : BitVec 32 := Scalar.extui v512
  let v514 : BitVec 32 := Scalar.subi v511 v513
  let c4_i32_234 : BitVec 32 := 4#32
  let c0_i32_237 : BitVec 32 := 0#32
  let v515 : BitVec 1 := Scalar.cmpi .sgt c4_i32_234 c0_i32_237
  let v516 : BitVec 32 := Scalar.extui v515
  let c0_i32_238 : BitVec 32 := 0#32
  let v517 : BitVec 1 := Scalar.cmpi .slt c4_i32_234 c0_i32_238
  let v518 : BitVec 32 := Scalar.extui v517
  let v519 : BitVec 32 := Scalar.subi v516 v518
  let v520 : BitVec 1 := Scalar.cmpi .ne v514 v519
  let v521 : BitVec 32 := Scalar.remsi v404 c4_i32_234
  let c0_i32_239 : BitVec 32 := 0#32
  let v522 : BitVec 1 := Scalar.cmpi .ne v521 c0_i32_239
  let v523 : BitVec 1 := Scalar.andi v520 v522
  let v509 : BitVec 32 := Scalar.divsi v404 c4_i32_234
  let c1_i32_240 : BitVec 32 := 1#32
  let v524 : BitVec 32 := Scalar.subi v509 c1_i32_240
  let v525 : BitVec 32 := Scalar.select v523 v524 v509
  let c4_i32_241 : BitVec 32 := 4#32
  let v526 : BitVec 32 := Scalar.muli v525 c4_i32_241
  let c0_i32_311 : BitVec 32 := 0#32
  let v667 : BitVec 32 := Scalar.addi v526 c0_i32_311
  let c1024_i32 : BitVec 32 := 1024#32
  let v672 : BitVec 32 := Scalar.muli v667 c1024_i32
  v672
def k0_off20 (i : grid0.Coords) (c0_i32_311 : BitVec 32) : Fin 4 → Nat :=
  let c0_318 : Index := 0#32
  let c0_319 : Index := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_235 : BitVec 32 := 0#32
  let v510 : BitVec 1 := Scalar.cmpi .sgt v404 c0_i32_235
  let v511 : BitVec 32 := Scalar.extui v510
  let c0_i32_236 : BitVec 32 := 0#32
  let v512 : BitVec 1 := Scalar.cmpi .slt v404 c0_i32_236
  let v513 : BitVec 32 := Scalar.extui v512
  let v514 : BitVec 32 := Scalar.subi v511 v513
  let c4_i32_234 : BitVec 32 := 4#32
  let c0_i32_237 : BitVec 32 := 0#32
  let v515 : BitVec 1 := Scalar.cmpi .sgt c4_i32_234 c0_i32_237
  let v516 : BitVec 32 := Scalar.extui v515
  let c0_i32_238 : BitVec 32 := 0#32
  let v517 : BitVec 1 := Scalar.cmpi .slt c4_i32_234 c0_i32_238
  let v518 : BitVec 32 := Scalar.extui v517
  let v519 : BitVec 32 := Scalar.subi v516 v518
  let v520 : BitVec 1 := Scalar.cmpi .ne v514 v519
  let v521 : BitVec 32 := Scalar.remsi v404 c4_i32_234
  let c0_i32_239 : BitVec 32 := 0#32
  let v522 : BitVec 1 := Scalar.cmpi .ne v521 c0_i32_239
  let v523 : BitVec 1 := Scalar.andi v520 v522
  let v509 : BitVec 32 := Scalar.divsi v404 c4_i32_234
  let c1_i32_240 : BitVec 32 := 1#32
  let v524 : BitVec 32 := Scalar.subi v509 c1_i32_240
  let v525 : BitVec 32 := Scalar.select v523 v524 v509
  let c4_i32_241 : BitVec 32 := 4#32
  let v526 : BitVec 32 := Scalar.muli v525 c4_i32_241
  let v667 : BitVec 32 := Scalar.addi v526 c0_i32_311
  let c1024_i32 : BitVec 32 := 1024#32
  let v672 : BitVec 32 := Scalar.muli v667 c1024_i32
  let v673 : BitVec 32 := v672
  let v674 : Index := Scalar.indexCast v673
  let c0_320 : Index := 0#32
  ![0, 0, v674.toNat, 0]
def k0_off21 (i : grid0.Coords) (c0_i32_311 : BitVec 32) : Fin 4 → Nat :=
  let c0_321 : Index := 0#32
  let c0_322 : Index := 0#32
  let c0_323 : Index := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_235 : BitVec 32 := 0#32
  let v510 : BitVec 1 := Scalar.cmpi .sgt v404 c0_i32_235
  let v511 : BitVec 32 := Scalar.extui v510
  let c0_i32_236 : BitVec 32 := 0#32
  let v512 : BitVec 1 := Scalar.cmpi .slt v404 c0_i32_236
  let v513 : BitVec 32 := Scalar.extui v512
  let v514 : BitVec 32 := Scalar.subi v511 v513
  let c4_i32_234 : BitVec 32 := 4#32
  let c0_i32_237 : BitVec 32 := 0#32
  let v515 : BitVec 1 := Scalar.cmpi .sgt c4_i32_234 c0_i32_237
  let v516 : BitVec 32 := Scalar.extui v515
  let c0_i32_238 : BitVec 32 := 0#32
  let v517 : BitVec 1 := Scalar.cmpi .slt c4_i32_234 c0_i32_238
  let v518 : BitVec 32 := Scalar.extui v517
  let v519 : BitVec 32 := Scalar.subi v516 v518
  let v520 : BitVec 1 := Scalar.cmpi .ne v514 v519
  let v521 : BitVec 32 := Scalar.remsi v404 c4_i32_234
  let c0_i32_239 : BitVec 32 := 0#32
  let v522 : BitVec 1 := Scalar.cmpi .ne v521 c0_i32_239
  let v523 : BitVec 1 := Scalar.andi v520 v522
  let v509 : BitVec 32 := Scalar.divsi v404 c4_i32_234
  let c1_i32_240 : BitVec 32 := 1#32
  let v524 : BitVec 32 := Scalar.subi v509 c1_i32_240
  let v525 : BitVec 32 := Scalar.select v523 v524 v509
  let c4_i32_241 : BitVec 32 := 4#32
  let v526 : BitVec 32 := Scalar.muli v525 c4_i32_241
  let v667 : BitVec 32 := Scalar.addi v526 c0_i32_311
  let c1024_i32 : BitVec 32 := 1024#32
  let v672 : BitVec 32 := Scalar.muli v667 c1024_i32
  let v673 : BitVec 32 := v672
  let v677 : Index := Scalar.indexCast v673
  ![0, 0, 0, v677.toNat]
def k0_mult18 (i : grid0.Coords) : BitVec 32 :=
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_235 : BitVec 32 := 0#32
  let v510 : BitVec 1 := Scalar.cmpi .sgt v404 c0_i32_235
  let v511 : BitVec 32 := Scalar.extui v510
  let c0_i32_236 : BitVec 32 := 0#32
  let v512 : BitVec 1 := Scalar.cmpi .slt v404 c0_i32_236
  let v513 : BitVec 32 := Scalar.extui v512
  let v514 : BitVec 32 := Scalar.subi v511 v513
  let c4_i32_234 : BitVec 32 := 4#32
  let c0_i32_237 : BitVec 32 := 0#32
  let v515 : BitVec 1 := Scalar.cmpi .sgt c4_i32_234 c0_i32_237
  let v516 : BitVec 32 := Scalar.extui v515
  let c0_i32_238 : BitVec 32 := 0#32
  let v517 : BitVec 1 := Scalar.cmpi .slt c4_i32_234 c0_i32_238
  let v518 : BitVec 32 := Scalar.extui v517
  let v519 : BitVec 32 := Scalar.subi v516 v518
  let v520 : BitVec 1 := Scalar.cmpi .ne v514 v519
  let v521 : BitVec 32 := Scalar.remsi v404 c4_i32_234
  let c0_i32_239 : BitVec 32 := 0#32
  let v522 : BitVec 1 := Scalar.cmpi .ne v521 c0_i32_239
  let v523 : BitVec 1 := Scalar.andi v520 v522
  let v509 : BitVec 32 := Scalar.divsi v404 c4_i32_234
  let c1_i32_240 : BitVec 32 := 1#32
  let v524 : BitVec 32 := Scalar.subi v509 c1_i32_240
  let v525 : BitVec 32 := Scalar.select v523 v524 v509
  let c4_i32_241 : BitVec 32 := 4#32
  let v526 : BitVec 32 := Scalar.muli v525 c4_i32_241
  let c1_i32_312 : BitVec 32 := 1#32
  let v668 : BitVec 32 := Scalar.addi v526 c1_i32_312
  let c1024_i32_329 : BitVec 32 := 1024#32
  let v691 : BitVec 32 := Scalar.muli v668 c1024_i32_329
  v691
def k0_mult19 (i : grid0.Coords) : BitVec 32 :=
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let c0_i32_235 : BitVec 32 := 0#32
  let v510 : BitVec 1 := Scalar.cmpi .sgt v404 c0_i32_235
  let v511 : BitVec 32 := Scalar.extui v510
  let c0_i32_236 : BitVec 32 := 0#32
  let v512 : BitVec 1 := Scalar.cmpi .slt v404 c0_i32_236
  let v513 : BitVec 32 := Scalar.extui v512
  let v514 : BitVec 32 := Scalar.subi v511 v513
  let c4_i32_234 : BitVec 32 := 4#32
  let c0_i32_237 : BitVec 32 := 0#32
  let v515 : BitVec 1 := Scalar.cmpi .sgt c4_i32_234 c0_i32_237
  let v516 : BitVec 32 := Scalar.extui v515
  let c0_i32_238 : BitVec 32 := 0#32
  let v517 : BitVec 1 := Scalar.cmpi .slt c4_i32_234 c0_i32_238
  let v518 : BitVec 32 := Scalar.extui v517
  let v519 : BitVec 32 := Scalar.subi v516 v518
  let v520 : BitVec 1 := Scalar.cmpi .ne v514 v519
  let v521 : BitVec 32 := Scalar.remsi v404 c4_i32_234
  let c0_i32_239 : BitVec 32 := 0#32
  let v522 : BitVec 1 := Scalar.cmpi .ne v521 c0_i32_239
  let v523 : BitVec 1 := Scalar.andi v520 v522
  let v509 : BitVec 32 := Scalar.divsi v404 c4_i32_234
  let c1_i32_240 : BitVec 32 := 1#32
  let v524 : BitVec 32 := Scalar.subi v509 c1_i32_240
  let v525 : BitVec 32 := Scalar.select v523 v524 v509
  let c4_i32_241 : BitVec 32 := 4#32
  let v526 : BitVec 32 := Scalar.muli v525 c4_i32_241
  let c2_i32_313 : BitVec 32 := 2#32
  let v669 : BitVec 32 := Scalar.addi v526 c2_i32_313
  let c1024_i32_341 : BitVec 32 := 1024#32
  let v710 : BitVec 32 := Scalar.muli v669 c1024_i32_341
  v710
def k0_off22 (i : grid0.Coords) : Fin 4 → Nat :=
  let c0_317 : Index := 0#32
  let c0_318 : Index := 0#32
  let arg2 : BitVec 32 := BitVec.ofNat 32 (i 2).val
  let c128_i32 : BitVec 32 := 128#32
  let v0 : BitVec 32 := Scalar.muli arg2 c128_i32
  let v1 : BitVec 32 := v0
  let c128_i32_48 : BitVec 32 := 128#32
  let v87 : BitVec 32 := Scalar.subi v1 c128_i32_48
  let c0_i32_49 : BitVec 32 := 0#32
  let v88 : BitVec 32 := Scalar.maxsi v87 c0_i32_49
  let v89 : BitVec 32 := v88
  let v675 : Index := Scalar.indexCast v89
  let c0_319 : Index := 0#32
  ![0, 0, v675.toNat, 0]
def k0_mult20 (i : grid0.Coords) : BitVec 32 :=
  let arg2 : BitVec 32 := BitVec.ofNat 32 (i 2).val
  let c128_i32 : BitVec 32 := 128#32
  let v0 : BitVec 32 := Scalar.muli arg2 c128_i32
  let v1 : BitVec 32 := v0
  let c128_i32_48 : BitVec 32 := 128#32
  let v87 : BitVec 32 := Scalar.subi v1 c128_i32_48
  let c0_i32_49 : BitVec 32 := 0#32
  let v88 : BitVec 32 := Scalar.maxsi v87 c0_i32_49
  let v89 : BitVec 32 := v88
  let c512_i32_323 : BitVec 32 := 512#32
  let v680 : BitVec 32 := Scalar.subi v1 c512_i32_323
  let v681 : BitVec 32 := Scalar.subi v89 v680
  v681
def k0_off23 (i : grid0.Coords) : Fin 3 → Nat :=
  let c0_324 : Index := 0#32
  let arg2 : BitVec 32 := BitVec.ofNat 32 (i 2).val
  let c128_i32 : BitVec 32 := 128#32
  let v0 : BitVec 32 := Scalar.muli arg2 c128_i32
  let v1 : BitVec 32 := v0
  let c128_i32_48 : BitVec 32 := 128#32
  let v87 : BitVec 32 := Scalar.subi v1 c128_i32_48
  let c0_i32_49 : BitVec 32 := 0#32
  let v88 : BitVec 32 := Scalar.maxsi v87 c0_i32_49
  let v89 : BitVec 32 := v88
  let c512_i32_323 : BitVec 32 := 512#32
  let v680 : BitVec 32 := Scalar.subi v1 c512_i32_323
  let v681 : BitVec 32 := Scalar.subi v89 v680
  let v682 : BitVec 32 := v681
  let v683 : Index := Scalar.indexCast v682
  let c0_325 : Index := 0#32
  ![0, v683.toNat, 0]
def k0_off24 (i : grid0.Coords) : Fin 4 → Nat :=
  let c0_327 : Index := 0#32
  let c0_328 : Index := 0#32
  let c0_329 : Index := 0#32
  let arg2 : BitVec 32 := BitVec.ofNat 32 (i 2).val
  let c128_i32 : BitVec 32 := 128#32
  let v0 : BitVec 32 := Scalar.muli arg2 c128_i32
  let v1 : BitVec 32 := v0
  let c128_i32_48 : BitVec 32 := 128#32
  let v87 : BitVec 32 := Scalar.subi v1 c128_i32_48
  let c0_i32_49 : BitVec 32 := 0#32
  let v88 : BitVec 32 := Scalar.maxsi v87 c0_i32_49
  let v89 : BitVec 32 := v88
  let v689 : Index := Scalar.indexCast v89
  ![0, 0, 0, v689.toNat]
@[reducible] def k0_t3_loop (i : grid0.Coords) : Scf.Loop 32 :=
  let c0_i32_339 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let v711 : BitVec 32 := Scalar.subi v404 c0_i32_339
  let c1_i32_341 : BitVec 32 := 1#32
  let v713 : BitVec 32 := Scalar.divsi v711 c1_i32_341
  let v714 : BitVec 32 := Scalar.muli v713 c1_i32_341
  let v715 : BitVec 32 := Scalar.addi c0_i32_339 v714
  let c1_i32_342 : BitVec 32 := 1#32
  ⟨c0_i32_339, v715, c1_i32_342⟩
def k0_mult21 (i : grid0.Coords) (k0_t3 : Fin (k0_t3_loop i).trips) : BitVec 32 :=
  let c0_i32_339 : BitVec 32 := 0#32
  let c1_i32_342 : BitVec 32 := 1#32
  let arg22 : BitVec 32 := Scf.iv c0_i32_339 c1_i32_342 k0_t3
  let c1024_i32 : BitVec 32 := 1024#32
  let v805 : BitVec 32 := Scalar.muli arg22 c1024_i32
  v805
def k0_off25 (i : grid0.Coords) (k0_t3 : Fin (k0_t3_loop i).trips) : Fin 4 → Nat :=
  let c0_389 : Index := 0#32
  let c0_390 : Index := 0#32
  let c0_i32_339 : BitVec 32 := 0#32
  let c1_i32_342 : BitVec 32 := 1#32
  let arg22 : BitVec 32 := Scf.iv c0_i32_339 c1_i32_342 k0_t3
  let c1024_i32 : BitVec 32 := 1024#32
  let v805 : BitVec 32 := Scalar.muli arg22 c1024_i32
  let v806 : BitVec 32 := v805
  let v807 : Index := Scalar.indexCast v806
  let c0_391 : Index := 0#32
  ![0, 0, v807.toNat, 0]
def k0_off26 (i : grid0.Coords) (k0_t3 : Fin (k0_t3_loop i).trips) : Fin 4 → Nat :=
  let c0_392 : Index := 0#32
  let c0_393 : Index := 0#32
  let c0_394 : Index := 0#32
  let c0_i32_339 : BitVec 32 := 0#32
  let c1_i32_342 : BitVec 32 := 1#32
  let arg22 : BitVec 32 := Scf.iv c0_i32_339 c1_i32_342 k0_t3
  let c1024_i32 : BitVec 32 := 1024#32
  let v805 : BitVec 32 := Scalar.muli arg22 c1024_i32
  let v806 : BitVec 32 := v805
  let v810 : Index := Scalar.indexCast v806
  ![0, 0, 0, v810.toNat]
@[reducible] def k0_t4_loop (i : grid0.Coords) : Scf.Loop 32 :=
  let c0_i32_339 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let v711 : BitVec 32 := Scalar.subi v404 c0_i32_339
  let c1_i32_341 : BitVec 32 := 1#32
  let v713 : BitVec 32 := Scalar.divsi v711 c1_i32_341
  let v714 : BitVec 32 := Scalar.muli v713 c1_i32_341
  let v715 : BitVec 32 := Scalar.addi c0_i32_339 v714
  let v712 : BitVec 32 := Scalar.addi c0_i32_339 v711
  let c1_i32_343 : BitVec 32 := 1#32
  ⟨v715, v712, c1_i32_343⟩
def k0_mult22 (i : grid0.Coords) (k0_t4 : Fin (k0_t4_loop i).trips) : BitVec 32 :=
  let c0_i32_339 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let v711 : BitVec 32 := Scalar.subi v404 c0_i32_339
  let c1_i32_341 : BitVec 32 := 1#32
  let v713 : BitVec 32 := Scalar.divsi v711 c1_i32_341
  let v714 : BitVec 32 := Scalar.muli v713 c1_i32_341
  let v715 : BitVec 32 := Scalar.addi c0_i32_339 v714
  let c1_i32_343 : BitVec 32 := 1#32
  let arg22 : BitVec 32 := Scf.iv v715 c1_i32_343 k0_t4
  let c1024_i32 : BitVec 32 := 1024#32
  let v805 : BitVec 32 := Scalar.muli arg22 c1024_i32
  v805
def k0_off27 (i : grid0.Coords) (k0_t4 : Fin (k0_t4_loop i).trips) : Fin 4 → Nat :=
  let c0_389 : Index := 0#32
  let c0_390 : Index := 0#32
  let c0_i32_339 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let v711 : BitVec 32 := Scalar.subi v404 c0_i32_339
  let c1_i32_341 : BitVec 32 := 1#32
  let v713 : BitVec 32 := Scalar.divsi v711 c1_i32_341
  let v714 : BitVec 32 := Scalar.muli v713 c1_i32_341
  let v715 : BitVec 32 := Scalar.addi c0_i32_339 v714
  let c1_i32_343 : BitVec 32 := 1#32
  let arg22 : BitVec 32 := Scf.iv v715 c1_i32_343 k0_t4
  let c1024_i32 : BitVec 32 := 1024#32
  let v805 : BitVec 32 := Scalar.muli arg22 c1024_i32
  let v806 : BitVec 32 := v805
  let v807 : Index := Scalar.indexCast v806
  let c0_391 : Index := 0#32
  ![0, 0, v807.toNat, 0]
def k0_off28 (i : grid0.Coords) (k0_t4 : Fin (k0_t4_loop i).trips) : Fin 4 → Nat :=
  let c0_392 : Index := 0#32
  let c0_393 : Index := 0#32
  let c0_394 : Index := 0#32
  let c0_i32_339 : BitVec 32 := 0#32
  let arg2 : BitVec 32 := BitVec.ofNat 32 (i 2).val
  let c8_i32_174 : BitVec 32 := 8#32
  let v386 : BitVec 32 := Scalar.addi arg2 c8_i32_174
  let c2_i32_175 : BitVec 32 := 2#32
  let v387 : BitVec 32 := Scalar.subi v386 c2_i32_175
  let c0_i32_177 : BitVec 32 := 0#32
  let v389 : BitVec 1 := Scalar.cmpi .sgt v387 c0_i32_177
  let v390 : BitVec 32 := Scalar.extui v389
  let c0_i32_178 : BitVec 32 := 0#32
  let v391 : BitVec 1 := Scalar.cmpi .slt v387 c0_i32_178
  let v392 : BitVec 32 := Scalar.extui v391
  let v393 : BitVec 32 := Scalar.subi v390 v392
  let c8_i32_176 : BitVec 32 := 8#32
  let c0_i32_179 : BitVec 32 := 0#32
  let v394 : BitVec 1 := Scalar.cmpi .sgt c8_i32_176 c0_i32_179
  let v395 : BitVec 32 := Scalar.extui v394
  let c0_i32_180 : BitVec 32 := 0#32
  let v396 : BitVec 1 := Scalar.cmpi .slt c8_i32_176 c0_i32_180
  let v397 : BitVec 32 := Scalar.extui v396
  let v398 : BitVec 32 := Scalar.subi v395 v397
  let v399 : BitVec 1 := Scalar.cmpi .ne v393 v398
  let v400 : BitVec 32 := Scalar.remsi v387 c8_i32_176
  let c0_i32_181 : BitVec 32 := 0#32
  let v401 : BitVec 1 := Scalar.cmpi .ne v400 c0_i32_181
  let v402 : BitVec 1 := Scalar.andi v399 v401
  let v388 : BitVec 32 := Scalar.divsi v387 c8_i32_176
  let c1_i32_182 : BitVec 32 := 1#32
  let v403 : BitVec 32 := Scalar.subi v388 c1_i32_182
  let v404 : BitVec 32 := Scalar.select v402 v403 v388
  let v711 : BitVec 32 := Scalar.subi v404 c0_i32_339
  let c1_i32_341 : BitVec 32 := 1#32
  let v713 : BitVec 32 := Scalar.divsi v711 c1_i32_341
  let v714 : BitVec 32 := Scalar.muli v713 c1_i32_341
  let v715 : BitVec 32 := Scalar.addi c0_i32_339 v714
  let c1_i32_343 : BitVec 32 := 1#32
  let arg22 : BitVec 32 := Scf.iv v715 c1_i32_343 k0_t4
  let c1024_i32 : BitVec 32 := 1024#32
  let v805 : BitVec 32 := Scalar.muli arg22 c1024_i32
  let v806 : BitVec 32 := v805
  let v810 : Index := Scalar.indexCast v806
  ![0, 0, 0, v810.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x80x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x80x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x80x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1152x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Proof.RowMath.lean ====
module

public import Idealize.ShloMosaic.Lib.Pointwise

/-! The row functions of the decoder layers, over extended reals: RMS normalisation of one row and the
    squared-ReLU MLP of one row. The kernels and the references are both shown to compute them. -/

@[expose] public section

noncomputable section

namespace Cert.Row

open Idealize.ShloMosaic

/-- One row divided by its root mean square (with the small constant added to the mean) and scaled by the
    gain, entry `k`. -/
def rms (x g : Fin 1024 → EReal) (k : Fin 1024) : EReal :=
  x k * Ideal.rsqrt (Ideal.div (∑ l, x l * x l) (Ideal.ofBits .f32 0x44800000#32) + Ideal.ofBits .f32 0x358637BD#32) * g k

/-- The MLP's hidden value `h` of one row, before the nonlinearity. -/
def hidden (x g : Fin 1024 → EReal) (U : Fin 1024 → Fin 4096 → EReal) (h : Fin 4096) : EReal :=
  ∑ k, rms x g k * U k h

/-- One row plus its squared-ReLU MLP, entry `d`. -/
def mlp (x g : Fin 1024 → EReal) (U : Fin 1024 → Fin 4096 → EReal) (D : Fin 4096 → Fin 1024 → EReal) (d : Fin 1024) : EReal :=
  x d + ∑ h, max (hidden x g U h) 0 * max (hidden x g U h) 0 * D h d

/-- Column `j` of one normalised row's projection. -/
def proj (x g : Fin 1024 → EReal) (W : Fin 1024 → Fin 3072 → EReal) (j : Fin 3072) : EReal :=
  ∑ k, rms x g k * W k j

/-- The product of the second and the third part of one row's projection: the value the short convolution reads. -/
def gated (x g : Fin 1024 → EReal) (W : Fin 1024 → Fin 3072 → EReal) (d : Fin 1024) : EReal :=
  proj x g W ⟨1024 + d, by omega⟩ * proj x g W ⟨2048 + d, by omega⟩

/-- One row plus its short gated convolution, entry `e`; `p2` and `p1` are the gated values two rows and one row
    earlier, `w` the three taps and `O` the output weights. -/
def mix (x g : Fin 1024 → EReal) (W : Fin 1024 → Fin 3072 → EReal) (p2 p1 : Fin 1024 → EReal)
    (w : Fin 3 → Fin 1024 → EReal) (O : Fin 1024 → Fin 1024 → EReal) (e : Fin 1024) : EReal :=
  x e + ∑ d : Fin 1024, proj x g W ⟨d, by omega⟩ * (w 0 d * p2 d + w 1 d * p1 d + w 2 d * gated x g W d) * O d e

/-- The logistic function. -/
def gate (z : EReal) : EReal := Ideal.div 1 (1 + Ideal.exp (-z))

/-- The logistic function at zero is one half. -/
theorem gate_zero : gate 0 = Ideal.ofBits .f32 0x3F000000#32 := by
  have h : Ideal.ofBits .f32 0x3F000000#32 = ((1 / 2 : ℝ) : EReal) := by
    simp [Ideal.ofBits, Ideal.ieee, -EReal.coe_mul]; norm_num
  rw [h, gate, neg_zero, show (0 : EReal) = ((0 : ℝ) : EReal) from rfl, Ideal.exp_coe, Real.exp_zero,
    show ((1 : EReal) + ((1 : ℝ) : EReal)) = ((2 : ℝ) : EReal) by norm_cast, Ideal.div_coe (by norm_num), one_mul]

/-- A sum over 4096 indices, cut into four runs of 1024. -/
theorem sum_four (f : Fin 4096 → EReal) :
    ∑ h, f h = ∑ x : Fin 1024, f ⟨x, by omega⟩ + ∑ x : Fin 1024, f ⟨1024 + x, by omega⟩
      + ∑ x : Fin 1024, f ⟨2048 + x, by omega⟩ + ∑ x : Fin 1024, f ⟨3072 + x, by omega⟩ := by
  rw [Fin.sum_univ_tiles 4 1024 rfl f, Fin.sum_univ_four]
  refine congrArg₂ (· + ·) (congrArg₂ (· + ·) (congrArg₂ (· + ·) ?_ ?_) ?_) ?_ <;>
    exact Finset.sum_congr rfl fun x _ => congrArg f (Fin.ext (by simp))

end Cert.Row

end
-- ==== Proof.MixRef.lean ====
module

public import proofs.«01_k».proof.Proof.RowMath
public import proofs.«01_k».proof.Proof.Gen.MixRefIdeal.Run
public import Idealize.ShloMosaic.Lib.Pointwise

/-! The short gated convolution's reference, read at an index. -/

@[expose] public section

set_option maxRecDepth 16384

noncomputable section

namespace Cert.MixRefIdeal.Val

open Idealize.ShloMosaic Idealize.ShloMosaic.TcCoe Idealize.SL.Sem
open Cert.MixRefIdeal Cert.MixRefIdeal.Gen

/-- The reference's result as the composed term of its arguments. -/
def term (A0 : FVec Ideal S4x8192x1024 .f32) (A1 : FVec Ideal S2x1024 .f32) (A2 : FVec Ideal S1x1024x3072 .f32) (A3 : FVec Ideal S1x3x1024 .f32) (A4 : FVec Ideal S1x1024x1024 .f32) : FVec Ideal S4x8192x1024 .f32 :=
  addf A0 (Host.dotGeneral dot_S4x8192x1024_S1024x1024_S4x8192x1024_2_0_01_1_n_n none (mulf (extractStridedSlice S4x8192x1024 ![0, 0, 0] (Host.dotGeneral dot_S4x8192x1024_S1024x3072_S4x8192x3072_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![0, 0] A1 slices_S2x1024_S1x1024_0_0) shapeCasts_S1x1024_S1024)))) (shapeCast _ A2 shapeCasts_S1x1024x3072_S1024x3072)) slices_S4x8192x3072_S4x8192x1024_0_0_0) (addf (addf (addf (broadcastInDim S4x8192x1024 ![] bcast_S_S4x8192x1024 (constant S_ .f32 0x00000000#32)) (mulf (broadcastInDim S4x8192x1024 ![0, 1, 2] bcast_S1x1x1024_S4x8192x1024_0_1_2 (broadcastInDim S1x1x1024 ![2] bcast_S1024_S1x1x1024_2 (shapeCast _ (extractStridedSlice S1x1024 ![0, 0] (shapeCast _ A3 shapeCasts_S1x3x1024_S3x1024) slices_S3x1024_S1x1024_0_0) shapeCasts_S1x1024_S1024))) (extractStridedSlice S4x8192x1024 ![0, 0, 0] (pad S4x8194x1024 ![0, 2, 0] ![0, 0, 0] ![0, 0, 0] (mulf (extractStridedSlice S4x8192x1024 ![0, 0, 1024] (Host.dotGeneral dot_S4x8192x1024_S1024x3072_S4x8192x3072_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![0, 0] A1 slices_S2x1024_S1x1024_0_0) shapeCasts_S1x1024_S1024)))) (shapeCast _ A2 shapeCasts_S1x1024x3072_S1024x3072)) slices_S4x8192x3072_S4x8192x1024_0_0_1024) (extractStridedSlice S4x8192x1024 ![0, 0, 2048] (Host.dotGeneral dot_S4x8192x1024_S1024x3072_S4x8192x3072_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![0, 0] A1 slices_S2x1024_S1x1024_0_0) shapeCasts_S1x1024_S1024)))) (shapeCast _ A2 shapeCasts_S1x1024x3072_S1024x3072)) slices_S4x8192x3072_S4x8192x1024_0_0_2048)) (sitofp .f32 (constantI S_ 32 0#32)) pads_S4x8192x1024_S4x8194x1024_000_200_000 h_S_) slices_S4x8194x1024_S4x8192x1024_0_0_0))) (mulf (broadcastInDim S4x8192x1024 ![0, 1, 2] bcast_S1x1x1024_S4x8192x1024_0_1_2 (broadcastInDim S1x1x1024 ![2] bcast_S1024_S1x1x1024_2 (shapeCast _ (extractStridedSlice S1x1024 ![1, 0] (shapeCast _ A3 shapeCasts_S1x3x1024_S3x1024) slices_S3x1024_S1x1024_1_0) shapeCasts_S1x1024_S1024))) (extractStridedSlice S4x8192x1024 ![0, 1, 0] (pad S4x8194x1024 ![0, 2, 0] ![0, 0, 0] ![0, 0, 0] (mulf (extractStridedSlice S4x8192x1024 ![0, 0, 1024] (Host.dotGeneral dot_S4x8192x1024_S1024x3072_S4x8192x3072_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![0, 0] A1 slices_S2x1024_S1x1024_0_0) shapeCasts_S1x1024_S1024)))) (shapeCast _ A2 shapeCasts_S1x1024x3072_S1024x3072)) slices_S4x8192x3072_S4x8192x1024_0_0_1024) (extractStridedSlice S4x8192x1024 ![0, 0, 2048] (Host.dotGeneral dot_S4x8192x1024_S1024x3072_S4x8192x3072_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![0, 0] A1 slices_S2x1024_S1x1024_0_0) shapeCasts_S1x1024_S1024)))) (shapeCast _ A2 shapeCasts_S1x1024x3072_S1024x3072)) slices_S4x8192x3072_S4x8192x1024_0_0_2048)) (sitofp .f32 (constantI S_ 32 0#32)) pads_S4x8192x1024_S4x8194x1024_000_200_000 h_S_) slices_S4x8194x1024_S4x8192x1024_0_1_0))) (mulf (broadcastInDim S4x8192x1024 ![0, 1, 2] bcast_S1x1x1024_S4x8192x1024_0_1_2 (broadcastInDim S1x1x1024 ![2] bcast_S1024_S1x1x1024_2 (shapeCast _ (extractStridedSlice S1x1024 ![2, 0] (shapeCast _ A3 shapeCasts_S1x3x1024_S3x1024) slices_S3x1024_S1x1024_2_0) shapeCasts_S1x1024_S1024))) (extractStridedSlice S4x8192x1024 ![0, 2, 0] (pad S4x8194x1024 ![0, 2, 0] ![0, 0, 0] ![0, 0, 0] (mulf (extractStridedSlice S4x8192x1024 ![0, 0, 1024] (Host.dotGeneral dot_S4x8192x1024_S1024x3072_S4x8192x3072_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![0, 0] A1 slices_S2x1024_S1x1024_0_0) shapeCasts_S1x1024_S1024)))) (shapeCast _ A2 shapeCasts_S1x1024x3072_S1024x3072)) slices_S4x8192x3072_S4x8192x1024_0_0_1024) (extractStridedSlice S4x8192x1024 ![0, 0, 2048] (Host.dotGeneral dot_S4x8192x1024_S1024x3072_S4x8192x3072_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![0, 0] A1 slices_S2x1024_S1x1024_0_0) shapeCasts_S1x1024_S1024)))) (shapeCast _ A2 shapeCasts_S1x1024x3072_S1024x3072)) slices_S4x8192x3072_S4x8192x1024_0_0_2048)) (sitofp .f32 (constantI S_ 32 0#32)) pads_S4x8192x1024_S4x8194x1024_000_200_000 h_S_) slices_S4x8194x1024_S4x8192x1024_0_2_0)))) (shapeCast _ A4 shapeCasts_S1x1024x1024_S1024x1024))

/-- Row `s` of sequence `b`: the short gated convolution reads the gated values of rows `s - 2`, `s - 1` and `s`, zero
    before the sequence's start. -/
theorem term_at (A0 : FVec Ideal S4x8192x1024 .f32) (A1 : FVec Ideal S2x1024 .f32) (A2 : FVec Ideal S1x1024x3072 .f32) (A3 : FVec Ideal S1x3x1024 .f32) (A4 : FVec Ideal S1x1024x1024 .f32) (b : Fin 4) (s : Fin 8192) (e : Fin 1024) :
    term A0 A1 A2 A3 A4 (ix3 b s e) = Row.mix (fun k => A0 (ix3 b s k)) (fun k => A1 (ix2 0 k)) (fun k j => A2 (ix3 0 k j))
      (fun d => if h : 2 ≤ s.val then Row.gated (fun k => A0 (ix3 b ⟨s.val - 2, by omega⟩ k)) (fun k => A1 (ix2 0 k))
        (fun k j => A2 (ix3 0 k j)) d else 0)
      (fun d => if h : 1 ≤ s.val then Row.gated (fun k => A0 (ix3 b ⟨s.val - 1, by omega⟩ k)) (fun k => A1 (ix2 0 k))
        (fun k j => A2 (ix3 0 k j)) d else 0)
      (fun i d => A3 (ix3 0 i d)) (fun d e => A4 (ix3 0 d e)) e := by
  pointwise [term, Row.rms, Row.mix, Row.gated, Row.proj]
  have z : FloatOps.sitofp (F := Ideal) FTy.f32 0#32 = (0 : EReal) := by
    show ((((0#32 : BitVec 32).toInt : ℤ) : ℝ) : EReal) = 0
    simp
  have e1 : 1 + s.val - 2 = s.val - 1 := by omega
  have c1 : (2 ≤ 1 + s.val ∧ s.val - 1 < 8192) ↔ 1 ≤ s.val := by omega
  have c2 : (2 ≤ s.val ∧ s.val - 2 < 8192) ↔ 2 ≤ s.val := by omega
  simp only [z, e1, c1, c2]

end Cert.MixRefIdeal.Val

end
-- ==== Proof.MixValue.lean ====
module

public import proofs.«01_k».proof.Proof.Gen.MixIdeal.Frame
public import proofs.«01_k».proof.Proof.MixRef
public import Idealize.ShloMosaic.Lib.Pipeline.ValueKit
public import Idealize.ShloMosaic.Lib.Pointwise
public import Idealize.ShloMosaic.Lib.Pipeline.ReadBack
public import Idealize.ShloMosaic.Lib.Claim

/-! # The short gated convolution: what each grid point stores, and the whole result. -/

@[expose] public section

set_option maxRecDepth 16384

noncomputable section

namespace Cert.MixIdeal.Val

open Idealize.ShloMosaic Idealize.ShloMosaic.TcCoe Idealize.SL.Sem
open Idealize.ShloMosaic.Pipeline (Dat)
open Cert.MixIdeal Cert.MixIdeal.Gen

variable (m : (ℓ : Loc nD τ sig) → Buf (Elt Ideal) ℓ)

/-- The left half of the gated value: the product of two projections of the normalised row. -/
theorem v1_at (v3 : Vec Ideal S1x1024x1024 .f32) (v5 : Vec Ideal S1x1024 .f32) (a b : Vec Ideal S1024x512 .bf16) (r :
    Fin 1024) (d : Fin 512) :
   k0_pay7 v3 v5 a b (ix2 r d) = (∑ k, Row.rms (fun k => v3 (ix3 0 r k)) (fun k => v5 (ix2 0 k)) k * a (ix2 k d)) * (∑
       k, Row.rms (fun k => v3 (ix3 0 r k)) (fun k => v5 (ix2 0 k)) k * b (ix2 k d)) := by
  pointwise [k0_pay7, k0_pay4, k0_pay3, Row.rms]

/-- The right half of the gated value: the product of two projections of the normalised row. -/
theorem v2_at (v3 : Vec Ideal S1x1024x1024 .f32) (v5 : Vec Ideal S1x1024 .f32) (a b : Vec Ideal S1024x512 .bf16) (r :
    Fin 1024) (d : Fin 512) :
   k0_pay12 (k0_pay4 v3 v5) a b (ix2 r d) = (∑ k, Row.rms (fun k => v3 (ix3 0 r k)) (fun k => v5 (ix2 0 k)) k * a (ix2
       k d)) * (∑ k, Row.rms (fun k => v3 (ix3 0 r k)) (fun k => v5 (ix2 0 k)) k * b (ix2 k d)) := by
  pointwise [k0_pay12, k0_pay4, k0_pay3, Row.rms]

/-- Selecting by the equality of two small words is selecting by the equality of the numbers. -/
theorem select_eq {α : Type} (r : Fin 1024) (k : ℕ) (hk : k < 1024) (x y : α) :
    Scalar.select (IntOp.cmpi CmpIPredicate.eq (BitVec.ofNat 32 r) (BitVec.ofNat 32 k)) x y = if r.val = k then x else
        y := by
  word_cmp

/-- The left half's part of the output: the gate times the three-tap convolution of the gated values, projected. The
two earlier values of the first rows come from the carried scratch `s`. -/
theorem half1_at (b v : FVec Ideal S1024x512 .f32) (s : Vec Ideal S8x512 .f32) (w0 w1 w2 : Vec Ideal S1x512 .f32) (o :
    Vec Ideal S512x1024 .bf16) (r e : Fin 1024) :
   k0_pay10 (iota .tc S1024x512 32 [0] iota_S1024x512_d0_w32) k0_pay5 b v s k0_pay8 w0 w1 w2 o (ix2 r e) = ∑ d, b (ix2
       r d) * (w0 (ix2 0 d) * (if h : r.val = 0 then s (ix2 6 d) else if h : r.val = 1 then s (ix2 7 d) else v (ix2 ⟨r.val
       - 2, by omega⟩ d)) + w1 (ix2 0 d) * (if h : r.val = 0 then s (ix2 7 d) else v (ix2 ⟨r.val - 1, by omega⟩ d)) + w2
       (ix2 0 d) * v (ix2 r d)) * o (ix2 d e) := by
  have e1 (r : Fin 1024) (h : ¬ r.val = 0) : (r.val + 1024 - 1) % 1024 = r.val - 1 := by omega
  have e2 (r : Fin 1024) (h : ¬ r.val = 0) (h' : ¬ r.val = 1) : (r.val + 1024 - 2) % 1024 = r.val - 2 := by omega
  pointwise [k0_pay10, k0_pay5, k0_pay8]
  refine Finset.sum_congr rfl fun x _ => ?_
  rw [select_eq r 0 (by omega), select_eq r 1 (by omega), select_eq r 0 (by omega)]
  by_cases h : r.val = 0
  · simp only [h, if_true, dite_true]
  · by_cases h' : r.val = 1
    · simp [h']
    · simp only [h, h', e1 r h, e2 r h h', if_false, dite_false]

/-- The stored block: the residual row, the left half's part, and the right half's part in the same form. -/
theorem half2_at (acc : FVec Ideal S1024x1024 .f32) (v3 : Vec Ideal S1x1024x1024 .f32) (b : FVec Ideal S1024x512 .f32)
    (h4 : FVec Ideal S1024x1024 .bf16) (p q : Vec Ideal S1024x512 .bf16) (s : Vec Ideal S8x512 .f32) (w0 w1 w2 : Vec Ideal
    S1x512 .f32) (o : Vec Ideal S512x1024 .bf16) (r e : Fin 1024) :
   k0_pay1 (k0_pay3 v3) acc b (k0_pay12 h4 p q) (k0_pay13 h4 (iota .tc S1024x512 32 [0] iota_S1024x512_d0_w32) p q s)
     (k0_pay15 h4 (iota .tc S1024x512 32 [0] iota_S1024x512_d0_w32) p q s w0) w1 w2 o (ix3 0 r e) = v3 (ix3 0 r e) +
         (acc (ix2 r e) + ∑ d, b (ix2 r d) * (w0 (ix2 0 d) * (if h : r.val = 0 then s (ix2 6 d) else if h : r.val = 1 then
         s (ix2 7 d) else k0_pay12 h4 p q (ix2 ⟨r.val - 2, by omega⟩ d)) + w1 (ix2 0 d) * (if h : r.val = 0 then s (ix2 7
         d) else k0_pay12 h4 p q (ix2 ⟨r.val - 1, by omega⟩ d)) + w2 (ix2 0 d) * k0_pay12 h4 p q (ix2 r d)) * o (ix2 d e))
         := by
  have e1 (r : Fin 1024) (h : ¬ r.val = 0) : (r.val + 1024 - 1) % 1024 = r.val - 1 := by omega
  have e2 (r : Fin 1024) (h : ¬ r.val = 0) (h' : ¬ r.val = 1) : (r.val + 1024 - 2) % 1024 = r.val - 2 := by omega
  generalize hv : k0_pay12 h4 p q = v
  pointwise [k0_pay1, k0_pay3, k0_pay13, k0_pay15, hv]
  refine congrArg (v3 (ix3 0 r e) + ·) (congrArg (acc (ix2 r e) + ·) (Finset.sum_congr rfl fun x _ => ?_))
  rw [select_eq r 0 (by omega), select_eq r 1 (by omega), select_eq r 0 (by omega)]
  by_cases h : r.val = 0
  · simp only [h, if_true, dite_true]
  · by_cases h' : r.val = 1
    · simp [h']
    · simp only [h, h', e1 r h, e2 r h h', if_false, dite_false]

/-- The left half of the gate: a projection of the normalised row. -/
theorem b1_at (v3 : Vec Ideal S1x1024x1024 .f32) (v5 : Vec Ideal S1x1024 .f32) (a : Vec Ideal S1024x512 .bf16) (r :
    Fin 1024) (d : Fin 512) :
   k0_pay6 v3 v5 a (ix2 r d) = ∑ k, Row.rms (fun k => v3 (ix3 0 r k)) (fun k => v5 (ix2 0 k)) k * a (ix2 k d) := by
  pointwise [k0_pay6, k0_pay4, k0_pay3, Row.rms]
/-- The right half of the gate: a projection of the normalised row. -/
theorem b2_at (v3 : Vec Ideal S1x1024x1024 .f32) (v5 : Vec Ideal S1x1024 .f32) (a : Vec Ideal S1024x512 .bf16) (r :
    Fin 1024) (d : Fin 512) :
   k0_pay11 (k0_pay4 v3 v5) a (ix2 r d) = ∑ k, Row.rms (fun k => v3 (ix3 0 r k)) (fun k => v5 (ix2 0 k)) k * a (ix2 k
       d) := by
  pointwise [k0_pay11, k0_pay4, k0_pay3, Row.rms]
/-- The left half of the carried scratch: the last eight rows. -/
theorem last1_at (v : FVec Ideal S1024x512 .f32) (r : Fin 8) (d : Fin 512) : k0_pay9 v (ix2 r d) = v (ix2 ⟨1016 + r,
    by omega⟩ d) := by
  pointwise [k0_pay9]
/-- The right half of the carried scratch: the last eight rows. -/
theorem last2_at (h4 : FVec Ideal S1024x1024 .bf16) (p q : Vec Ideal S1024x512 .bf16) (r : Fin 8) (d : Fin 512) :
    k0_pay14 h4 p q (ix2 r d) = k0_pay12 h4 p q (ix2 ⟨1016 + r, by omega⟩ d) := by
  pointwise [k0_pay14]

/-- The gated value of row `r` of grid point `t`'s block. -/
def gat (c : Dev nD) (t : Fin cfg0.N) (r d : Fin 1024) : EReal :=
  Row.gated (fun k => iblk m c 0 t (ix3 0 r k)) (fun k => iblk m c 1 t (ix2 0 k)) (fun k j => iblk m c 2 t (ix2 k j)) d

/-- The short convolution of row `r` of grid point `t`'s block, over the given earlier gated values. -/
def mixed (c : Dev nD) (t : Fin cfg0.N) (r : Fin 1024) (p2 p1 : Fin 1024 → EReal) (e : Fin 1024) : EReal :=
  Row.mix (fun k => iblk m c 0 t (ix3 0 r k)) (fun k => iblk m c 1 t (ix2 0 k)) (fun k j => iblk m c 2 t (ix2 k j))
    p2 p1 (fun i d => iblk m c 3 t (ix2 i d)) (fun d e => iblk m c 4 t (ix2 d e)) e

/-- The block stored at a point that goes on with a sequence, over the carried scratch of the point before. -/
theorem out_next (c : Dev nD) (t : Fin cfg0.N) (h0 : ¬t.val % 8 = 0) (r e : Fin 1024) : (outsAt0 m c t.val t.isLt).1
    (ix3 0 r e)
    = mixed m c t r (fun d => if h : r.val = 0 then (outsAt0 m c (t.val - 1) (Nat.lt_of_le_of_lt (Nat.sub_le _ _)
        t.isLt)).2 (ix2 6 d) else if h : r.val = 1 then (outsAt0 m c (t.val - 1) (Nat.lt_of_le_of_lt (Nat.sub_le _ _)
        t.isLt)).2 (ix2 7 d) else gat m c t ⟨r.val - 2, by omega⟩ d)
       (fun d => if h : r.val = 0 then (outsAt0 m c (t.val - 1) (Nat.lt_of_le_of_lt (Nat.sub_le _ _) t.isLt)).2 (ix2 7
           d) else gat m c t ⟨r.val - 1, by omega⟩ d) e := by
  rw [outsAt0_B m c t h0]
  frame_out
  rw [half2_at, half1_at]
  simp only [v1_at, v2_at, b1_at, b2_at, read_unread_whole]
  pointwise []
  unfold mixed Row.mix gat Row.gated Row.proj
  conv_rhs => rw [Fin.sum_univ_two_halves 512 512 rfl]
  refine congrArg₂ (· + ·) rfl (congrArg₂ (· + ·) (Finset.sum_congr rfl fun x _ => ?_) (Finset.sum_congr rfl fun x _ => ?_))
  · rfl
  · have e1 : 1024 + (512 + x.val) = 1536 + x.val := by omega
    have e2 : 2048 + (512 + x.val) = 2560 + x.val := by omega
    simp only [e1, e2]
/-- The scratch left at a point that goes on with a sequence: the last eight gated rows. -/
theorem soutB (c : Dev nD) (t : Fin cfg0.N) (h0 : ¬t.val % 8 = 0) (r : Fin 8) (e : Fin 1024) : (outsAt0 m c t.val
    t.isLt).2 (ix2 r e) = gat m c t ⟨1016 + r, by omega⟩ e := by
  rw [outsAt0_B m c t h0]
  frame_out
  canon_tiles x h
  · idx_vars x
    obtain rfl : r = x0 := Fin.ext h0
    have he : e = ⟨512 + x1, by omega⟩ := Fin.ext h1
    rw [he, last2_at, v2_at]
    have e1 : 1024 + (512 + x1.val) = 1536 + x1.val := by omega
    have e2 : 2048 + (512 + x1.val) = 2560 + x1.val := by omega
    pointwise [gat, Row.gated, Row.proj]
    simp only [e1, e2]
  · idx_vars x
    obtain rfl : r = x0 := Fin.ext h0
    have he : e = ⟨x1, by omega⟩ := Fin.ext h1
    rw [he, last1_at, v1_at]
    pointwise [gat, Row.gated, Row.proj]
/-- The block stored at a point that begins a sequence: the earlier gated values are zero. -/
theorem out_first (c : Dev nD) (t : Fin cfg0.N) (h0 : t.val % 8 = 0) (r e : Fin 1024) : (outsAt0 m c t.val t.isLt).1
    (ix3 0 r e)
    = mixed m c t r (fun d => if h : r.val = 0 then 0 else if h : r.val = 1 then 0 else gat m c t ⟨r.val - 2, by omega⟩ d)
       (fun d => if h : r.val = 0 then 0 else gat m c t ⟨r.val - 1, by omega⟩ d) e := by
  rw [outsAt0_A m c t h0]
  frame_out
  rw [View.readCov_fill _ _ _ _ _ (by decide), View.readCov_skip _ _ _ _ _ (by decide), View.readCov_fill _ _ _ _ _
      (by decide), half2_at, half1_at]
  simp only [v1_at, v2_at, b1_at, b2_at]
  pointwise [k0_pay2]
  unfold mixed Row.mix gat Row.gated Row.proj
  conv_rhs => rw [Fin.sum_univ_two_halves 512 512 rfl]
  refine congrArg₂ (· + ·) rfl (congrArg₂ (· + ·) (Finset.sum_congr rfl fun x _ => ?_) (Finset.sum_congr rfl fun x _ => ?_))
  · rfl
  · have e1 : 1024 + (512 + x.val) = 1536 + x.val := by omega
    have e2 : 2048 + (512 + x.val) = 2560 + x.val := by omega
    simp only [e1, e2]
/-- The scratch left at a point that begins a sequence: the last eight gated rows. -/
theorem soutA (c : Dev nD) (t : Fin cfg0.N) (h0 : t.val % 8 = 0) (r : Fin 8) (e : Fin 1024) : (outsAt0 m c t.val
    t.isLt).2 (ix2 r e) = gat m c t ⟨1016 + r, by omega⟩ e := by
  rw [outsAt0_A m c t h0]
  frame_out
  let G : S8x1024.Idx → Elt Ideal .f32 := fun y =>
    gat m c t ⟨1016 + (y 0).val, by have h : (y 0).val < 8 := (y 0).isLt; omega⟩ ⟨(y 1).val, (y 1).isLt⟩
  have E1 (x0 : Fin 8) (x1 : Fin 512) : (Rect.unit ![0, 0] ![8, 512] inb_S8x1024_S8x512_0_0 : Rect S8x1024).emb (ix2 x0 x1)
      = ix2 x0 ⟨x1, by omega⟩ := by blk_ext []
  have E2 (x0 : Fin 8) (x1 : Fin 512) : (Rect.unit ![0, 512] ![8, 512] inb_S8x1024_S8x512_0_512 : Rect S8x1024).emb
      (ix2 x0 x1)
      = ix2 x0 ⟨512 + x1, by omega⟩ := by blk_ext []
  refine View.canon_append_of_piecesOf G [_] [_, _] ⟨fun x => ?_, fun x => ?_, trivial⟩ (ix2 r e) ?_
  · idx_vars x
    refine ((last2_at _ _ _ _ _).trans (v2_at _ _ _ _ _ _)).trans (Eq.trans ?_ (congrArg G (E2 x0 x1)).symm)
    show _ = gat m c t ⟨1016 + x0, by omega⟩ ⟨512 + x1, by omega⟩
    have e1 : 1024 + (512 + x1.val) = 1536 + x1.val := by omega
    have e2 : 2048 + (512 + x1.val) = 2560 + x1.val := by omega
    pointwise [gat, Row.gated, Row.proj]
    simp only [e1, e2]
  · idx_vars x
    refine ((last1_at _ _ _).trans (v1_at _ _ _ _ _ _)).trans (Eq.trans ?_ (congrArg G (E1 x0 x1)).symm)
    show _ = gat m c t ⟨1016 + x0, by omega⟩ ⟨x1, by omega⟩
    pointwise [gat, Row.gated, Row.proj]
  · by_cases h : e.val < 512
    · refine ⟨_, List.mem_cons_of_mem _ List.mem_cons_self, ?_⟩
      have h1 := E1 r ⟨e, h⟩
      rw [← h1, ← Rect.map_emb_univ]
      exact Finset.mem_map_of_mem _ (Finset.mem_univ _)
    · refine ⟨_, List.mem_cons_self, ?_⟩
      have h0 : 512 + (e.val - 512) = e.val := by omega
      have h1 : _ = ix2 r e := (E2 r ⟨e.val - 512, by omega⟩).trans (congrArg (ix2 r) (Fin.ext h0))
      rw [← h1, ← Rect.map_emb_univ]
      exact Finset.mem_map_of_mem _ (Finset.mem_univ _)

/-- After any grid point the carried scratch holds the last eight gated rows of that point's block. -/
theorem carried (c : Dev nD) (t : Fin cfg0.N) (r : Fin 8) (d : Fin 1024) :
    (outsAt0 m c t.val t.isLt).2 (ix2 r d) = gat m c t ⟨1016 + r, by omega⟩ d := by
  by_cases h0 : t.val % 8 = 0
  · exact soutA m c t h0 r d
  · exact soutB m c t h0 r d

/-- Every window's block index at a grid point. -/
theorem idx : ∀ t : Fin cfg0.N, win0_0.index t = ![t.val / 8, t.val % 8, 0] ∧ win0_1.index t = ![0, 0]
    ∧ win0_2.index t = ![0, 0] ∧ win0_3.index t = ![0, 0] ∧ win0_4.index t = ![0, 0]
    ∧ win0_5.index t = ![t.val / 8, t.val % 8, 0] :=
  (by decide +kernel : ∀ t : Fin grid0.N, _)

/-- The gain row of every block. -/
theorem blk1 (c : Dev nD) (t : Fin cfg0.N) (k : Fin 1024) :
    iblk m c 1 t (ix2 0 k) = m ((c : Thread nD τ).loc main_arg1) (ix2 0 k) := by blk_point [iblk, V, idx t]
/-- The input weights of every block. -/
theorem blk2 (c : Dev nD) (t : Fin cfg0.N) (k : Fin 1024) (j : Fin 3072) :
    iblk m c 2 t (ix2 k j) = m ((c : Thread nD τ).loc main_arg2) (ix3 0 k j) := by blk_point [iblk, V, idx t]
/-- The convolution's taps of every block. -/
theorem blk3 (c : Dev nD) (t : Fin cfg0.N) (i : Fin 3) (d : Fin 1024) :
    iblk m c 3 t (ix2 i d) = m ((c : Thread nD τ).loc main_arg3) (ix3 0 i d) := by blk_point [iblk, V, idx t]
/-- The output weights of every block. -/
theorem blk4 (c : Dev nD) (t : Fin cfg0.N) (d e : Fin 1024) :
    iblk m c 4 t (ix2 d e) = m ((c : Thread nD τ).loc main_arg4) (ix3 0 d e) := by blk_point [iblk, V, idx t]
/-- Row `r` of point `t`'s block is row `s` of sequence `b`. -/
theorem blk0 (c : Dev nD) (t : Fin cfg0.N) (r : Fin 1024) (b : Fin 4) (s : Fin 8192) (hb : t.val / 8 = b.val)
    (hs : t.val % 8 * 1024 + r.val = s.val) (k : Fin 1024) :
    iblk m c 0 t (ix3 0 r k) = m ((c : Thread nD τ).loc main_arg0) (ix3 b s k) := by
  have ht : t.val < 32 := lt_of_lt_of_eq t.isLt N_0
  have eb : b = ⟨t.val / 8, by omega⟩ := Fin.ext hb.symm
  have es : s = ⟨t.val % 8 * 1024 + r.val, by omega⟩ := Fin.ext hs.symm
  rw [eb, es]
  blk_point [iblk, V, idx t]

/-- The gated value of row `s` of sequence `b`, of the arguments. -/
def gated (c : Dev nD) (b : Fin 4) (s : Fin 8192) (d : Fin 1024) : EReal :=
  Row.gated (fun k => m ((c : Thread nD τ).loc main_arg0) (ix3 b s k)) (fun k => m ((c : Thread nD τ).loc main_arg1)
      (ix2 0 k))
    (fun k j => m ((c : Thread nD τ).loc main_arg2) (ix3 0 k j)) d

/-- A block's gated value is the arguments'. -/
theorem gat_eq (c : Dev nD) (t : Fin cfg0.N) (r : Fin 1024) (b : Fin 4) (s : Fin 8192) (hb : t.val / 8 = b.val)
    (hs : t.val % 8 * 1024 + r.val = s.val) (d : Fin 1024) : gat m c t r d = gated m c b s d := by
  simp only [gat, gated, blk0 m c t r b s hb hs, blk1, blk2]

/-- The result array is the reference's term. -/
theorem final (c : Dev nD) : (dats m 0 c).arrAt 5 (cfgs 0).N
    = MixRefIdeal.Val.term (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  have ht : t.val < 32 := lt_of_lt_of_eq t.isLt N_0
  idx_vars y
  obtain rfl : y0 = 0 := Subsingleton.elim _ _
  have e : ((cfg0.win 5).blk t).view.emb (ix3 0 y1 y2)
      = (ix3 ⟨t.val / 8, by omega⟩ ⟨t.val % 8 * 1024 + y1, by omega⟩ y2 : S4x8192x1024.Idx) := by
    blk_ext [idx t]
  refine Eq.trans ?_ ((congrArg _ e).trans (MixRefIdeal.Val.term_at _ _ _ _ _ _ _ _)).symm
  have p : ∀ d, ∀ k : ℕ, (hk : k ≤ y1.val) → gat m c t ⟨y1.val - k, by omega⟩ d
      = gated m c ⟨t.val / 8, by omega⟩ ⟨t.val % 8 * 1024 + y1.val - k, by omega⟩ d := fun d k hk =>
    gat_eq m c t _ _ _ rfl (by show t.val % 8 * 1024 + (y1.val - k) = t.val % 8 * 1024 + y1.val - k; omega) d
  by_cases h0 : t.val % 8 = 0
  · rw [out_first m c t h0]
    unfold mixed
    simp only [blk0 m c t y1 ⟨t.val / 8, by omega⟩ ⟨t.val % 8 * 1024 + y1, by omega⟩ rfl rfl, blk1, blk2, blk3, blk4]
    refine congrFun (congrFun (congrFun (congrArg₂ _ ?_ ?_) _) _) _ <;> funext d
    · split
      · rw [dif_neg (show ¬ 2 ≤ t.val % 8 * 1024 + y1.val by omega)]
      · split
        · rw [dif_neg (show ¬ 2 ≤ t.val % 8 * 1024 + y1.val by omega)]
        · rw [dif_pos (show 2 ≤ t.val % 8 * 1024 + y1.val by omega)]
          exact p d 2 (by omega)
    · split
      · rw [dif_neg (show ¬ 1 ≤ t.val % 8 * 1024 + y1.val by omega)]
      · rw [dif_pos (show 1 ≤ t.val % 8 * 1024 + y1.val by omega)]
        exact p d 1 (by omega)
  · rw [out_next m c t h0]
    unfold mixed
    have q : ∀ d, ∀ j : Fin 8, ∀ k : ℕ, (hk : y1.val + 8 - j = k) → (hk : k ≤ 1024) →
        (outsAt0 m c (t.val - 1) (Nat.lt_of_le_of_lt (Nat.sub_le _ _) t.isLt)).2 (ix2 j d)
        = gated m c ⟨t.val / 8, by omega⟩ ⟨t.val % 8 * 1024 + y1.val - k, by omega⟩ d := fun d j k hk hk' =>
      (carried m c ⟨t.val - 1, Nat.lt_of_le_of_lt (Nat.sub_le _ _) t.isLt⟩ j d).trans
        (gat_eq m c _ _ _ _ (by show (t.val - 1) / 8 = t.val / 8; omega)
          (by show (t.val - 1) % 8 * 1024 + (1016 + j.val) = t.val % 8 * 1024 + y1.val - k; omega) d)
    simp only [blk0 m c t y1 ⟨t.val / 8, by omega⟩ ⟨t.val % 8 * 1024 + y1, by omega⟩ rfl rfl, blk1, blk2, blk3, blk4]
    refine congrFun (congrFun (congrFun (congrArg₂ _ ?_ ?_) _) _) _ <;> funext d
    · rw [dif_pos (show 2 ≤ t.val % 8 * 1024 + y1.val by omega)]
      split
      · exact q d 6 2 (by omega) (by omega)
      · split
        · exact q d 7 2 (by omega) (by omega)
        · exact p d 2 (by omega)
    · rw [dif_pos (show 1 ≤ t.val % 8 * 1024 + y1.val by omega)]
      split
      · exact q d 7 1 (by omega) (by omega)
      · exact p d 1 (by omega)

end Cert.MixIdeal.Val

end
-- ==== Proof.MlpRef.lean ====
module

public import proofs.«01_k».proof.Proof.RowMath
public import proofs.«01_k».proof.Proof.Gen.MlpRefIdeal.Run
public import Idealize.ShloMosaic.Lib.Pointwise

/-! The MLP reference's result, read at an index: one row of the MLP. -/

@[expose] public section

set_option maxRecDepth 16384

noncomputable section

namespace Cert.MlpRefIdeal.Val

open Idealize.ShloMosaic Idealize.ShloMosaic.TcCoe Idealize.SL.Sem
open Cert.MlpRefIdeal Cert.MlpRefIdeal.Gen

/-- The reference's result as the composed term of its arguments. -/
def term (A0 : FVec Ideal S4x8192x1024 .f32) (A1 : FVec Ideal S2x1024 .f32) (A2 : FVec Ideal S2x1024x4096 .f32)
    (A3 : FVec Ideal S2x4096x1024 .f32) : FVec Ideal S32768x1024 .f32 :=
  shapeCast _ (addf A0 (Host.dotGeneral dot_S4x8192x4096_S4096x1024_S4x8192x1024_2_0_01_1_n_n none (mulf (maximumf (Host.dotGeneral dot_S4x8192x1024_S1024x4096_S4x8192x4096_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![0, 0] A1 slices_S2x1024_S1x1024_0_0) shapeCasts_S1x1024_S1024)))) (shapeCast _ (extractStridedSlice S1x1024x4096 ![0, 0, 0] A2 slices_S2x1024x4096_S1x1024x4096_0_0_0) shapeCasts_S1x1024x4096_S1024x4096)) (broadcastInDim S4x8192x4096 ![] bcast_S_S4x8192x4096 (constant S_ .f32 0x00000000#32))) (maximumf (Host.dotGeneral dot_S4x8192x1024_S1024x4096_S4x8192x4096_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![0, 0] A1 slices_S2x1024_S1x1024_0_0) shapeCasts_S1x1024_S1024)))) (shapeCast _ (extractStridedSlice S1x1024x4096 ![0, 0, 0] A2 slices_S2x1024x4096_S1x1024x4096_0_0_0) shapeCasts_S1x1024x4096_S1024x4096)) (broadcastInDim S4x8192x4096 ![] bcast_S_S4x8192x4096 (constant S_ .f32 0x00000000#32)))) (shapeCast _ (extractStridedSlice S1x4096x1024 ![0, 0, 0] A3 slices_S2x4096x1024_S1x4096x1024_0_0_0) shapeCasts_S1x4096x1024_S4096x1024))) shapeCasts_S4x8192x1024_S32768x1024

/-- Row `r` of the flattened result is the MLP of row `r % 8192` of batch entry `r / 8192`, with layer 0's weights. -/
theorem term_at (A0 : FVec Ideal S4x8192x1024 .f32) (A1 : FVec Ideal S2x1024 .f32) (A2 : FVec Ideal S2x1024x4096 .f32)
    (A3 : FVec Ideal S2x4096x1024 .f32) (r : Fin 32768) (d : Fin 1024) :
    term A0 A1 A2 A3 (ix2 r d) = Row.mlp (fun k => A0 (ix3 ⟨r / 8192, by omega⟩ ⟨r % 8192, by omega⟩ k)) (fun k => A1 (ix2 0 k))
      (fun k h => A2 (ix3 0 k h)) (fun h k => A3 (ix3 0 h k)) d := by
  pointwise [term, Row.mlp, Row.hidden, Row.rms]

end Cert.MlpRefIdeal.Val

end
-- ==== Proof.MlpValue.lean ====
module

public import proofs.«01_k».proof.Proof.Gen.MlpIdeal.Frame
public import proofs.«01_k».proof.Proof.MlpRef
public import Idealize.ShloMosaic.Lib.Pipeline.ValueKit
public import Idealize.ShloMosaic.Lib.Pointwise
public import Idealize.ShloMosaic.Lib.Claim

/-! # The first MLP call: what each grid point stores, and the whole result. -/

@[expose] public section

set_option maxRecDepth 16384

noncomputable section

namespace Cert.MlpIdeal.Val

open Idealize.ShloMosaic Idealize.ShloMosaic.TcCoe Idealize.SL.Sem
open Idealize.ShloMosaic.Pipeline (Dat)
open Cert.MlpIdeal Cert.MlpIdeal.Gen

variable (m : (ℓ : Loc nD τ sig) → Buf (Elt Ideal) ℓ)

/-- Every window's block index at a grid point. -/
theorem idx : ∀ t : Fin cfg0.N, win0_0.index t = ![t.val, 0] ∧ win0_1.index t = ![0, 0]
    ∧ win0_2.index t = ![0, 0] ∧ win0_3.index t = ![0, 0] ∧ win0_4.index t = ![t.val, 0] :=
  (by decide +kernel : ∀ t : Fin grid0.N, _)

/-- What one grid point stores: the MLP of each row of its block. -/
theorem pay (x0 : FVec Ideal S1024x1024 .f32) (x1 : FVec Ideal S1x1024 .f32) (x2 : FVec Ideal S1024x4096 .bf16)
    (x3 : FVec Ideal S4096x1024 .bf16) (r : Fin 1024) (d : Fin 1024) :
    out0_4 (F := Ideal) x0 x1 x2 x3 (ix2 r d) = Row.mlp (fun k => x0 (ix2 r k)) (fun k => x1 (ix2 0 k))
      (fun k h => x2 (ix2 k h)) (fun h k => x3 (ix2 h k)) d := by
  frame_out
  pointwise [k0_pay1, k0_pay2, k0_pay3, k0_pay4, k0_pay5, k0_pay6]
  rw [Row.mlp, Row.sum_four]
  simp only [Row.hidden, Row.rms, add_assoc]

/-- The result array is the reference's term. -/
theorem final (c : Dev nD) : (dats m 0 c).arrAt 4 (cfgs 0).N
    = MlpRefIdeal.Val.term (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  have ht : t.val < 32 := lt_of_lt_of_eq t.isLt N_0
  idx_vars y
  have e : ((cfg0.win 4).blk t).view.emb (ix2 y0 y1) = (ix2 ⟨t.val * 1024 + y0, by omega⟩ y1 : S32768x1024.Idx) := by
    blk_ext [idx t]
  refine (pay _ _ _ _ y0 y1).trans (Eq.trans ?_ ((congrArg _ e).trans (MlpRefIdeal.Val.term_at _ _ _ _ _ _)).symm)
  have b0 (k : Fin 1024) : iblk m c 0 t (ix2 y0 k) = m ((c : Thread nD τ).loc main_arg0)
      (ix3 ⟨(t.val * 1024 + y0) / 8192, by omega⟩ ⟨(t.val * 1024 + y0) % 8192, by omega⟩ k) := by blk_point [iblk, V, idx t]
  have b1 (k : Fin 1024) : iblk m c 1 t (ix2 0 k) = m ((c : Thread nD τ).loc main_arg1) (ix2 0 k) := by
    blk_point [iblk, V, idx t]
  have b2 (k : Fin 1024) (h : Fin 4096) : iblk m c 2 t (ix2 k h) = m ((c : Thread nD τ).loc main_arg2) (ix3 0 k h) := by
    blk_point [iblk, V, idx t]
  have b3 (h : Fin 4096) (k : Fin 1024) : iblk m c 3 t (ix2 h k) = m ((c : Thread nD τ).loc main_arg3) (ix3 0 h k) := by
    blk_point [iblk, V, idx t]
  simp only [b0, b1, b2, b3]

end Cert.MlpIdeal.Val

end
-- ==== Proof.OutRef.lean ====
module

public import proofs.«01_k».proof.Proof.RowMath
public import proofs.«01_k».proof.Proof.Gen.OutRefIdeal.Run
public import Idealize.ShloMosaic.Lib.Pointwise

/-! The last reference's result, read at an index: output projection, MLP and final normalisation of one row. -/

@[expose] public section

set_option maxRecDepth 16384

noncomputable section

namespace Cert.OutRefIdeal.Val

open Idealize.ShloMosaic Idealize.ShloMosaic.TcCoe Idealize.SL.Sem
open Cert.OutRefIdeal Cert.OutRefIdeal.Gen

/-- The reference's result as the composed term of its arguments. -/
def term (A0 : FVec Ideal S4x8192x1024 .f32) (A1 : FVec Ideal S4x8192x1024 .bf16) (A2 : FVec Ideal S2x1024 .f32) (A3 : FVec Ideal S2x1024x4096 .f32) (A4 : FVec Ideal S2x4096x1024 .f32) (A5 : FVec Ideal S1x1024x1024 .f32) (A6 : FVec Ideal S1024 .f32) : FVec Ideal S32768x1024 .f32 :=
  shapeCast _ (mulf (mulf (addf (addf A0 (Host.dotGeneral dot_S4x8192x1024_S1024x1024_S4x8192x1024_2_0_01_1_n_n none (extf .f32 A1 bitsLt_bf16_f32) (shapeCast _ A5 shapeCasts_S1x1024x1024_S1024x1024))) (Host.dotGeneral dot_S4x8192x4096_S4096x1024_S4x8192x1024_2_0_01_1_n_n none (mulf (maximumf (Host.dotGeneral dot_S4x8192x1024_S1024x4096_S4x8192x4096_2_0_01_1_n_n none (mulf (mulf (addf A0 (Host.dotGeneral dot_S4x8192x1024_S1024x1024_S4x8192x1024_2_0_01_1_n_n none (extf .f32 A1 bitsLt_bf16_f32) (shapeCast _ A5 shapeCasts_S1x1024x1024_S1024x1024))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (addf A0 (Host.dotGeneral dot_S4x8192x1024_S1024x1024_S4x8192x1024_2_0_01_1_n_n none (extf .f32 A1 bitsLt_bf16_f32) (shapeCast _ A5 shapeCasts_S1x1024x1024_S1024x1024))) (addf A0 (Host.dotGeneral dot_S4x8192x1024_S1024x1024_S4x8192x1024_2_0_01_1_n_n none (extf .f32 A1 bitsLt_bf16_f32) (shapeCast _ A5 shapeCasts_S1x1024x1024_S1024x1024)))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![1, 0] A2 slices_S2x1024_S1x1024_1_0) shapeCasts_S1x1024_S1024)))) (shapeCast _ (extractStridedSlice S1x1024x4096 ![1, 0, 0] A3 slices_S2x1024x4096_S1x1024x4096_1_0_0) shapeCasts_S1x1024x4096_S1024x4096)) (broadcastInDim S4x8192x4096 ![] bcast_S_S4x8192x4096 (constant S_ .f32 0x00000000#32))) (maximumf (Host.dotGeneral dot_S4x8192x1024_S1024x4096_S4x8192x4096_2_0_01_1_n_n none (mulf (mulf (addf A0 (Host.dotGeneral dot_S4x8192x1024_S1024x1024_S4x8192x1024_2_0_01_1_n_n none (extf .f32 A1 bitsLt_bf16_f32) (shapeCast _ A5 shapeCasts_S1x1024x1024_S1024x1024))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (addf A0 (Host.dotGeneral dot_S4x8192x1024_S1024x1024_S4x8192x1024_2_0_01_1_n_n none (extf .f32 A1 bitsLt_bf16_f32) (shapeCast _ A5 shapeCasts_S1x1024x1024_S1024x1024))) (addf A0 (Host.dotGeneral dot_S4x8192x1024_S1024x1024_S4x8192x1024_2_0_01_1_n_n none (extf .f32 A1 bitsLt_bf16_f32) (shapeCast _ A5 shapeCasts_S1x1024x1024_S1024x1024)))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![1, 0] A2 slices_S2x1024_S1x1024_1_0) shapeCasts_S1x1024_S1024)))) (shapeCast _ (extractStridedSlice S1x1024x4096 ![1, 0, 0] A3 slices_S2x1024x4096_S1x1024x4096_1_0_0) shapeCasts_S1x1024x4096_S1024x4096)) (broadcastInDim S4x8192x4096 ![] bcast_S_S4x8192x4096 (constant S_ .f32 0x00000000#32)))) (shapeCast _ (extractStridedSlice S1x4096x1024 ![1, 0, 0] A4 slices_S2x4096x1024_S1x4096x1024_1_0_0) shapeCasts_S1x4096x1024_S4096x1024))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (addf (addf A0 (Host.dotGeneral dot_S4x8192x1024_S1024x1024_S4x8192x1024_2_0_01_1_n_n none (extf .f32 A1 bitsLt_bf16_f32) (shapeCast _ A5 shapeCasts_S1x1024x1024_S1024x1024))) (Host.dotGeneral dot_S4x8192x4096_S4096x1024_S4x8192x1024_2_0_01_1_n_n none (mulf (maximumf (Host.dotGeneral dot_S4x8192x1024_S1024x4096_S4x8192x4096_2_0_01_1_n_n none (mulf (mulf (addf A0 (Host.dotGeneral dot_S4x8192x1024_S1024x1024_S4x8192x1024_2_0_01_1_n_n none (extf .f32 A1 bitsLt_bf16_f32) (shapeCast _ A5 shapeCasts_S1x1024x1024_S1024x1024))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (addf A0 (Host.dotGeneral dot_S4x8192x1024_S1024x1024_S4x8192x1024_2_0_01_1_n_n none (extf .f32 A1 bitsLt_bf16_f32) (shapeCast _ A5 shapeCasts_S1x1024x1024_S1024x1024))) (addf A0 (Host.dotGeneral dot_S4x8192x1024_S1024x1024_S4x8192x1024_2_0_01_1_n_n none (extf .f32 A1 bitsLt_bf16_f32) (shapeCast _ A5 shapeCasts_S1x1024x1024_S1024x1024)))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![1, 0] A2 slices_S2x1024_S1x1024_1_0) shapeCasts_S1x1024_S1024)))) (shapeCast _ (extractStridedSlice S1x1024x4096 ![1, 0, 0] A3 slices_S2x1024x4096_S1x1024x4096_1_0_0) shapeCasts_S1x1024x4096_S1024x4096)) (broadcastInDim S4x8192x4096 ![] bcast_S_S4x8192x4096 (constant S_ .f32 0x00000000#32))) (maximumf (Host.dotGeneral dot_S4x8192x1024_S1024x4096_S4x8192x4096_2_0_01_1_n_n none (mulf (mulf (addf A0 (Host.dotGeneral dot_S4x8192x1024_S1024x1024_S4x8192x1024_2_0_01_1_n_n none (extf .f32 A1 bitsLt_bf16_f32) (shapeCast _ A5 shapeCasts_S1x1024x1024_S1024x1024))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (addf A0 (Host.dotGeneral dot_S4x8192x1024_S1024x1024_S4x8192x1024_2_0_01_1_n_n none (extf .f32 A1 bitsLt_bf16_f32) (shapeCast _ A5 shapeCasts_S1x1024x1024_S1024x1024))) (addf A0 (Host.dotGeneral dot_S4x8192x1024_S1024x1024_S4x8192x1024_2_0_01_1_n_n none (extf .f32 A1 bitsLt_bf16_f32) (shapeCast _ A5 shapeCasts_S1x1024x1024_S1024x1024)))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![1, 0] A2 slices_S2x1024_S1x1024_1_0) shapeCasts_S1x1024_S1024)))) (shapeCast _ (extractStridedSlice S1x1024x4096 ![1, 0, 0] A3 slices_S2x1024x4096_S1x1024x4096_1_0_0) shapeCasts_S1x1024x4096_S1024x4096)) (broadcastInDim S4x8192x4096 ![] bcast_S_S4x8192x4096 (constant S_ .f32 0x00000000#32)))) (shapeCast _ (extractStridedSlice S1x4096x1024 ![1, 0, 0] A4 slices_S2x4096x1024_S1x4096x1024_1_0_0) shapeCasts_S1x4096x1024_S4096x1024))) (addf (addf A0 (Host.dotGeneral dot_S4x8192x1024_S1024x1024_S4x8192x1024_2_0_01_1_n_n none (extf .f32 A1 bitsLt_bf16_f32) (shapeCast _ A5 shapeCasts_S1x1024x1024_S1024x1024))) (Host.dotGeneral dot_S4x8192x4096_S4096x1024_S4x8192x1024_2_0_01_1_n_n none (mulf (maximumf (Host.dotGeneral dot_S4x8192x1024_S1024x4096_S4x8192x4096_2_0_01_1_n_n none (mulf (mulf (addf A0 (Host.dotGeneral dot_S4x8192x1024_S1024x1024_S4x8192x1024_2_0_01_1_n_n none (extf .f32 A1 bitsLt_bf16_f32) (shapeCast _ A5 shapeCasts_S1x1024x1024_S1024x1024))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (addf A0 (Host.dotGeneral dot_S4x8192x1024_S1024x1024_S4x8192x1024_2_0_01_1_n_n none (extf .f32 A1 bitsLt_bf16_f32) (shapeCast _ A5 shapeCasts_S1x1024x1024_S1024x1024))) (addf A0 (Host.dotGeneral dot_S4x8192x1024_S1024x1024_S4x8192x1024_2_0_01_1_n_n none (extf .f32 A1 bitsLt_bf16_f32) (shapeCast _ A5 shapeCasts_S1x1024x1024_S1024x1024)))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![1, 0] A2 slices_S2x1024_S1x1024_1_0) shapeCasts_S1x1024_S1024)))) (shapeCast _ (extractStridedSlice S1x1024x4096 ![1, 0, 0] A3 slices_S2x1024x4096_S1x1024x4096_1_0_0) shapeCasts_S1x1024x4096_S1024x4096)) (broadcastInDim S4x8192x4096 ![] bcast_S_S4x8192x4096 (constant S_ .f32 0x00000000#32))) (maximumf (Host.dotGeneral dot_S4x8192x1024_S1024x4096_S4x8192x4096_2_0_01_1_n_n none (mulf (mulf (addf A0 (Host.dotGeneral dot_S4x8192x1024_S1024x1024_S4x8192x1024_2_0_01_1_n_n none (extf .f32 A1 bitsLt_bf16_f32) (shapeCast _ A5 shapeCasts_S1x1024x1024_S1024x1024))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (addf A0 (Host.dotGeneral dot_S4x8192x1024_S1024x1024_S4x8192x1024_2_0_01_1_n_n none (extf .f32 A1 bitsLt_bf16_f32) (shapeCast _ A5 shapeCasts_S1x1024x1024_S1024x1024))) (addf A0 (Host.dotGeneral dot_S4x8192x1024_S1024x1024_S4x8192x1024_2_0_01_1_n_n none (extf .f32 A1 bitsLt_bf16_f32) (shapeCast _ A5 shapeCasts_S1x1024x1024_S1024x1024)))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![1, 0] A2 slices_S2x1024_S1x1024_1_0) shapeCasts_S1x1024_S1024)))) (shapeCast _ (extractStridedSlice S1x1024x4096 ![1, 0, 0] A3 slices_S2x1024x4096_S1x1024x4096_1_0_0) shapeCasts_S1x1024x4096_S1024x4096)) (broadcastInDim S4x8192x4096 ![] bcast_S_S4x8192x4096 (constant S_ .f32 0x00000000#32)))) (shapeCast _ (extractStridedSlice S1x4096x1024 ![1, 0, 0] A4 slices_S2x4096x1024_S1x4096x1024_1_0_0) shapeCasts_S1x4096x1024_S4096x1024)))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 A6))) shapeCasts_S4x8192x1024_S32768x1024

/-- Row `r` of the flattened result: the attention output's row through the output projection is added to the
    residual row, the MLP of layer 1 is applied, and the final normalisation. -/
theorem term_at (A0 : FVec Ideal S4x8192x1024 .f32) (A1 : FVec Ideal S4x8192x1024 .bf16) (A2 : FVec Ideal S2x1024 .f32) (A3 : FVec Ideal S2x1024x4096 .f32) (A4 : FVec Ideal S2x4096x1024 .f32) (A5 : FVec Ideal S1x1024x1024 .f32) (A6 : FVec Ideal S1024 .f32) (r : Fin 32768) (d : Fin 1024) :
    term A0 A1 A2 A3 A4 A5 A6 (ix2 r d) = Row.rms (Row.mlp (fun k => A0 (ix3 ⟨r / 8192, by omega⟩ ⟨r % 8192, by omega⟩ k)
        + ∑ l, A1 (ix3 ⟨r / 8192, by omega⟩ ⟨r % 8192, by omega⟩ l) * A5 (ix3 0 l k)) (fun k => A2 (ix2 1 k))
      (fun k h => A3 (ix3 1 k h)) (fun h k => A4 (ix3 1 h k))) (fun k => A6 (ix1 k)) d := by
  pointwise [term, Row.mlp, Row.hidden, Row.rms]

end Cert.OutRefIdeal.Val

end
-- ==== Proof.OutValue.lean ====
module

public import proofs.«01_k».proof.Proof.Gen.OutIdeal.Frame
public import proofs.«01_k».proof.Proof.OutRef
public import Idealize.ShloMosaic.Lib.Pipeline.ValueKit
public import Idealize.ShloMosaic.Lib.Pointwise
public import Idealize.ShloMosaic.Lib.Claim

/-! The result array of the kernel with output projection, MLP and final normalisation is its reference's term. -/

@[expose] public section

set_option maxRecDepth 16384

noncomputable section

namespace Cert.OutIdeal.Val

open Idealize.ShloMosaic Idealize.ShloMosaic.TcCoe Idealize.SL.Sem
open Idealize.ShloMosaic.Pipeline (Dat)
open Cert.OutIdeal Cert.OutIdeal.Gen

variable (m : (ℓ : Loc nD τ sig) → Buf (Elt Ideal) ℓ)

/-- Every window's block index at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- The row after the output projection, read at an index. -/
theorem proj_at (x0 : FVec Ideal S1024x1024 .f32) (x1 x2 : FVec Ideal S1024x1024 .bf16) (r d : Fin 1024) :
    k0_pay2 (F := Ideal) x0 x1 x2 (ix2 r d) = x0 (ix2 r d) + ∑ l, x1 (ix2 r l) * x2 (ix2 l d) := by
  pointwise [k0_pay2]

/-- The normalised row, read at an index. -/
theorem norm_at (x0 : FVec Ideal S1024x1024 .f32) (x1 x2 : FVec Ideal S1024x1024 .bf16) (x3 : FVec Ideal S1x1024 .f32) (r d : Fin 1024) :
    k0_pay3 (F := Ideal) x0 x1 x2 x3 (ix2 r d)
      = Row.rms (fun k => x0 (ix2 r k) + ∑ l, x1 (ix2 r l) * x2 (ix2 l k)) (fun k => x3 (ix2 0 k)) d := by
  pointwise [k0_pay2, k0_pay3, Row.rms]

/-- The MLP's result before the final normalisation. -/
theorem mlp_at (x0 : FVec Ideal S1024x1024 .f32) (x1 x2 : FVec Ideal S1024x1024 .bf16) (x3 : FVec Ideal S1x1024 .f32)
    (x4 : FVec Ideal S1024x4096 .bf16) (x5 : FVec Ideal S4096x1024 .bf16) (x6 : FVec Ideal S1x1024 .f32) (r d : Fin 1024) :
    k0_pay6 (F := Ideal) (k0_pay9 x0 x1 x2 x3 x4 x5 x6) (k0_pay10 x0 x1 x2 x3 x4 x5 x6) (k0_pay11 x0 x1 x2 x3 x4 x5 x6)
        (k0_pay12 x0 x1 x2 x3 x4 x5 x6) (View.ld x5 r0_5) (View.ld x4 r0_6) (View.ld x5 r0_7) (View.ld x4 r0_8)
        (View.ld x5 r0_9) (ix2 r d)
      = Row.mlp (fun k => x0 (ix2 r k) + ∑ l, x1 (ix2 r l) * x2 (ix2 l k)) (fun k => x3 (ix2 0 k))
        (fun k h => x4 (ix2 k h)) (fun h k => x5 (ix2 h k)) d := by
  pointwise [k0_pay6, k0_pay9, k0_pay10, k0_pay11, k0_pay12, k0_pay4, k0_pay5, proj_at, norm_at]
  rw [Row.mlp, Row.sum_four]
  simp only [Row.hidden, add_assoc]

/-- The final normalisation of the MLP's result. -/
theorem pay1_at (a p : FVec Ideal S1024x1024 .f32) (n u : FVec Ideal S1024x1024 .bf16) (v42 v46 v53 v57 v64 : FVec Ideal S1024x1024 .bf16)
    (g : FVec Ideal S1x1024 .f32) (r d : Fin 1024) :
    k0_pay1 (F := Ideal) (k0_pay6 a n p u v42 v46 v53 v57 v64) (k0_pay7 g) (k0_pay8 a n p u v42 v46 v53 v57 v64)
      (Scalar.ofBits .f32 0x44800000#32) (ix2 r d)
      = Row.rms (fun k => k0_pay6 (F := Ideal) a n p u v42 v46 v53 v57 v64 (ix2 r k)) (fun k => g (ix2 0 k)) d := by
  pointwise [k0_pay1, k0_pay7, k0_pay8, Row.rms]

/-- What one grid point stores: output projection added, MLP, final normalisation, row by row. -/
theorem pay (x0 : FVec Ideal S1024x1024 .f32) (x1 x2 : FVec Ideal S1024x1024 .bf16) (x3 : FVec Ideal S1x1024 .f32)
    (x4 : FVec Ideal S1024x4096 .bf16) (x5 : FVec Ideal S4096x1024 .bf16) (x6 : FVec Ideal S1x1024 .f32) (r d : Fin 1024) :
    out0_7 (F := Ideal) x0 x1 x2 x3 x4 x5 x6 (ix2 r d) = Row.rms (Row.mlp (fun k => x0 (ix2 r k)
        + ∑ l, x1 (ix2 r l) * x2 (ix2 l k)) (fun k => x3 (ix2 0 k))
      (fun k h => x4 (ix2 k h)) (fun h k => x5 (ix2 h k))) (fun k => x6 (ix2 0 k)) d := by
  frame_out
  refine (pay1_at _ _ _ _ _ _ _ _ _ _ r d).trans ?_
  exact congrArg (fun f => Row.rms f _ d) (funext fun k => mlp_at x0 x1 x2 x3 x4 x5 x6 r k)

/-- The result array is the reference's term. -/
theorem final (c : Dev nD) : (dats m 0 c).arrAt 7 (cfgs 0).N
    = OutRefIdeal.Val.term (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 7 _ (by decide +kernel) fun t _ y => ?_
  blk_simp
  rw [after0_7]
  have ht : t.val < 32 := lt_of_lt_of_eq t.isLt N_0
  idx_vars y
  have e : ((cfg0.win 7).blk t).view.emb (ix2 y0 y1) = (ix2 ⟨t.val * 1024 + y0, by omega⟩ y1 : S32768x1024.Idx) := by
    blk_ext [idx t]
  refine (pay _ _ _ _ _ _ _ y0 y1).trans (Eq.trans ?_ ((congrArg _ e).trans (OutRefIdeal.Val.term_at _ _ _ _ _ _ _ _ _)).symm)
  have b0 (k : Fin 1024) : iblk m c 0 t (ix2 y0 k) = m ((c : Thread nD τ).loc main_arg0)
      (ix3 ⟨(t.val * 1024 + y0) / 8192, by omega⟩ ⟨(t.val * 1024 + y0) % 8192, by omega⟩ k) := by blk_point [iblk, V, idx t]
  have b1 (k : Fin 1024) : iblk m c 1 t (ix2 y0 k) = m ((c : Thread nD τ).loc main_arg1)
      (ix3 ⟨(t.val * 1024 + y0) / 8192, by omega⟩ ⟨(t.val * 1024 + y0) % 8192, by omega⟩ k) := by blk_point [iblk, V, idx t]
  have b2 (l k : Fin 1024) : iblk m c 2 t (ix2 l k) = m ((c : Thread nD τ).loc main_arg5) (ix3 0 l k) := by
    blk_point [iblk, V, idx t]
  have b3 (k : Fin 1024) : iblk m c 3 t (ix2 0 k) = m ((c : Thread nD τ).loc main_arg2) (ix2 1 k) := by
    blk_point [iblk, V, idx t]
  have b4 (k : Fin 1024) (h : Fin 4096) : iblk m c 4 t (ix2 k h) = m ((c : Thread nD τ).loc main_arg3) (ix3 1 k h) := by
    blk_point [iblk, V, idx t]
  have b5 (h : Fin 4096) (k : Fin 1024) : iblk m c 5 t (ix2 h k) = m ((c : Thread nD τ).loc main_arg4) (ix3 1 h k) := by
    blk_point [iblk, V, idx t]
  have b6 (k : Fin 1024) : iblk m c 6 t (ix2 0 k) = m ((c : Thread nD τ).loc main_arg6) (ix1 k) := by
    blk_point [iblk, V, idx t]
  simp only [b0, b1, b2, b3, b4, b5, b6]

end Cert.OutIdeal.Val

end
-- ==== Proof.KvRef.lean ====
module

public import proofs.«01_k».proof.Proof.RowMath
public import Idealize.ShloMosaic.Lib.Routing.Words
public import proofs.«01_k».proof.Proof.Gen.KvRefIdeal.Run
public import Idealize.ShloMosaic.Lib.Pointwise

/-! The key and value projection's reference, read at an index. -/

@[expose] public section

set_option maxRecDepth 16384

noncomputable section

namespace Cert.KvRefIdeal.Val

open Idealize.ShloMosaic Idealize.ShloMosaic.TcCoe Idealize.SL.Sem
open Cert.KvRefIdeal Cert.KvRefIdeal.Gen

/-- The reference's result 0 as the composed term of its arguments. -/
def term0 (A0 : FVec Ideal S4x8192x1024 .f32) (A1 : FVec Ideal S1024 .f32) (A2 : FVec Ideal S1024x1536 .f32) : FVec Ideal S4x2x512x2048 .bf16 :=
  truncf .bf16 (shapeCast _ (transpose S4x2x512x16x128 [0, 3, 1, 2, 4] (shapeCast _ (shapeCast _ (extractStridedSlice S4x8192x1x4x64 ![0, 0, 0, 0, 0] (shapeCast _ (Host.dotGeneral dot_S4x8192x1024_S1024x1536_S4x8192x1536_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 A1))) A2) shapeCasts_S4x8192x1536_S4x8192x6x4x64) slices_S4x8192x6x4x64_S4x8192x1x4x64_0_0_0_0_0) shapeCasts_S4x8192x1x4x64_S4x8192x4x64) shapeCasts_S4x8192x4x64_S4x512x16x2x128) transposes_S4x512x16x2x128_S4x2x512x16x128_0_3_1_2_4) shapeCasts_S4x2x512x16x128_S4x2x512x2048) bitsLt_bf16_f32

/-- The reference's result 1 as the composed term of its arguments. -/
def term1 (A0 : FVec Ideal S4x8192x1024 .f32) (A1 : FVec Ideal S1024 .f32) (A2 : FVec Ideal S1024x1536 .f32) : FVec Ideal S4x2x512x2048 .bf16 :=
  truncf .bf16 (shapeCast _ (transpose S4x2x512x16x128 [0, 3, 1, 2, 4] (shapeCast _ (shapeCast _ (extractStridedSlice S4x8192x1x4x64 ![0, 0, 1, 0, 0] (shapeCast _ (Host.dotGeneral dot_S4x8192x1024_S1024x1536_S4x8192x1536_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 A1))) A2) shapeCasts_S4x8192x1536_S4x8192x6x4x64) slices_S4x8192x6x4x64_S4x8192x1x4x64_0_0_1_0_0) shapeCasts_S4x8192x1x4x64_S4x8192x4x64) shapeCasts_S4x8192x4x64_S4x512x16x2x128) transposes_S4x512x16x2x128_S4x2x512x16x128_0_3_1_2_4) shapeCasts_S4x2x512x16x128_S4x2x512x2048) bitsLt_bf16_f32

/-- The reference's result 2 as the composed term of its arguments. -/
def term2 (A0 : FVec Ideal S4x8192x1024 .f32) (A1 : FVec Ideal S1024 .f32) (A2 : FVec Ideal S1024x1536 .f32) : FVec Ideal S4x4x8192x256 .bf16 :=
  truncf .bf16 (concatenate S4x4x8192x256 3 [⟨S4x4x8192x128, (concatenate S4x4x8192x128 3 [⟨S4x4x8192x64, (transpose S4x4x8192x64 [0, 2, 1, 3] (shapeCast _ (extractStridedSlice S4x8192x1x4x64 ![0, 0, 2, 0, 0] (shapeCast _ (Host.dotGeneral dot_S4x8192x1024_S1024x1536_S4x8192x1536_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 A1))) A2) shapeCasts_S4x8192x1536_S4x8192x6x4x64) slices_S4x8192x6x4x64_S4x8192x1x4x64_0_0_2_0_0) shapeCasts_S4x8192x1x4x64_S4x8192x4x64) transposes_S4x8192x4x64_S4x4x8192x64_0_2_1_3)⟩, ⟨S4x4x8192x64, (broadcastInDim S4x4x8192x64 ![] bcast_S_S4x4x8192x64 (constant S_ .f32 0x00000000#32))⟩] concatenates_S4x4x8192x64_S4x4x8192x64_S4x4x8192x128_d3)⟩, ⟨S4x4x8192x128, (id (select (cmpi .eq (iotaInDim S4x4x8192x128 32 3) (Host.divsi (iotaInDim S4x4x8192x128 32 2) (broadcastInDim S4x4x8192x128 ![] bcast_S_S4x4x8192x128 (constantI S_ 32 64#32)))) (broadcastInDim S4x4x8192x128 ![] bcast_S_S4x4x8192x128 (constant S_ .f32 0x3F800000#32)) (broadcastInDim S4x4x8192x128 ![] bcast_S_S4x4x8192x128 (constant S_ .f32 0x00000000#32))))⟩] concatenates_S4x4x8192x128_S4x4x8192x128_S4x4x8192x256_d3) bitsLt_bf16_f32

/-- The reference's result 3 as the composed term of its arguments. -/
def term3 (A0 : FVec Ideal S4x8192x1024 .f32) (A1 : FVec Ideal S1024 .f32) (A2 : FVec Ideal S1024x1536 .f32) : FVec Ideal S4x4x8192x128 .bf16 :=
  truncf .bf16 (concatenate S4x4x8192x128 3 [⟨S4x4x8192x64, (transpose S4x4x8192x64 [0, 2, 1, 3] (shapeCast _ (extractStridedSlice S4x8192x1x4x64 ![0, 0, 4, 0, 0] (shapeCast _ (Host.dotGeneral dot_S4x8192x1024_S1024x1536_S4x8192x1536_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 A1))) A2) shapeCasts_S4x8192x1536_S4x8192x6x4x64) slices_S4x8192x6x4x64_S4x8192x1x4x64_0_0_4_0_0) shapeCasts_S4x8192x1x4x64_S4x8192x4x64) transposes_S4x8192x4x64_S4x4x8192x64_0_2_1_3)⟩, ⟨S4x4x8192x64, (broadcastInDim S4x4x8192x64 ![] bcast_S_S4x4x8192x64 (constant S_ .f32 0x00000000#32))⟩] concatenates_S4x4x8192x64_S4x4x8192x64_S4x4x8192x128_d3) bitsLt_bf16_f32

/-- The reference's result 4 as the composed term of its arguments. -/
def term4 (A0 : FVec Ideal S4x8192x1024 .f32) (A1 : FVec Ideal S1024 .f32) (A2 : FVec Ideal S1024x1536 .f32) : FVec Ideal S4x4x80x8192 .bf16 :=
  truncf .bf16 ((concatenate S4x4x80x8192 2 [⟨S4x4x64x8192, ((transpose S4x4x64x8192 [0, 2, 3, 1] (shapeCast _ (extractStridedSlice S4x8192x1x4x64 ![0, 0, 3, 0, 0] (shapeCast _ (Host.dotGeneral dot_S4x8192x1024_S1024x1536_S4x8192x1536_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 A1))) A2) shapeCasts_S4x8192x1536_S4x8192x6x4x64) slices_S4x8192x6x4x64_S4x8192x1x4x64_0_0_3_0_0) shapeCasts_S4x8192x1x4x64_S4x8192x4x64) transposes_S4x8192x4x64_S4x4x64x8192_0_2_3_1))⟩, ⟨S4x4x1x8192, ((broadcastInDim S4x4x1x8192 ![] bcast_S_S4x4x1x8192 (constant S_ .f32 0x3F800000#32)))⟩, ⟨S4x4x15x8192, ((broadcastInDim S4x4x15x8192 ![] bcast_S_S4x4x15x8192 (constant S_ .f32 0x00000000#32)))⟩] concatenates_S4x4x64x8192_S4x4x1x8192_S4x4x15x8192_S4x4x80x8192_d2)) bitsLt_bf16_f32

/-- The reference's result 5 as the composed term of its arguments. -/
def term5 (A0 : FVec Ideal S4x8192x1024 .f32) (A1 : FVec Ideal S1024 .f32) (A2 : FVec Ideal S1024x1536 .f32) : FVec Ideal S4x4x80x8192 .bf16 :=
  truncf .bf16 ((concatenate S4x4x80x8192 2 [⟨S4x4x64x8192, ((transpose S4x4x64x8192 [0, 2, 3, 1] (shapeCast _ (extractStridedSlice S4x8192x1x4x64 ![0, 0, 5, 0, 0] (shapeCast _ (Host.dotGeneral dot_S4x8192x1024_S1024x1536_S4x8192x1536_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 A1))) A2) shapeCasts_S4x8192x1536_S4x8192x6x4x64) slices_S4x8192x6x4x64_S4x8192x1x4x64_0_0_5_0_0) shapeCasts_S4x8192x1x4x64_S4x8192x4x64) transposes_S4x8192x4x64_S4x4x64x8192_0_2_3_1))⟩, ⟨S4x4x1x8192, ((broadcastInDim S4x4x1x8192 ![] bcast_S_S4x4x1x8192 (constant S_ .f32 0x3F800000#32)))⟩, ⟨S4x4x15x8192, ((broadcastInDim S4x4x15x8192 ![] bcast_S_S4x4x15x8192 (constant S_ .f32 0x00000000#32)))⟩] concatenates_S4x4x64x8192_S4x4x1x8192_S4x4x15x8192_S4x4x80x8192_d2)) bitsLt_bf16_f32

/-- The choice by equality of two small numbers held in words. -/
theorem hot {a b : ℕ} (ha : a < 2 ^ 32) (hb : b < 2 ^ 32) : Scalar.select (IntOp.cmpi CmpIPredicate.eq (BitVec.ofNat 32 a) (BitVec.ofNat 32 b)) (1 : EReal) 0
    = if a = b then 1 else 0 := by
  have e : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases h : a = b
  · simp [Scalar.select, IntOp.cmpi, h]
  · have : (BitVec.ofNat 32 a == BitVec.ofNat 32 b) = false := by simpa using fun k => h (e.1 k)
    simp [Scalar.select, IntOp.cmpi, h, this]

/-- Column `j` of one normalised row's key and value projection. -/
def kv (A0 : FVec Ideal S4x8192x1024 .f32) (A1 : FVec Ideal S1024 .f32) (A2 : FVec Ideal S1024x1536 .f32) (b : Fin 4) (s : Fin 8192) (j : Fin 1536) : EReal :=
  ∑ k, Row.rms (fun k => A0 (ix3 b s k)) (fun k => A1 (ix1 k)) k * A2 (ix2 k j)

/-- The raw keys, sixteen rows of the sequence to one row of the result. -/
theorem term0_at (A0 : FVec Ideal S4x8192x1024 .f32) (A1 : FVec Ideal S1024 .f32) (A2 : FVec Ideal S1024x1536 .f32) (b : Fin 4) (p : Fin 2) (i : Fin 512) (l : Fin 2048) : term0 A0 A1 A2 (ix4 b p i l)
    = kv A0 A1 A2 b ⟨i * 16 + l / 128, by omega⟩ ⟨p * 128 + l % 128, by omega⟩ := by
  pointwise [term0, kv, Row.rms]
  exact Finset.sum_congr rfl fun x _ => congrArg₂ (· * ·) rfl (congrArg A2 (congrArg (ix2 x) (Fin.ext (by dsimp only; omega))))
/-- The raw values, sixteen rows of the sequence to one row of the result. -/
theorem term1_at (A0 : FVec Ideal S4x8192x1024 .f32) (A1 : FVec Ideal S1024 .f32) (A2 : FVec Ideal S1024x1536 .f32) (b : Fin 4) (p : Fin 2) (i : Fin 512) (l : Fin 2048) : term1 A0 A1 A2 (ix4 b p i l)
    = kv A0 A1 A2 b ⟨i * 16 + l / 128, by omega⟩ ⟨256 + p * 128 + l % 128, by omega⟩ := by
  pointwise [term1, kv, Row.rms]
  exact Finset.sum_congr rfl fun x _ => congrArg₂ (· * ·) rfl (congrArg A2 (congrArg (ix2 x) (Fin.ext (by dsimp only; omega))))
/-- The selection keys: a head's key, zeros, and the one-hot row of the position's block. -/
theorem term2_at (A0 : FVec Ideal S4x8192x1024 .f32) (A1 : FVec Ideal S1024 .f32) (A2 : FVec Ideal S1024x1536 .f32) (b g : Fin 4) (s : Fin 8192) (j : Fin 256) : term2 A0 A1 A2 (ix4 b g s j)
    = if h : j.val < 64 then kv A0 A1 A2 b s ⟨512 + g * 64 + j, by omega⟩ else if j.val < 128 then 0
      else if j.val - 128 = s.val / 64 then 1 else 0 := by
  pointwise [term2, kv, Row.rms, id]
  rw [show IntOp.divsi ArithUnit.host (BitVec.ofNat 32 s.val) 64#32 = BitVec.ofNat 32 (s.val / 64) from Routing.divsi_word _ (by omega) (by decide) (by decide),
    hot (by omega) (by omega)]
  by_cases k : j.val < 128
  · rw [dif_pos k, if_pos k]
  · rw [dif_neg k, if_neg k, dif_neg (by omega)]
/-- The window keys: a head's key, then zeros. -/
theorem term3_at (A0 : FVec Ideal S4x8192x1024 .f32) (A1 : FVec Ideal S1024 .f32) (A2 : FVec Ideal S1024x1536 .f32) (b g : Fin 4) (s : Fin 8192) (j : Fin 128) : term3 A0 A1 A2 (ix4 b g s j)
    = if h : j.val < 64 then kv A0 A1 A2 b s ⟨1024 + g * 64 + j, by omega⟩ else 0 := by
  pointwise [term3, kv, Row.rms]
/-- The selection values, feature rows first: a head's value, a row of ones, zeros. -/
theorem term4_at (A0 : FVec Ideal S4x8192x1024 .f32) (A1 : FVec Ideal S1024 .f32) (A2 : FVec Ideal S1024x1536 .f32) (b g : Fin 4) (f : Fin 80) (s : Fin 8192) : term4 A0 A1 A2 (ix4 b g f s)
    = if h : f.val < 64 then kv A0 A1 A2 b s ⟨768 + g * 64 + f, by omega⟩ else if f.val = 64 then 1 else 0 := by
  pointwise [term4, kv, Row.rms]
  by_cases h : f.val < 64
  · rw [dif_pos h, dif_pos h]
  · rw [dif_neg h, dif_neg h]
    by_cases k : f.val = 64
    · rw [dif_pos (by omega), if_pos k]
    · rw [dif_neg (by omega), if_neg k]
/-- The window values, feature rows first: a head's value, a row of ones, zeros. -/
theorem term5_at (A0 : FVec Ideal S4x8192x1024 .f32) (A1 : FVec Ideal S1024 .f32) (A2 : FVec Ideal S1024x1536 .f32) (b g : Fin 4) (f : Fin 80) (s : Fin 8192) : term5 A0 A1 A2 (ix4 b g f s)
    = if h : f.val < 64 then kv A0 A1 A2 b s ⟨1280 + g * 64 + f, by omega⟩ else if f.val = 64 then 1 else 0 := by
  pointwise [term5, kv, Row.rms]
  by_cases h : f.val < 64
  · rw [dif_pos h, dif_pos h]
  · rw [dif_neg h, dif_neg h]
    by_cases k : f.val = 64
    · rw [dif_pos (by omega), if_pos k]
    · rw [dif_neg (by omega), if_neg k]

end Cert.KvRefIdeal.Val

end
-- ==== Proof.KvHost.lean ====
module

public import proofs.«01_k».proof.Proof.Gen.KvIdeal.Frame
public import proofs.«01_k».proof.Proof.KvRef
public import Idealize.ShloMosaic.Lib.Pipeline.ValueKit
public import Idealize.ShloMosaic.Lib.Pointwise
public import Idealize.ShloMosaic.Lib.Claim

/-! The arrays the host hands the key and value projection. -/

@[expose] public section

set_option maxRecDepth 16384

noncomputable section

namespace Cert.KvIdeal.Val

open Idealize.ShloMosaic Idealize.ShloMosaic.TcCoe Idealize.SL.Sem
open Idealize.ShloMosaic.Pipeline (Dat)
open Cert.KvIdeal Cert.KvIdeal.Gen

variable (m : (ℓ : Loc nD τ sig) → Buf (Elt Ideal) ℓ)

/-- Every window's block index at a grid point. -/
theorem idx : ∀ t : Fin cfg0.N, win0_0.index t = ![t.val / 16, t.val % 16, 0] ∧ win0_1.index t = ![0, 0]
    ∧ win0_2.index t = ![0, 0] ∧ win0_3.index t = ![0, 0] ∧ win0_4.index t = ![t.val / 16, 0, t.val % 16, 0]
    ∧ win0_5.index t = ![t.val / 16, 0, t.val % 16, 0] ∧ win0_6.index t = ![t.val / 16, 0, t.val % 16, 0]
    ∧ win0_7.index t = ![t.val / 16, 0, t.val % 16, 0] ∧ win0_8.index t = ![t.val / 16, 0, 0, t.val % 16]
    ∧ win0_9.index t = ![t.val / 16, 0, 0, t.val % 16] :=
  (by decide +kernel : ∀ t : Fin grid0.N, _)

/-- The gain row the kernel is given. -/
theorem V_v22 (c : Dev nD) (k : Fin 1024) : V m c main_v22 (ix2 0 k) = m ((c : Thread nD τ).loc main_arg1) (ix1 k) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results
  pointwise []

/-- The word zero is the number zero. -/
theorem zero_word : FloatOps.sitofp (F := Ideal) FTy.f32 0#32 = (0 : EReal) := by
  show ((((0#32 : BitVec 32).toInt : ℤ) : ℝ) : EReal) = 0
  simp

/-- The weights the kernel is given for a position's row: the raw keys' and values' columns, then for each of the eight
    groups of selection and window keys the group's columns and zeros. -/
theorem V_v23 (c : Dev nD) (k : Fin 1024) (j : Fin 1536) : V m c main_v23 (ix2 k j)
    = if h : j.val < 256 then m (c, Proc.tc.devRef main_arg2) (ix2 k j)
      else if h : j.val - 256 < 256 then m (c, Proc.tc.devRef main_arg2) (ix2 k ⟨256 + (j.val - 256), by omega⟩)
      else if h : j.val - 256 - 256 < 512 then
        if h : (j.val - 256 - 256) / 128 < 4 ∧ (j.val - 256 - 256) % 128 < 64 then
          m (c, Proc.tc.devRef main_arg2) (ix2 k ⟨512 + ((j.val - 256 - 256) / 128 * 64 + (j.val - 256 - 256) % 128), by omega⟩)
        else (0 : EReal)
      else
        if h : (j.val - 256 - 256 - 512) / 128 < 4 ∧ (j.val - 256 - 256 - 512) % 128 < 64 then
          m (c, Proc.tc.devRef main_arg2) (ix2 k ⟨1024 + ((j.val - 256 - 256 - 512) / 128 * 64 + (j.val - 256 - 256 - 512) % 128), by omega⟩)
        else (0 : EReal) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  pointwise []
  after_results_simp
  pointwise []
  simp only [StableHlo.TRef.toBuf, StableHlo.TRef.ofBuf, cast_eq]
  pointwise []
  simp only [zero_word]

/-- The raw keys' and values' columns are the weights' own. -/
theorem raw_col (c : Dev nD) (k : Fin 1024) (j : Fin 1536) (hj : j.val < 512) : V m c main_v23 (ix2 k j)
    = m ((c : Thread nD τ).loc main_arg2) (ix2 k j) := by
  rw [V_v23]
  by_cases h : j.val < 256
  · rw [dif_pos h]
  · rw [dif_neg h, dif_pos (by omega)]
    exact congrArg _ (congrArg (ix2 k) (Fin.ext (by dsimp only; omega)))

/-- A group's selection key columns. -/
theorem sel_col (c : Dev nD) (k : Fin 1024) (g : Fin 4) (e : Fin 128) : V m c main_v23 (ix2 k ⟨512 + g * 128 + e, by omega⟩)
    = if h : e.val < 64 then m ((c : Thread nD τ).loc main_arg2) (ix2 k ⟨512 + g * 64 + e, by omega⟩) else (0 : EReal) := by
  rw [V_v23]
  dsimp only
  rw [dif_neg (by omega), dif_neg (by omega), dif_pos (by omega)]
  by_cases h : e.val < 64
  · rw [dif_pos (by omega), dif_pos h]
    exact congrArg _ (congrArg (ix2 k) (Fin.ext (by dsimp only; omega)))
  · rw [dif_neg (by omega), dif_neg h]

/-- A group's window key columns. -/
theorem win_col (c : Dev nD) (k : Fin 1024) (g : Fin 4) (e : Fin 128) : V m c main_v23 (ix2 k ⟨1024 + g * 128 + e, by omega⟩)
    = if h : e.val < 64 then m ((c : Thread nD τ).loc main_arg2) (ix2 k ⟨1024 + g * 64 + e, by omega⟩) else (0 : EReal) := by
  rw [V_v23]
  dsimp only
  rw [dif_neg (by omega), dif_neg (by omega), dif_neg (by omega)]
  by_cases h : e.val < 64
  · rw [dif_pos (by omega), dif_pos h]
    exact congrArg _ (congrArg (ix2 k) (Fin.ext (by dsimp only; omega)))
  · rw [dif_neg (by omega), dif_neg h]

/-- The transposed weights the kernel is given for a position's column: for each of the eight groups of selection and
    window values the group's columns as rows, then zeros. -/
theorem V_v24 (c : Dev nD) (f : Fin 640) (k : Fin 1024) : V m c main_v24 (ix2 f k)
    = if h : f.val < 320 then
        if h : f.val / 80 < 4 ∧ f.val % 80 < 64 then m (c, Proc.tc.devRef main_arg2) (ix2 k ⟨768 + (f.val / 80 * 64 + f.val % 80), by omega⟩) else (0 : EReal)
      else
        if h : (f.val - 320) / 80 < 4 ∧ (f.val - 320) % 80 < 64 then
          m (c, Proc.tc.devRef main_arg2) (ix2 k ⟨1280 + ((f.val - 320) / 80 * 64 + (f.val - 320) % 80), by omega⟩)
        else (0 : EReal) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  pointwise []
  after_results_simp
  pointwise []
  simp only [StableHlo.TRef.toBuf, StableHlo.TRef.ofBuf, cast_eq]
  pointwise []
  simp only [zero_word]

/-- A group's selection value rows. -/
theorem sel_row (c : Dev nD) (k : Fin 1024) (g : Fin 4) (e : Fin 80) : V m c main_v24 (ix2 ⟨g * 80 + e, by omega⟩ k)
    = if h : e.val < 64 then m ((c : Thread nD τ).loc main_arg2) (ix2 k ⟨768 + g * 64 + e, by omega⟩) else (0 : EReal) := by
  rw [V_v24]
  dsimp only
  rw [dif_pos (by omega)]
  by_cases h : e.val < 64
  · rw [dif_pos (by omega), dif_pos h]
    exact congrArg _ (congrArg (ix2 k) (Fin.ext (by dsimp only; omega)))
  · rw [dif_neg (by omega), dif_neg h]

/-- A group's window value rows. -/
theorem win_row (c : Dev nD) (k : Fin 1024) (g : Fin 4) (e : Fin 80) : V m c main_v24 (ix2 ⟨320 + g * 80 + e, by omega⟩ k)
    = if h : e.val < 64 then m ((c : Thread nD τ).loc main_arg2) (ix2 k ⟨1280 + g * 64 + e, by omega⟩) else (0 : EReal) := by
  rw [V_v24]
  dsimp only
  rw [dif_neg (by omega)]
  by_cases h : e.val < 64
  · rw [dif_pos (by omega), dif_pos h]
    exact congrArg _ (congrArg (ix2 k) (Fin.ext (by dsimp only; omega)))
  · rw [dif_neg (by omega), dif_neg h]

end Cert.KvIdeal.Val

end
-- ==== Proof.KvRaw.lean ====
module

public import proofs.«01_k».proof.Proof.Gen.KvIdeal.Frame
public import proofs.«01_k».proof.Proof.RowMath
public import Idealize.ShloMosaic.Lib.Pipeline.ValueKit
public import Idealize.ShloMosaic.Lib.Pointwise
public import Idealize.ShloMosaic.Lib.Pipeline.ReadBack
public import Idealize.ShloMosaic.Lib.Claim

/-! The raw keys and values that one grid point of the key and value projection stores. -/

@[expose] public section

set_option maxRecDepth 16384

noncomputable section

namespace Cert.KvIdeal.Val

open Idealize.ShloMosaic Idealize.ShloMosaic.TcCoe Idealize.SL.Sem
open Idealize.ShloMosaic.Pipeline (Dat)
open Cert.KvIdeal Cert.KvIdeal.Gen

variable (m : (ℓ : Loc nD τ sig) → Buf (Elt Ideal) ℓ)

/-- One row of a block's projection by the host's weight matrix. -/
theorem tok_at (v0 : Vec Ideal S1x512x1024 .f32) (v2 : Vec Ideal S1x1024 .f32) (w : Vec Ideal S1024x1536 .bf16)
    (r : Fin 512) (j : Fin 1536) : k0_pay3 v0 v2 w (ix2 r j)
    = ∑ k, Row.rms (fun k => v0 (ix3 0 r k)) (fun k => v2 (ix2 0 k)) k * w (ix2 k j) := by
  pointwise [k0_pay3, k0_pay2, Row.rms]

/-- The same at a grid point's own blocks. -/
def tok (c : Dev nD) (t : Fin cfg0.N) (r : Fin 512) (j : Fin 1536) : EReal :=
  ∑ k, Row.rms (fun k => iblk m c 0 t (ix3 0 r k)) (fun k => iblk m c 1 t (ix2 0 k)) k * iblk m c 2 t (ix2 k j)

/-- The four 128-column strips of one block's projection, as the scratch buffer's contents. -/
theorem strips (v0 : Vec Ideal S1x512x1024 .f32) (v2 : Vec Ideal S1x1024 .f32) (w : Vec Ideal S1024x1536 .bf16) (y : S4x512x128.Idx) :
    View.canon (Val := Elt Ideal) [(⟨Rect.unit ![3, 0, 0] ![1, 512, 128] inb_S4x512x128_S1x512x128_3_0_0, k0_pay8 (k0_pay7 v0 v2 w)⟩ : View.Piece (Elt Ideal) S4x512x128 .f32),
      ⟨Rect.unit ![2, 0, 0] ![1, 512, 128] inb_S4x512x128_S1x512x128_2_0_0, k0_pay6 v0 v2 w⟩,
      ⟨Rect.unit ![1, 0, 0] ![1, 512, 128] inb_S4x512x128_S1x512x128_1_0_0, k0_pay5 v0 v2 w⟩,
      ⟨Rect.unit ![0, 0, 0] ![1, 512, 128] inb_S4x512x128_S1x512x128_0_0_0, k0_pay4 v0 v2 w⟩] y
    = k0_pay3 v0 v2 w (ix2 (y 1) ⟨(y 0).val * 128 + (y 2).val, by have h0 : (y 0).val < 4 := (y 0).isLt; have h2 : (y 2).val < 128 := (y 2).isLt; omega⟩) := by
  idx_vars y
  canon_tiles x h
  all_goals
    idx_vars x
    pointwise [k0_pay4, k0_pay5, k0_pay6, k0_pay7, k0_pay8]
    exact congrArg (k0_pay3 v0 v2 w) (congrArg₂ ix2 (Fin.ext (by omega)) (Fin.ext (by dsimp only at *; omega)))

/-- Every sixteenth row of one strip, read back from the scratch buffer. -/
theorem strip (v : View sig .tc .vmem S4x512x128 .f32) (v0 : Vec Ideal S1x512x1024 .f32) (v2 : Vec Ideal S1x1024 .f32) (w : Vec Ideal S1024x1536 .bf16)
    (a p : ℕ) (ha : a < 4) (hp : p < 16) (inb) (r : Fin 32) (l : Fin 128) :
    v.readCov [(⟨Rect.unit ![3, 0, 0] ![1, 512, 128] inb_S4x512x128_S1x512x128_3_0_0, k0_pay8 (k0_pay7 v0 v2 w)⟩ : View.Piece (Elt Ideal) S4x512x128 .f32),
      ⟨Rect.unit ![2, 0, 0] ![1, 512, 128] inb_S4x512x128_S1x512x128_2_0_0, k0_pay6 v0 v2 w⟩,
      ⟨Rect.unit ![1, 0, 0] ![1, 512, 128] inb_S4x512x128_S1x512x128_1_0_0, k0_pay5 v0 v2 w⟩,
      ⟨Rect.unit ![0, 0, 0] ![1, 512, 128] inb_S4x512x128_S1x512x128_0_0_0, k0_pay4 v0 v2 w⟩]
      { off := ![a, p, 0], size := ![1, 32, 128], stride := ![1, 16, 1], inb := inb } (ix3 0 r l)
    = k0_pay3 v0 v2 w (ix2 ⟨r * 16 + p, by omega⟩ ⟨a * 128 + l, by omega⟩) := by
  rw [View.readCov_eq_canon']
  refine (strips v0 v2 w _).trans (congrArg _ (congrArg₂ ix2 (Fin.ext ?_) (Fin.ext ?_)))
  · show p + 16 * r.val = r.val * 16 + p
    omega
  · show (a + 1 * 0) * 128 + (0 + 1 * l.val) = a * 128 + l.val
    omega

/-- The raw keys one grid point stores. -/
theorem out4 (c : Dev nD) (t : Fin cfg0.N) (p : Fin 2) (r : Fin 32) (l : Fin 2048) :
    (outsAt0 m c t).1 (ix4 0 p r l)
    = tok m c t ⟨r * 16 + l / 128, by omega⟩ ⟨p * 128 + l % 128, by omega⟩ := by
  unfold Gen.outsAt0
  frame_out
  canon_tiles x h
  all_goals
    idx_vars x
    obtain rfl : x0 = 0 := Subsingleton.elim _ _
    obtain rfl : x1 = 0 := Subsingleton.elim _ _
    pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    rw [strip _ _ _ _ _ _ (by decide) (by decide)]
    exact (tok_at ..).trans (congrArg₂ (tok m c t) (Fin.ext (by dsimp only at *; omega)) (Fin.ext (by dsimp only at *; omega)))

/-- The raw values one grid point stores. -/
theorem out5 (c : Dev nD) (t : Fin cfg0.N) (p : Fin 2) (r : Fin 32) (l : Fin 2048) :
    (outsAt0 m c t).2.1 (ix4 0 p r l)
    = tok m c t ⟨r * 16 + l / 128, by omega⟩ ⟨256 + p * 128 + l % 128, by omega⟩ := by
  unfold Gen.outsAt0
  frame_out
  canon_tiles x h
  all_goals
    idx_vars x
    obtain rfl : x0 = 0 := Subsingleton.elim _ _
    obtain rfl : x1 = 0 := Subsingleton.elim _ _
    pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    rw [strip _ _ _ _ _ _ (by decide) (by decide)]
    exact (tok_at ..).trans (congrArg₂ (tok m c t) (Fin.ext (by dsimp only at *; omega)) (Fin.ext (by dsimp only at *; omega)))

end Cert.KvIdeal.Val

end
-- ==== Proof.KvSel.lean ====
module

public import proofs.«01_k».proof.Proof.Gen.KvIdeal.Frame
public import proofs.«01_k».proof.Proof.KvRaw
public import proofs.«01_k».proof.Proof.KvRef
public import Idealize.ShloMosaic.Lib.Pipeline.ValueKit
public import Idealize.ShloMosaic.Lib.Pointwise
public import Idealize.ShloMosaic.Lib.Pipeline.ReadBack
public import Idealize.ShloMosaic.Lib.Claim

/-! The selection and window keys and values that one grid point of the key and value projection stores. -/

@[expose] public section

set_option maxRecDepth 16384

noncomputable section

namespace Cert.KvIdeal.Val

open Idealize.ShloMosaic Idealize.ShloMosaic.TcCoe Idealize.SL.Sem
open Idealize.ShloMosaic.Pipeline (Dat)
open Cert.KvIdeal Cert.KvIdeal.Gen

variable (m : (ℓ : Loc nD τ sig) → Buf (Elt Ideal) ℓ)

/-- One feature row of a block's projection by the host's transposed weight matrix. -/
def feat (c : Dev nD) (t : Fin cfg0.N) (r : Fin 512) (f : Fin 640) : EReal :=
  ∑ k, Row.rms (fun k => iblk m c 0 t (ix3 0 r k)) (fun k => iblk m c 1 t (ix2 0 k)) k * iblk m c 3 t (ix2 f k)

/-- The test whether two small words are equal, as a number. -/
theorem mark {a b : ℕ} (ha : a < 2 ^ 32) (hb : b < 2 ^ 32) :
    FloatOps.sitofp (F := Ideal) FTy.f32 (BitVec.setWidth 32 (IntOp.cmpi CmpIPredicate.eq (BitVec.ofNat 32 a) (BitVec.ofNat 32 b)))
    = if a = b then (1 : EReal) else 0 := by
  show ((((BitVec.setWidth 32 (IntOp.cmpi CmpIPredicate.eq (BitVec.ofNat 32 a) (BitVec.ofNat 32 b))).toInt : ℤ) : ℝ) : EReal) = _
  have e : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases h : a = b
  · simp [IntOp.cmpi, h]
  · have : (BitVec.ofNat 32 a == BitVec.ofNat 32 b) = false := by simpa using fun k => h (e.1 k)
    simp [IntOp.cmpi, h, this]

/-- A position's block of sixty-four, computed by a shift. -/
theorem shift : ∀ n : Fin 8192, IntOp.shrsi ArithUnit.vector (BitVec.ofNat 32 n.val) 6#32 = BitVec.ofNat 32 (n.val / 64) := by
  decide +kernel

/-- The second grid coordinate. -/
theorem coord : ∀ t : Fin cfg0.N, (grid0.coords t 1).val = t.val % 16 :=
  (by decide +kernel : ∀ t : Fin grid0.N, (grid0.coords t 1).val = t.val % 16)

/-- A row's position in the sequence, as the kernel computes it. -/
theorem pos (t : Fin cfg0.N) (r : Fin 512) :
    IntOp.addi (Scalar.muli (BitVec.ofNat 32 (grid0.coords t 1).val) 512#32) (BitVec.ofNat 32 r.val)
    = BitVec.ofNat 32 (⟨t.val % 16 * 512 + r.val, by omega⟩ : Fin 8192).val := by
  rw [coord]
  show BitVec.ofNat 32 (t.val % 16) * BitVec.ofNat 32 512 + BitVec.ofNat 32 r.val = _
  rw [← BitVec.ofNat_mul, ← BitVec.ofNat_add]

/-- One entry of a block's feature rows. -/
theorem feat_at (x0 : FVec Ideal S1x512x1024 .f32) (x1 : FVec Ideal S1x1024 .f32) (x3 : FVec Ideal S640x1024 .bf16) (r : Fin 512)
    (f : Fin 640) : ∑ x, x3 (ix2 f x) * k0_pay2 x0 x1 (ix2 r x)
    = ∑ k, Row.rms (fun k => x0 (ix3 0 r k)) (fun k => x1 (ix2 0 k)) k * x3 (ix2 f k) := by
  pointwise [k0_pay2, Row.rms]
  simp only [mul_comm (x3 _)]

/-- The selection keys one grid point stores. -/
theorem out6 (c : Dev nD) (t : Fin cfg0.N) (g : Fin 4) (s : Fin 512) (j : Fin 256) :
    (outsAt0 m c t).2.2.1 (ix4 0 g s j) = if h : j.val < 128 then tok m c t s ⟨512 + g * 128 + j, by omega⟩ else if j.val - 128 = (t.val % 16 * 512 + s) / 64 then 1 else 0 := by
  unfold Gen.outsAt0
  frame_out
  canon_tiles x h
  all_goals
    idx_vars x
    obtain rfl : x0 = 0 := Subsingleton.elim _ _
    obtain rfl : x1 = 0 := Subsingleton.elim _ _
    pointwise [k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105]
    first
    | rw [dif_pos (by omega)]
      exact (tok_at ..).trans (congrArg₂ (tok m c t) (Fin.ext (by (try dsimp only at *); omega)) (Fin.ext (by (try dsimp only at *); omega)))
    | rw [dif_neg (by omega), pos, shift, mark (by omega) (by dsimp only; omega)]
      rw [show x2 = s from Fin.ext (by (try dsimp only at *); omega), show j.val - 128 = x3.val by (try dsimp only at *); omega]

/-- The window keys one grid point stores. -/
theorem out7 (c : Dev nD) (t : Fin cfg0.N) (g : Fin 4) (s : Fin 512) (j : Fin 128) :
    (outsAt0 m c t).2.2.2.1 (ix4 0 g s j) = tok m c t s ⟨1024 + g * 128 + j, by omega⟩ := by
  unfold Gen.outsAt0
  frame_out
  canon_tiles x h
  all_goals
    idx_vars x
    obtain rfl : x0 = 0 := Subsingleton.elim _ _
    obtain rfl : x1 = 0 := Subsingleton.elim _ _
    pointwise [k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105]
    exact (tok_at ..).trans (congrArg₂ (tok m c t) (Fin.ext (by (try dsimp only at *); omega)) (Fin.ext (by (try dsimp only at *); omega)))

/-- The selection values one grid point stores. -/
theorem out8 (c : Dev nD) (t : Fin cfg0.N) (g : Fin 4) (f : Fin 80) (s : Fin 512) :
    (outsAt0 m c t).2.2.2.2.1 (ix4 0 g f s) = feat m c t s ⟨g * 80 + f, by omega⟩ + if f.val = 64 then 1 else 0 := by
  unfold Gen.outsAt0
  frame_out
  canon_tiles x h
  all_goals
    idx_vars x
    obtain rfl : x0 = 0 := Subsingleton.elim _ _
    obtain rfl : x1 = 0 := Subsingleton.elim _ _
    pointwise [k0_pay1, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105]
    rw [mark (by omega) (by decide)]
    exact congrArg₂ (· + ·) ((feat_at ..).trans <| congrArg₂ (feat m c t) (Fin.ext (by (try dsimp only at *); omega)) (Fin.ext (by (try dsimp only at *); omega))) (by rw [show f = x2 from Fin.ext (by (try dsimp only at *); omega)])

/-- The window values one grid point stores. -/
theorem out9 (c : Dev nD) (t : Fin cfg0.N) (g : Fin 4) (f : Fin 80) (s : Fin 512) :
    (outsAt0 m c t).2.2.2.2.2 (ix4 0 g f s) = feat m c t s ⟨320 + g * 80 + f, by omega⟩ + if f.val = 64 then 1 else 0 := by
  unfold Gen.outsAt0
  frame_out
  canon_tiles x h
  all_goals
    idx_vars x
    obtain rfl : x0 = 0 := Subsingleton.elim _ _
    obtain rfl : x1 = 0 := Subsingleton.elim _ _
    pointwise [k0_pay1, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105]
    rw [mark (by omega) (by decide)]
    exact congrArg₂ (· + ·) ((feat_at ..).trans <| congrArg₂ (feat m c t) (Fin.ext (by (try dsimp only at *); omega)) (Fin.ext (by (try dsimp only at *); omega))) (by rw [show f = x2 from Fin.ext (by (try dsimp only at *); omega)])

end Cert.KvIdeal.Val

end
-- ==== Proof.KvValue.lean ====
module

public import proofs.«01_k».proof.Proof.KvHost
public import proofs.«01_k».proof.Proof.KvSel
public import Idealize.ShloMosaic.Lib.Pipeline.ValueKit
public import Idealize.ShloMosaic.Lib.Pointwise
public import Idealize.ShloMosaic.Lib.Claim

/-! The six result arrays of the key and value projection are its reference's terms. -/

@[expose] public section

set_option maxRecDepth 16384

noncomputable section

namespace Cert.KvIdeal.Val

open Idealize.ShloMosaic Idealize.ShloMosaic.TcCoe Idealize.SL.Sem
open Idealize.ShloMosaic.Pipeline (Dat)
open Cert.KvIdeal Cert.KvIdeal.Gen

variable (m : (ℓ : Loc nD τ sig) → Buf (Elt Ideal) ℓ)

/-- The rows a grid point reads are the array's own. -/
theorem in0 (c : Dev nD) (t : Fin cfg0.N) (r : Fin 512) (k : Fin 1024) : iblk m c 0 t (ix3 0 r k)
    = m ((c : Thread nD τ).loc main_arg0) (ix3 ⟨t.val / 16, by have := lt_of_lt_of_eq t.isLt N_0; omega⟩ ⟨t.val % 16 * 512 + r, by omega⟩ k) := by
  have ht : t.val < 64 := lt_of_lt_of_eq t.isLt N_0
  blk_point [iblk, V, idx t]

/-- The gain row every grid point reads. -/
theorem in1 (c : Dev nD) (t : Fin cfg0.N) (k : Fin 1024) : iblk m c 1 t (ix2 0 k) = m ((c : Thread nD τ).loc main_arg1) (ix1 k) := by
  have h : ((cfg0.win 1).blk t).view.emb (ix2 0 k) = ix2 0 k := by blk_ext [idx t]
  exact (congrArg (V m c main_v22) h).trans (V_v22 m c k)

/-- The weights every grid point reads. -/
theorem in2 (c : Dev nD) (t : Fin cfg0.N) (k : Fin 1024) (j : Fin 1536) : iblk m c 2 t (ix2 k j) = V m c main_v23 (ix2 k j) := by
  have h : ((cfg0.win 2).blk t).view.emb (ix2 k j) = ix2 k j := by blk_ext [idx t]
  exact congrArg (V m c main_v23) h

/-- The transposed weights every grid point reads. -/
theorem in3 (c : Dev nD) (t : Fin cfg0.N) (f : Fin 640) (k : Fin 1024) : iblk m c 3 t (ix2 f k) = V m c main_v24 (ix2 f k) := by
  have h : ((cfg0.win 3).blk t).view.emb (ix2 f k) = ix2 f k := by blk_ext [idx t]
  exact congrArg (V m c main_v24) h

/-- A raw key or value is the reference's. -/
theorem tok_raw (c : Dev nD) (t : Fin cfg0.N) (r : Fin 512) (j : Fin 1536) (hj : j.val < 512) : tok m c t r j
    = KvRefIdeal.Val.kv (m ((c : Thread nD τ).loc main_arg0)) (m ((c : Thread nD τ).loc main_arg1)) (m ((c : Thread nD τ).loc main_arg2)) ⟨t.val / 16, by have := lt_of_lt_of_eq t.isLt N_0; omega⟩ ⟨t.val % 16 * 512 + r, by omega⟩ j := by
  unfold tok KvRefIdeal.Val.kv
  simp only [in0, in1, in2, raw_col m c _ j hj]

/-- A selection key is the reference's, then zeros. -/
theorem tok_sel (c : Dev nD) (t : Fin cfg0.N) (r : Fin 512) (g : Fin 4) (e : Fin 128) : tok m c t r ⟨512 + g * 128 + e, by omega⟩
    = if h : e.val < 64 then KvRefIdeal.Val.kv (m ((c : Thread nD τ).loc main_arg0)) (m ((c : Thread nD τ).loc main_arg1)) (m ((c : Thread nD τ).loc main_arg2)) ⟨t.val / 16, by have := lt_of_lt_of_eq t.isLt N_0; omega⟩ ⟨t.val % 16 * 512 + r, by omega⟩ ⟨512 + g * 64 + e, by omega⟩ else 0 := by
  unfold tok KvRefIdeal.Val.kv
  have hc (k : Fin 1024) := sel_col m c k g e
  simp only [in0, in1, in2, hc]
  by_cases h : e.val < 64
  · simp only [dif_pos h]
  · simp only [dif_neg h, mul_zero, Finset.sum_const_zero]

/-- A window key is the reference's, then zeros. -/
theorem tok_win (c : Dev nD) (t : Fin cfg0.N) (r : Fin 512) (g : Fin 4) (e : Fin 128) : tok m c t r ⟨1024 + g * 128 + e, by omega⟩
    = if h : e.val < 64 then KvRefIdeal.Val.kv (m ((c : Thread nD τ).loc main_arg0)) (m ((c : Thread nD τ).loc main_arg1)) (m ((c : Thread nD τ).loc main_arg2)) ⟨t.val / 16, by have := lt_of_lt_of_eq t.isLt N_0; omega⟩ ⟨t.val % 16 * 512 + r, by omega⟩ ⟨1024 + g * 64 + e, by omega⟩ else 0 := by
  unfold tok KvRefIdeal.Val.kv
  have hc (k : Fin 1024) := win_col m c k g e
  simp only [in0, in1, in2, hc]
  by_cases h : e.val < 64
  · simp only [dif_pos h]
  · simp only [dif_neg h, mul_zero, Finset.sum_const_zero]

/-- A selection value is the reference's, then zeros. -/
theorem feat_sel (c : Dev nD) (t : Fin cfg0.N) (r : Fin 512) (g : Fin 4) (e : Fin 80) : feat m c t r ⟨g * 80 + e, by omega⟩
    = if h : e.val < 64 then KvRefIdeal.Val.kv (m ((c : Thread nD τ).loc main_arg0)) (m ((c : Thread nD τ).loc main_arg1)) (m ((c : Thread nD τ).loc main_arg2)) ⟨t.val / 16, by have := lt_of_lt_of_eq t.isLt N_0; omega⟩ ⟨t.val % 16 * 512 + r, by omega⟩ ⟨768 + g * 64 + e, by omega⟩ else 0 := by
  unfold feat KvRefIdeal.Val.kv
  have hc (k : Fin 1024) := sel_row m c k g e
  simp only [in0, in1, in3, hc]
  by_cases h : e.val < 64
  · simp only [dif_pos h]
  · simp only [dif_neg h, mul_zero, Finset.sum_const_zero]

/-- A window value is the reference's, then zeros. -/
theorem feat_win (c : Dev nD) (t : Fin cfg0.N) (r : Fin 512) (g : Fin 4) (e : Fin 80) : feat m c t r ⟨320 + g * 80 + e, by omega⟩
    = if h : e.val < 64 then KvRefIdeal.Val.kv (m ((c : Thread nD τ).loc main_arg0)) (m ((c : Thread nD τ).loc main_arg1)) (m ((c : Thread nD τ).loc main_arg2)) ⟨t.val / 16, by have := lt_of_lt_of_eq t.isLt N_0; omega⟩ ⟨t.val % 16 * 512 + r, by omega⟩ ⟨1280 + g * 64 + e, by omega⟩ else 0 := by
  unfold feat KvRefIdeal.Val.kv
  have hc (k : Fin 1024) := win_row m c k g e
  simp only [in0, in1, in3, hc]
  by_cases h : e.val < 64
  · simp only [dif_pos h]
  · simp only [dif_neg h, mul_zero, Finset.sum_const_zero]

/-- The raw key array is the reference's term. -/
theorem final0 (c : Dev nD) : (dats m 0 c).arrAt 4 (cfgs 0).N
    = KvRefIdeal.Val.term0 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have ht : t.val < 64 := lt_of_lt_of_eq t.isLt N_0
  idx_vars y
  obtain rfl : y0 = 0 := Subsingleton.elim _ _
  have e : ((cfg0.win 4).blk t).view.emb (ix4 0 y1 y2 y3)
      = (ix4 ⟨t.val / 16, by omega⟩ y1 ⟨t.val % 16 * 32 + y2, by omega⟩ y3 : S4x2x512x2048.Idx) := by
    blk_ext [idx t]
  refine (out4 m c t y1 y2 y3).trans (Eq.trans ?_ ((congrArg _ e).trans (KvRefIdeal.Val.term0_at _ _ _ _ _ _ _)).symm)
  refine (tok_raw m c t _ _ (by dsimp only; omega)).trans ?_
  exact congrArg₂ (KvRefIdeal.Val.kv (m ((c : Thread nD τ).loc main_arg0)) (m ((c : Thread nD τ).loc main_arg1)) (m ((c : Thread nD τ).loc main_arg2)) _) (Fin.ext (by dsimp only; omega)) (Fin.ext (by dsimp only))

/-- The raw value array is the reference's term. -/
theorem final1 (c : Dev nD) : (dats m 0 c).arrAt 5 (cfgs 0).N
    = KvRefIdeal.Val.term1 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  have ht : t.val < 64 := lt_of_lt_of_eq t.isLt N_0
  idx_vars y
  obtain rfl : y0 = 0 := Subsingleton.elim _ _
  have e : ((cfg0.win 5).blk t).view.emb (ix4 0 y1 y2 y3)
      = (ix4 ⟨t.val / 16, by omega⟩ y1 ⟨t.val % 16 * 32 + y2, by omega⟩ y3 : S4x2x512x2048.Idx) := by
    blk_ext [idx t]
  refine (out5 m c t y1 y2 y3).trans (Eq.trans ?_ ((congrArg _ e).trans (KvRefIdeal.Val.term1_at _ _ _ _ _ _ _)).symm)
  refine (tok_raw m c t _ _ (by dsimp only; omega)).trans ?_
  exact congrArg₂ (KvRefIdeal.Val.kv (m ((c : Thread nD τ).loc main_arg0)) (m ((c : Thread nD τ).loc main_arg1)) (m ((c : Thread nD τ).loc main_arg2)) _) (Fin.ext (by dsimp only; omega)) (Fin.ext (by dsimp only))

/-- The selection key array is the reference's term. -/
theorem final2 (c : Dev nD) : (dats m 0 c).arrAt 6 (cfgs 0).N
    = KvRefIdeal.Val.term2 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  have ht : t.val < 64 := lt_of_lt_of_eq t.isLt N_0
  idx_vars y
  obtain rfl : y0 = 0 := Subsingleton.elim _ _
  have e : ((cfg0.win 6).blk t).view.emb (ix4 0 y1 y2 y3)
      = (ix4 ⟨t.val / 16, by omega⟩ y1 ⟨t.val % 16 * 512 + y2, by omega⟩ y3 : S4x4x8192x256.Idx) := by
    blk_ext [idx t]
  refine (out6 m c t y1 y2 y3).trans (Eq.trans ?_ ((congrArg _ e).trans (KvRefIdeal.Val.term2_at _ _ _ _ _ _ _)).symm)
  by_cases h : y3.val < 128
  · rw [dif_pos h]
    refine (tok_sel m c t y2 y1 ⟨y3, h⟩).trans ?_
    dsimp only
    rw [if_pos h]
  · rw [dif_neg h, dif_neg (by omega), if_neg h]

/-- The window key array is the reference's term. -/
theorem final3 (c : Dev nD) : (dats m 0 c).arrAt 7 (cfgs 0).N
    = KvRefIdeal.Val.term3 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  have ht : t.val < 64 := lt_of_lt_of_eq t.isLt N_0
  idx_vars y
  obtain rfl : y0 = 0 := Subsingleton.elim _ _
  have e : ((cfg0.win 7).blk t).view.emb (ix4 0 y1 y2 y3)
      = (ix4 ⟨t.val / 16, by omega⟩ y1 ⟨t.val % 16 * 512 + y2, by omega⟩ y3 : S4x4x8192x128.Idx) := by
    blk_ext [idx t]
  refine (out7 m c t y1 y2 y3).trans (Eq.trans ?_ ((congrArg _ e).trans (KvRefIdeal.Val.term3_at _ _ _ _ _ _ _)).symm)
  exact tok_win m c t y2 y1 y3

/-- The selection value array is the reference's term. -/
theorem final4 (c : Dev nD) : (dats m 0 c).arrAt 8 (cfgs 0).N
    = KvRefIdeal.Val.term4 (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  have ht : t.val < 64 := lt_of_lt_of_eq t.isLt N_0
  idx_vars y
  obtain rfl : y0 = 0 := Subsingleton.elim _ _
  have e : ((cfg0.win 8).blk t).view.emb (ix4 0 y1 y2 y3)
      = (ix4 ⟨t.val / 16, by omega⟩ y1 y2 ⟨t.val % 16 * 512 + y3, by omega⟩ : S4x4x80x8192.Idx) := by
    blk_ext [idx t]
  refine (out8 m c t y1 y2 y3).trans (Eq.trans ?_ ((congrArg _ e).trans (KvRefIdeal.Val.term4_at _ _ _ _ _ _ _)).symm)
  rw [feat_sel]
  by_cases h : y2.val < 64
  · rw [dif_pos h, dif_pos h, if_neg (by omega), add_zero]
  · rw [dif_neg h, dif_neg h, zero_add]

/-- The window value array is the reference's term. -/
theorem final5 (c : Dev nD) : (dats m 0 c).arrAt 9 (cfgs 0).N
    = KvRefIdeal.Val.term5 (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  have ht : t.val < 64 := lt_of_lt_of_eq t.isLt N_0
  idx_vars y
  obtain rfl : y0 = 0 := Subsingleton.elim _ _
  have e : ((cfg0.win 9).blk t).view.emb (ix4 0 y1 y2 y3)
      = (ix4 ⟨t.val / 16, by omega⟩ y1 y2 ⟨t.val % 16 * 512 + y3, by omega⟩ : S4x4x80x8192.Idx) := by
    blk_ext [idx t]
  refine (out9 m c t y1 y2 y3).trans (Eq.trans ?_ ((congrArg _ e).trans (KvRefIdeal.Val.term5_at _ _ _ _ _ _ _)).symm)
  rw [feat_win]
  by_cases h : y2.val < 64
  · rw [dif_pos h, dif_pos h, if_neg (by omega), add_zero]
  · rw [dif_neg h, dif_neg h, zero_add]

end Cert.KvIdeal.Val

end
-- ==== Proof.CmpRef.lean ====
module

public import proofs.«01_k».proof.Proof.RowMath
public import Idealize.ShloMosaic.Lib.Routing.Words
public import proofs.«01_k».proof.Proof.Gen.CmpRefIdeal.Run
public import Idealize.ShloMosaic.Lib.Pointwise

/-! The compression's reference, read at an index. -/

@[expose] public section

set_option maxRecDepth 16384

noncomputable section

namespace Cert.CmpRefIdeal.Val

open Idealize.ShloMosaic Idealize.ShloMosaic.TcCoe Idealize.SL.Sem
open Cert.CmpRefIdeal Cert.CmpRefIdeal.Gen

/-- The reference's blocks of two chunks with their positional encodings, each block a row. -/
def flat (T : FVec Ideal S4x2x512x2048 .bf16) (P : FVec Ideal S32x64 .f32) : FVec Ideal S4x511x4x2048 .f32 :=
  shapeCast _ (transpose S4x511x4x32x64 [0, 1, 3, 2, 4] (addf (concatenate S4x511x32x4x64 2 [⟨S4x511x16x4x64, (extractStridedSlice S4x511x16x4x64 ![0, 0, 0, 0, 0] (shapeCast _ (shapeCast _ (transpose S4x512x16x2x128 [0, 2, 3, 1, 4] (shapeCast _ (extf .f32 T bitsLt_bf16_f32) shapeCasts_S4x2x512x2048_S4x2x512x16x128) transposes_S4x2x512x16x128_S4x512x16x2x128_0_2_3_1_4) shapeCasts_S4x512x16x2x128_S4x8192x4x64) shapeCasts_S4x8192x4x64_S4x512x16x4x64) slices_S4x512x16x4x64_S4x511x16x4x64_0_0_0_0_0)⟩, ⟨S4x511x16x4x64, (extractStridedSlice S4x511x16x4x64 ![0, 1, 0, 0, 0] (shapeCast _ (shapeCast _ (transpose S4x512x16x2x128 [0, 2, 3, 1, 4] (shapeCast _ (extf .f32 T bitsLt_bf16_f32) shapeCasts_S4x2x512x2048_S4x2x512x16x128) transposes_S4x2x512x16x128_S4x512x16x2x128_0_2_3_1_4) shapeCasts_S4x512x16x2x128_S4x8192x4x64) shapeCasts_S4x8192x4x64_S4x512x16x4x64) slices_S4x512x16x4x64_S4x511x16x4x64_0_1_0_0_0)⟩] concatenates_S4x511x16x4x64_S4x511x16x4x64_S4x511x32x4x64_d2) (broadcastInDim S4x511x32x4x64 ![0, 1, 2, 3, 4] bcast_S1x1x32x1x64_S4x511x32x4x64_0_1_2_3_4 (broadcastInDim S1x1x32x1x64 ![2, 4] bcast_S32x64_S1x1x32x1x64_2_4 P))) transposes_S4x511x32x4x64_S4x511x4x32x64_0_1_3_2_4) shapeCasts_S4x511x4x32x64_S4x511x4x2048

/-- The reference's hidden layer before its activation. -/
def hidden (T : FVec Ideal S4x2x512x2048 .bf16) (P : FVec Ideal S32x64 .f32) (W : FVec Ideal S2048x256 .f32) : FVec Ideal S4x511x4x256 .f32 :=
  Host.dotGeneral dot_S4x511x4x2048_S2048x256_S4x511x4x256_3_0_012_1_n_n none (flat T P) W

/-- A hidden layer's activation by the second weights. -/
def second (H : FVec Ideal S4x511x4x256 .f32) (V : FVec Ideal S256x64 .f32) : FVec Ideal S4x511x4x64 .f32 :=
  Host.dotGeneral dot_S4x511x4x256_S256x64_S4x511x4x64_3_0_012_1_n_n none (mulf H (Host.divf (broadcastInDim S4x511x4x256 ![] bcast_S_S4x511x4x256 (constant S_ .f32 0x3F800000#32)) (addf (broadcastInDim S4x511x4x256 ![] bcast_S_S4x511x4x256 (constant S_ .f32 0x3F800000#32)) (Host.exp (Host.negf H))))) V

/-- The reference's compressed tokens. -/
def token (T : FVec Ideal S4x2x512x2048 .bf16) (P : FVec Ideal S32x64 .f32) (W : FVec Ideal S2048x256 .f32) (V : FVec Ideal S256x64 .f32) : FVec Ideal S4x511x4x64 .f32 :=
  second (hidden T P W) V

/-- The reference's result 0 as the composed term of its arguments. -/
def term0 (A0 : FVec Ideal S4x2x512x2048 .bf16) (A1 : FVec Ideal S4x2x512x2048 .bf16) (A2 : FVec Ideal S32x64 .f32) (A3 : FVec Ideal S32x64 .f32) (A4 : FVec Ideal S2048x256 .f32) (A5 : FVec Ideal S256x64 .f32) (A6 : FVec Ideal S2048x256 .f32) (A7 : FVec Ideal S256x64 .f32) : FVec Ideal S4x4x512x128 .bf16 :=
  truncf .bf16 (concatenate S4x4x512x128 3 [⟨S4x4x512x64, (pad S4x4x512x64 ![0, 0, 0, 0] ![0, 0, 1, 0] ![0, 0, 0, 0] (transpose S4x4x511x64 [0, 2, 1, 3] (token A0 A2 A4 A5) transposes_S4x511x4x64_S4x4x511x64_0_2_1_3) (sitofp .f32 (constantI S_ 32 0#32)) pads_S4x4x511x64_S4x4x512x64_000_000_010_000 h_S_)⟩, ⟨S4x4x512x64, (id (select (cmpi .eq (iotaInDim S4x4x512x64 32 3) (Host.divsi (iotaInDim S4x4x512x64 32 2) (broadcastInDim S4x4x512x64 ![] bcast_S_S4x4x512x64 (constantI S_ 32 8#32)))) (broadcastInDim S4x4x512x64 ![] bcast_S_S4x4x512x64 (constant S_ .f32 0x3F800000#32)) (broadcastInDim S4x4x512x64 ![] bcast_S_S4x4x512x64 (constant S_ .f32 0x00000000#32))))⟩] concatenates_S4x4x512x64_S4x4x512x64_S4x4x512x128_d3) bitsLt_bf16_f32

/-- The reference's result 1 as the composed term of its arguments. -/
def term1 (A0 : FVec Ideal S4x2x512x2048 .bf16) (A1 : FVec Ideal S4x2x512x2048 .bf16) (A2 : FVec Ideal S32x64 .f32) (A3 : FVec Ideal S32x64 .f32) (A4 : FVec Ideal S2048x256 .f32) (A5 : FVec Ideal S256x64 .f32) (A6 : FVec Ideal S2048x256 .f32) (A7 : FVec Ideal S256x64 .f32) : FVec Ideal S4x4x80x512 .bf16 :=
  truncf .bf16 ((concatenate S4x4x80x512 2 [⟨S4x4x64x512, ((pad S4x4x64x512 ![0, 0, 0, 0] ![0, 0, 0, 1] ![0, 0, 0, 0] (transpose S4x4x64x511 [0, 2, 3, 1] (token A1 A3 A6 A7) transposes_S4x511x4x64_S4x4x64x511_0_2_3_1) (sitofp .f32 (constantI S_ 32 0#32)) pads_S4x4x64x511_S4x4x64x512_000_000_000_010 h_S_))⟩, ⟨S4x4x1x512, ((broadcastInDim S4x4x1x512 ![] bcast_S_S4x4x1x512 (constant S_ .f32 0x3F800000#32)))⟩, ⟨S4x4x15x512, ((broadcastInDim S4x4x15x512 ![] bcast_S_S4x4x15x512 (constant S_ .f32 0x00000000#32)))⟩] concatenates_S4x4x64x512_S4x4x1x512_S4x4x15x512_S4x4x80x512_d2)) bitsLt_bf16_f32

/-- The choice by equality of two small numbers held in words. -/
theorem hot {a b : ℕ} (ha : a < 2 ^ 32) (hb : b < 2 ^ 32) : Scalar.select (IntOp.cmpi CmpIPredicate.eq (BitVec.ofNat 32 a) (BitVec.ofNat 32 b)) (1 : EReal) 0
    = if a = b then 1 else 0 := by
  have e : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases h : a = b
  · simp [Scalar.select, IntOp.cmpi, h]
  · have : (BitVec.ofNat 32 a == BitVec.ofNat 32 b) = false := by simpa using fun k => h (e.1 k)
    simp [Scalar.select, IntOp.cmpi, h, this]

/-- The word zero is the number zero. -/
theorem zero_word : FloatOps.sitofp (F := Ideal) FTy.f32 0#32 = (0 : EReal) := by
  show ((((0#32 : BitVec 32).toInt : ℤ) : ℝ) : EReal) = 0
  simp

/-- Feature `f` of block `i` of one key group: the sixteen tokens of chunk `i`, then those of the next chunk, 64 features each. -/
def tok (T : FVec Ideal S4x2x512x2048 .bf16) (b g : Fin 4) (i : Fin 511) (f : Fin 2048) : EReal :=
  T (ix4 b ⟨g / 2, by omega⟩ ⟨i + f / 1024, by omega⟩ ⟨f / 64 % 16 * 128 + (g % 2 * 64 + f % 64), by omega⟩)

/-- The hidden value `j` of block `i` before the activation: the block with its positional encodings, by the first weights. -/
def hid (T : FVec Ideal S4x2x512x2048 .bf16) (P : FVec Ideal S32x64 .f32) (W : FVec Ideal S2048x256 .f32)
    (b g : Fin 4) (i : Fin 511) (j : Fin 256) : EReal :=
  ∑ f : Fin 2048, (tok T b g i f + P (ix2 ⟨f / 64, by omega⟩ ⟨f % 64, by omega⟩)) * W (ix2 f j)

/-- The compressed token of block `i`, feature `d`. -/
def cmp (T : FVec Ideal S4x2x512x2048 .bf16) (P : FVec Ideal S32x64 .f32) (W : FVec Ideal S2048x256 .f32)
    (V : FVec Ideal S256x64 .f32) (b g : Fin 4) (i : Fin 511) (d : Fin 64) : EReal :=
  ∑ j, hid T P W b g i j * Row.gate (hid T P W b g i j) * V (ix2 j d)

/-- Entry `f` of a block's row: a token's feature plus its positional encoding. -/
theorem flat_at (T : FVec Ideal S4x2x512x2048 .bf16) (P : FVec Ideal S32x64 .f32) (b : Fin 4) (i : Fin 511) (g : Fin 4) (f : Fin 2048) :
    flat T P (ix4 b i g f) = tok T b g i f + P (ix2 ⟨f / 64, by omega⟩ ⟨f % 64, by omega⟩) := by
  pointwise [flat]
  refine congrArg (· + _) ?_
  unfold tok
  by_cases h : f.val / 64 < 16
  · rw [dif_pos h]
    exact congrArg T (congrArg₂ (ix4 b _) (Fin.ext (by dsimp only; omega)) (Fin.ext (by dsimp only; omega)))
  · rw [dif_neg h]
    exact congrArg T (congrArg₂ (ix4 b _) (Fin.ext (by dsimp only; omega)) (Fin.ext (by dsimp only; omega)))

attribute [local irreducible] flat tok

/-- The hidden layer at an index. -/
theorem hidden_at (T : FVec Ideal S4x2x512x2048 .bf16) (P : FVec Ideal S32x64 .f32) (W : FVec Ideal S2048x256 .f32)
    (b : Fin 4) (i : Fin 511) (g : Fin 4) (j : Fin 256) : hidden T P W (ix4 b i g j) = hid T P W b g i j := by
  pointwise [hidden, hid]
  simp only [flat_at]

attribute [local irreducible] hidden hid

/-- The second layer at an index. -/
theorem second_at (H : FVec Ideal S4x511x4x256 .f32) (V : FVec Ideal S256x64 .f32) (b : Fin 4) (i : Fin 511) (g : Fin 4) (d : Fin 64) :
    second H V (ix4 b i g d) = ∑ j, H (ix4 b i g j) * Row.gate (H (ix4 b i g j)) * V (ix2 j d) := by
  pointwise [second, Row.gate]

attribute [local irreducible] second

/-- The compressed tokens at an index. -/
theorem token_at (T : FVec Ideal S4x2x512x2048 .bf16) (P : FVec Ideal S32x64 .f32) (W : FVec Ideal S2048x256 .f32)
    (V : FVec Ideal S256x64 .f32) (b : Fin 4) (i : Fin 511) (g : Fin 4) (d : Fin 64) : token T P W V (ix4 b i g d) = cmp T P W V b g i d := by
  unfold token cmp
  have e (j : Fin 256) := hidden_at T P W b i g j
  have k := second_at (hidden T P W) V b i g d
  simp only [e] at k
  exact k

attribute [local irreducible] token cmp

/-- The compressed keys: a block's key (zeros for the row past the last block), then the one-hot row of its selection block. -/
theorem term0_at (A0 : FVec Ideal S4x2x512x2048 .bf16) (A1 : FVec Ideal S4x2x512x2048 .bf16) (A2 : FVec Ideal S32x64 .f32) (A3 : FVec Ideal S32x64 .f32) (A4 : FVec Ideal S2048x256 .f32) (A5 : FVec Ideal S256x64 .f32) (A6 : FVec Ideal S2048x256 .f32) (A7 : FVec Ideal S256x64 .f32) (b g : Fin 4) (i : Fin 512) (e : Fin 128) : term0 A0 A1 A2 A3 A4 A5 A6 A7 (ix4 b g i e)
    = if h : e.val < 64 then if k : i.val < 511 then cmp A0 A2 A4 A5 b g ⟨i, k⟩ ⟨e, h⟩ else 0
      else if e.val - 64 = i.val / 8 then 1 else 0 := by
  pointwise [term0, id]
  rw [show IntOp.divsi ArithUnit.host (BitVec.ofNat 32 i.val) 8#32 = BitVec.ofNat 32 (i.val / 8) from Routing.divsi_word _ (by omega) (by decide) (by decide),
    hot (by omega) (by omega)]
  simp only [token_at, zero_word]
  by_cases h : e.val < 64
  · by_cases k : i.val < 511
    · rw [dif_pos h, dif_pos ⟨k, h⟩, dif_pos h, dif_pos k]
    · rw [dif_pos h, dif_neg (fun q => k q.1), dif_pos h, dif_neg k]
  · rw [dif_neg h, dif_neg h]

/-- The compressed values, feature rows first: a block's value (zeros past the last block), a row of ones, zeros. -/
theorem term1_at (A0 : FVec Ideal S4x2x512x2048 .bf16) (A1 : FVec Ideal S4x2x512x2048 .bf16) (A2 : FVec Ideal S32x64 .f32) (A3 : FVec Ideal S32x64 .f32) (A4 : FVec Ideal S2048x256 .f32) (A5 : FVec Ideal S256x64 .f32) (A6 : FVec Ideal S2048x256 .f32) (A7 : FVec Ideal S256x64 .f32) (b g : Fin 4) (e : Fin 80) (i : Fin 512) : term1 A0 A1 A2 A3 A4 A5 A6 A7 (ix4 b g e i)
    = if h : e.val < 64 then if k : i.val < 511 then cmp A1 A3 A6 A7 b g ⟨i, k⟩ ⟨e, h⟩ else 0
      else if e.val = 64 then 1 else 0 := by
  pointwise [term1, id]
  simp only [token_at, zero_word]
  by_cases h : e.val < 64
  · by_cases k : i.val < 511
    · simp only [h, k, and_self, dite_true]
    · simp only [h, k, and_false, dite_true, dite_false]
  · by_cases k : e.val = 64
    · have k' : e.val - 64 < 1 := by omega
      simp only [h, k', dite_true, dite_false]
      rw [if_pos k]
    · have k' : ¬ e.val - 64 < 1 := by omega
      simp only [h, k', dite_false]
      rw [if_neg k]

end Cert.CmpRefIdeal.Val

end
-- ==== Proof.CmpMath.lean ====
module

public import proofs.«01_k».proof.Proof.CmpRef

/-! The hidden layer of the compression, its sum taken apart. -/

@[expose] public section

noncomputable section

namespace Cert.CmpRefIdeal.Val

open Idealize.ShloMosaic Idealize.ShloMosaic.TcCoe Idealize.SL.Sem
open Cert.CmpRefIdeal

/-- A number that is neither infinity. -/
def Finite (x : EReal) : Prop := x ≠ ⊤ ∧ x ≠ ⊥

/-- A finite number's product with a finite factor may be taken out of a sum whose other part is any extended real. -/
theorem add_mul_of_finite {p w : EReal} (hp : Finite p) (hw : Finite w) (a : EReal) : (a + p) * w = a * w + p * w := by
  lift p to ℝ using hp
  lift w to ℝ using hw
  induction a with
  | coe a => norm_cast; exact add_mul a p w
  | bot =>
    rcases lt_trichotomy w 0 with h | h | h
    · rw [EReal.bot_add, EReal.bot_mul_coe_of_neg h, ← EReal.coe_mul, EReal.top_add_coe]
    · subst h; simp
    · rw [EReal.bot_add, EReal.bot_mul_coe_of_pos h, EReal.bot_add]
  | top =>
    rcases lt_trichotomy w 0 with h | h | h
    · rw [EReal.top_add_coe, EReal.top_mul_coe_of_neg h, EReal.bot_add]
    · subst h; simp
    · rw [EReal.top_add_coe, EReal.top_mul_coe_of_pos h, ← EReal.coe_mul, EReal.top_add_coe]

/-- A sum over 2048 is the sum over its first and its last 1024. -/
theorem sum_halves (f : Fin 2048 → EReal) : ∑ x, f x = ∑ x : Fin 1024, f ⟨x, by omega⟩ + ∑ x : Fin 1024, f ⟨1024 + x, by omega⟩ := by
  rw [Fin.sum_univ_tiles 2 1024 rfl f, Fin.sum_univ_two]
  refine congrArg₂ (· + ·) (Finset.sum_congr rfl fun x _ => congrArg f (Fin.ext ?_)) (Finset.sum_congr rfl fun x _ => congrArg f (Fin.ext ?_))
  · simp
  · simp

/-- A sum over 2048 terms that are zero outside the 64 of each 128 that parity `p` names is a sum over 1024. -/
theorem sum_spread (p : ℕ) (hp : p < 2) (F : Fin 2048 → EReal) (W : Fin 1024 → EReal) :
    ∑ l : Fin 2048, F l * (if l.val % 128 / 64 = p then W ⟨l / 128 * 64 + l % 64, by omega⟩ else 0)
      = ∑ x : Fin 1024, F ⟨x / 64 * 128 + (p * 64 + x % 64), by omega⟩ * W x := by
  symm
  refine Finset.sum_of_injOn (fun x : Fin 1024 => (⟨x / 64 * 128 + (p * 64 + x % 64), by omega⟩ : Fin 2048)) ?_ ?_ ?_ ?_
  · intro x _ y _ h
    have h := Fin.ext_iff.1 h
    dsimp only at h
    exact Fin.ext (by omega)
  · intro x _
    exact Finset.mem_coe.2 (Finset.mem_univ _)
  · intro l _ h
    rw [if_neg, mul_zero]
    intro k
    refine h ⟨⟨l / 128 * 64 + l % 64, by omega⟩, Finset.mem_coe.2 (Finset.mem_univ _), Fin.ext ?_⟩
    dsimp only
    omega
  · intro x _
    rw [if_pos (by dsimp only; omega)]
    exact congrArg _ (congrArg W (Fin.ext (by dsimp only; omega)))

/-- The hidden value taken apart: the two chunks' products with the two halves of the first weights, and the positional
    encodings' products with them. -/
theorem hid_split (T : FVec Ideal S4x2x512x2048 .bf16) (P : FVec Ideal S32x64 .f32) (W : FVec Ideal S2048x256 .f32)
    (hP : ∀ y, Finite (P y)) (hW : ∀ y, Finite (W y)) (b g : Fin 4) (i : Fin 511) (j : Fin 256) : hid T P W b g i j
    = (∑ x : Fin 1024, T (ix4 b ⟨g / 2, by omega⟩ ⟨i, by omega⟩ ⟨x / 64 * 128 + (g % 2 * 64 + x % 64), by omega⟩) * W (ix2 ⟨x, by omega⟩ j)
        + ∑ x : Fin 1024, T (ix4 b ⟨g / 2, by omega⟩ ⟨i + 1, by omega⟩ ⟨x / 64 * 128 + (g % 2 * 64 + x % 64), by omega⟩) * W (ix2 ⟨1024 + x, by omega⟩ j))
      + (∑ x : Fin 1024, P (ix2 ⟨x / 64, by omega⟩ ⟨x % 64, by omega⟩) * W (ix2 ⟨x, by omega⟩ j)
        + ∑ x : Fin 1024, P (ix2 ⟨(1024 + x) / 64, by omega⟩ ⟨(1024 + x) % 64, by omega⟩) * W (ix2 ⟨1024 + x, by omega⟩ j)) := by
  unfold hid
  simp only [add_mul_of_finite (hP _) (hW _), Finset.sum_add_distrib]
  rw [sum_halves, sum_halves]
  refine congrArg (· + _) (congrArg₂ (· + ·) (Finset.sum_congr rfl fun x _ => ?_) (Finset.sum_congr rfl fun x _ => ?_))
  · refine congrArg (· * _) ?_
    unfold tok
    exact congrArg T (congrArg₂ (ix4 b _) (Fin.ext (by dsimp only; omega)) (Fin.ext (by dsimp only; omega)))
  · refine congrArg (· * _) ?_
    unfold tok
    exact congrArg T (congrArg₂ (ix4 b _) (Fin.ext (by dsimp only; omega)) (Fin.ext (by dsimp only; omega)))

end Cert.CmpRefIdeal.Val

end
-- ==== Proof.CmpPre.lean ====
module

public import proofs.«01_k».proof.Defs
public import proofs.«01_k».proof.Proof.CmpMath
public import Idealize.ShloMosaic.Lib.Pointwise

/-! What the precondition of the compression says: its position encodings and first weights are finite. -/

@[expose] public section

noncomputable section

namespace Cert.CmpIdeal.Pre

open Idealize.ShloMosaic Idealize.ShloMosaic.TcCoe Idealize.SL.Sem
open Cert.CmpRefIdeal.Val (Finite)

/-- The predicate's shape relations. -/
theorem facts : Cert.Pre_finite_encodings_and_weights.Facts := ⟨by decide, by decide⟩

/-- A number whose absolute value is below infinity is finite. -/
theorem finite_of_lt (x : Ideal .f32)
    (h : FloatOps.cmpf .olt (FloatOps.hostAbsf x) (FloatOps.ofBits (F := Ideal) .f32 0x7F800000#32) = 1#1) : Finite x := by
  have htop : Ideal.ofBits .f32 0x7F800000#32 = ⊤ := by simp [Ideal.ofBits, Ideal.ieee]
  have h' : Ideal.cmp .olt (max (x : EReal) (-(x : EReal))) (Ideal.ofBits .f32 0x7F800000#32) = 1 := h
  rw [htop, Ideal.cmp_olt_eq_one, max_lt_iff] at h'
  refine ⟨ne_of_lt h'.1, fun k => ?_⟩
  subst k
  simp at h'

/-- The precondition read entry by entry. -/
theorem finite (m : (ℓ : Loc Cert.CmpIdeal.nD Cert.CmpIdeal.τ Cert.CmpIdeal.sig) → Buf (Elt Ideal) ℓ)
    (h : @Cert.Pre_CmpIdeal_finite_encodings_and_weights facts m) (c : Dev Cert.CmpIdeal.nD) :
    (∀ y, Finite (m (c.tc.loc Cert.CmpIdeal.main_arg2) y)) ∧ (∀ y, Finite (m (c.tc.loc Cert.CmpIdeal.main_arg3) y)) ∧ (∀ y, Finite (m (c.tc.loc Cert.CmpIdeal.main_arg4) y)) ∧ (∀ y, Finite (m (c.tc.loc Cert.CmpIdeal.main_arg6) y)) :=
  ⟨fun y => finite_of_lt _ (congrFun (h c).1 y), fun y => finite_of_lt _ (congrFun (h c).2.1 y),
    fun y => finite_of_lt _ (congrFun (h c).2.2.1 y), fun y => finite_of_lt _ (congrFun (h c).2.2.2 y)⟩

end Cert.CmpIdeal.Pre

end
-- ==== Proof.CmpHost.lean ====
module

public import proofs.«01_k».proof.Proof.Gen.CmpIdeal.Frame
public import proofs.«01_k».proof.Proof.CmpRef
public import Idealize.ShloMosaic.Lib.Pipeline.ValueKit
public import Idealize.ShloMosaic.Lib.Pointwise
public import Idealize.ShloMosaic.Lib.Claim

/-! The arrays the host hands the compression. -/

@[expose] public section

set_option maxRecDepth 16384

noncomputable section

namespace Cert.CmpIdeal.Val

open Idealize.ShloMosaic Idealize.ShloMosaic.TcCoe Idealize.SL.Sem
open Idealize.ShloMosaic.Pipeline (Dat)
open Cert.CmpIdeal Cert.CmpIdeal.Gen

variable (m : (ℓ : Loc nD τ sig) → Buf (Elt Ideal) ℓ)

/-- Every window's block index at a grid point. -/
theorem idx : ∀ t : Fin cfg0.N, win0_0.index t = ![t.val / 4, t.val % 4 / 2, 0, 0] ∧ win0_1.index t = ![t.val / 4, t.val % 4 / 2, 0, 0]
    ∧ win0_2.index t = ![t.val % 2, 0, 0] ∧ win0_3.index t = ![t.val % 2, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![t.val / 4, t.val % 4, 0, 0] ∧ win0_11.index t = ![t.val / 4, t.val % 4, 0, 0] :=
  (by decide +kernel : ∀ t : Fin grid0.N, _)

/-- The keys' first weights, their halves side by side, with every 64 rows set into the first (`p = 0`) or the last (`p = 1`)
    64 of 128 rows and zeros elsewhere. -/
theorem V_v16 (c : Dev nD) (p : Fin 2) (l : Fin 2048) (j : Fin 512) : V m c main_v16 (ix3 p l j)
    = if l.val % 128 / 64 = p.val then
        if h : j.val < 256 then m (c, Proc.tc.devRef main_arg4) (ix2 ⟨l / 128 * 64 + l % 64, by omega⟩ ⟨j.val, by omega⟩)
        else m (c, Proc.tc.devRef main_arg4) (ix2 ⟨1024 + (l / 128 * 64 + l % 64), by omega⟩ ⟨j.val - 256, by omega⟩)
      else (0 : EReal) := by
  simp only [V, hostOps0, hostOps0_1, hostOps0_2, hostOps0_3, hostOps0_4, List.flatten_cons, List.flatten_nil, List.append_nil,
    List.cons_append, List.nil_append]
  after_results_simp
  pointwise []
  after_results_simp
  pointwise []
  after_results_simp
  pointwise []
  after_results_simp
  pointwise []
  by_cases hp : p.val < 1
  · by_cases hl : l.val % 128 < 64
    · have e : l.val % 64 = l.val % 128 := by omega
      have q : l.val % 128 / 64 = p.val := by omega
      simp only [hp, hl, q, e, dite_true, if_true]
    · have q : ¬ l.val % 128 / 64 = p.val := by omega
      simp only [hp, hl, q, dite_true, dite_false, if_false]
  · by_cases hl : l.val % 128 < 64
    · have q : ¬ l.val % 128 / 64 = p.val := by omega
      simp only [hp, hl, q, dite_true, dite_false, if_false]
    · have e : l.val % 64 = l.val % 128 - 64 := by omega
      have q : l.val % 128 / 64 = p.val := by omega
      simp only [hp, hl, q, e, dite_false, if_true]

/-- The values' first weights, their halves side by side, with every 64 rows set into the first (`p = 0`) or the last (`p = 1`)
    64 of 128 rows and zeros elsewhere. -/
theorem V_v28 (c : Dev nD) (p : Fin 2) (l : Fin 2048) (j : Fin 512) : V m c main_v28 (ix3 p l j)
    = if l.val % 128 / 64 = p.val then
        if h : j.val < 256 then m (c, Proc.tc.devRef main_arg6) (ix2 ⟨l / 128 * 64 + l % 64, by omega⟩ ⟨j.val, by omega⟩)
        else m (c, Proc.tc.devRef main_arg6) (ix2 ⟨1024 + (l / 128 * 64 + l % 64), by omega⟩ ⟨j.val - 256, by omega⟩)
      else (0 : EReal) := by
  simp only [V, hostOps0, hostOps0_1, hostOps0_2, hostOps0_3, hostOps0_4, List.flatten_cons, List.flatten_nil, List.append_nil,
    List.cons_append, List.nil_append]
  after_results_simp
  pointwise []
  after_results_simp
  pointwise []
  after_results_simp
  pointwise []
  after_results_simp
  pointwise []
  by_cases hp : p.val < 1
  · by_cases hl : l.val % 128 < 64
    · have e : l.val % 64 = l.val % 128 := by omega
      have q : l.val % 128 / 64 = p.val := by omega
      simp only [hp, hl, q, e, dite_true, if_true]
    · have q : ¬ l.val % 128 / 64 = p.val := by omega
      simp only [hp, hl, q, dite_true, dite_false, if_false]
  · by_cases hl : l.val % 128 < 64
    · have q : ¬ l.val % 128 / 64 = p.val := by omega
      simp only [hp, hl, q, dite_true, dite_false, if_false]
    · have e : l.val % 64 = l.val % 128 - 64 := by omega
      have q : l.val % 128 / 64 = p.val := by omega
      simp only [hp, hl, q, e, dite_false, if_true]

/-- The keys' first weights with their lower half set beside their upper half. -/
theorem V_v32 (c : Dev nD) (k : Fin 1024) (j : Fin 512) : V m c main_v32 (ix2 k j)
    = if h : j.val < 256 then m (c, Proc.tc.devRef main_arg4) (ix2 ⟨k.val, by omega⟩ ⟨j.val, by omega⟩)
      else m (c, Proc.tc.devRef main_arg4) (ix2 ⟨1024 + k.val, by omega⟩ ⟨j.val - 256, by omega⟩) := by
  simp only [V, hostOps0, hostOps0_1, hostOps0_2, hostOps0_3, hostOps0_4, List.flatten_cons, List.flatten_nil, List.append_nil,
    List.cons_append, List.nil_append]
  after_results_simp
  pointwise []
  after_results_simp
  pointwise []

/-- The values' first weights with their lower half set beside their upper half. -/
theorem V_v36 (c : Dev nD) (k : Fin 1024) (j : Fin 512) : V m c main_v36 (ix2 k j)
    = if h : j.val < 256 then m (c, Proc.tc.devRef main_arg6) (ix2 ⟨k.val, by omega⟩ ⟨j.val, by omega⟩)
      else m (c, Proc.tc.devRef main_arg6) (ix2 ⟨1024 + k.val, by omega⟩ ⟨j.val - 256, by omega⟩) := by
  simp only [V, hostOps0, hostOps0_1, hostOps0_2, hostOps0_3, hostOps0_4, List.flatten_cons, List.flatten_nil, List.append_nil,
    List.cons_append, List.nil_append]
  after_results_simp
  pointwise []
  after_results_simp
  pointwise []

/-- The keys' position encodings as one row, sixteen times over. -/
theorem V_v39 (c : Dev nD) (r : Fin 16) (k : Fin 2048) : V m c main_v39 (ix2 r k)
    = m (c, Proc.tc.devRef main_arg2) (ix2 ⟨k.val / 64, by omega⟩ ⟨k.val % 64, by omega⟩) := by
  simp only [V, hostOps0, hostOps0_1, hostOps0_2, hostOps0_3, hostOps0_4, List.flatten_cons, List.flatten_nil, List.append_nil,
    List.cons_append, List.nil_append]
  after_results_simp
  pointwise []

/-- The values' position encodings as one row, sixteen times over. -/
theorem V_v42 (c : Dev nD) (r : Fin 16) (k : Fin 2048) : V m c main_v42 (ix2 r k)
    = m (c, Proc.tc.devRef main_arg3) (ix2 ⟨k.val / 64, by omega⟩ ⟨k.val % 64, by omega⟩) := by
  simp only [V, hostOps0, hostOps0_1, hostOps0_2, hostOps0_3, hostOps0_4, List.flatten_cons, List.flatten_nil, List.append_nil,
    List.cons_append, List.nil_append]
  after_results_simp
  pointwise []

/-- The keys' second weights and columns of zeros. -/
theorem V_v1 (c : Dev nD) (k : Fin 256) (e : Fin 128) : V m c main_v1 (ix2 k e)
    = if h : e.val < 64 then m (c, Proc.tc.devRef main_arg5) (ix2 k ⟨e.val, h⟩) else (0 : EReal) := by
  simp only [V, hostOps0, hostOps0_1, hostOps0_2, hostOps0_3, hostOps0_4, List.flatten_cons, List.flatten_nil, List.append_nil,
    List.cons_append, List.nil_append]
  after_results_simp
  pointwise []
  simp only [StableHlo.TRef.toBuf, StableHlo.TRef.ofBuf, cast_eq]
  pointwise []
  rw [← Cert.CmpRefIdeal.Val.zero_word]

/-- The values' second weights transposed and rows of zeros. -/
theorem V_v4 (c : Dev nD) (e : Fin 80) (k : Fin 256) : V m c main_v4 (ix2 e k)
    = if h : e.val < 64 then m (c, Proc.tc.devRef main_arg7) (ix2 k ⟨e.val, h⟩) else (0 : EReal) := by
  simp only [V, hostOps0, hostOps0_1, hostOps0_2, hostOps0_3, hostOps0_4, List.flatten_cons, List.flatten_nil, List.append_nil,
    List.cons_append, List.nil_append]
  after_results_simp
  pointwise []
  simp only [StableHlo.TRef.toBuf, StableHlo.TRef.ofBuf, cast_eq]
  pointwise []
  rw [← Cert.CmpRefIdeal.Val.zero_word]
end Cert.CmpIdeal.Val

end
-- ==== Proof.CmpBlock.lean ====
module

public import proofs.«01_k».proof.Proof.Gen.CmpIdeal.Frame
public import proofs.«01_k».proof.Proof.CmpMath
public import Idealize.ShloMosaic.Lib.Pipeline.ValueKit
public import Idealize.ShloMosaic.Lib.Pointwise
public import Idealize.ShloMosaic.Lib.Claim

/-! What one grid point of the compression stores. -/

@[expose] public section

set_option maxRecDepth 16384

noncomputable section

namespace Cert.CmpIdeal.Val

open Idealize.ShloMosaic Idealize.ShloMosaic.TcCoe Idealize.SL.Sem
open Idealize.ShloMosaic.Pipeline (Dat)
open Cert.CmpIdeal Cert.CmpIdeal.Gen

/-- A row's hidden value as the kernel sums it: the row's chunk and the next row's by the two halves of the spread weights,
    then the positional encodings by the two halves of the weights. The row after the last is the first. -/
def pre (T : FVec Ideal S1x1x512x2048 .bf16) (S : FVec Ideal S1x2048x512 .bf16) (W : FVec Ideal S1024x512 .bf16)
    (P : FVec Ideal S16x2048 .bf16) (i : Fin 512) (x : Fin 256) : EReal :=
  ∑ k, T (ix4 0 0 i k) * S (ix3 0 k ⟨x, by omega⟩)
    + ∑ k, T (ix4 0 0 ⟨(i + 512 - 511) % 512, by omega⟩ k) * S (ix3 0 k ⟨256 + x, by omega⟩)
    + (∑ k : Fin 1024, P (ix2 0 ⟨k, by omega⟩) * W (ix2 k ⟨x, by omega⟩)
      + ∑ k : Fin 1024, P (ix2 0 ⟨1024 + k, by omega⟩) * W (ix2 k ⟨256 + x, by omega⟩))

/-- The choice of the rows before the last. -/
theorem before_last (i : Fin 512) (a : EReal) :
    Scalar.select (IntOp.cmpi CmpIPredicate.slt (BitVec.ofNat 32 i) 511#32) a 0 = if i.val < 511 then a else 0 := by
  have h : ∀ i : Fin 512, IntOp.cmpi CmpIPredicate.slt (BitVec.ofNat 32 i) 511#32 = if i.val < 511 then 1#1 else 0#1 := by
    decide +kernel
  rw [h]
  split <;> simp [Scalar.select]

/-- A one-bit word widened and read as a number. -/
theorem bit_word (p : Prop) [Decidable p] :
    FloatOps.sitofp (F := Ideal) FTy.f32 (BitVec.setWidth 32 (if p then 1#1 else 0#1)) = if p then (1 : EReal) else 0 := by
  split
  · show (((((BitVec.setWidth 32 1#1).toInt : ℤ) : ℝ) : EReal)) = 1
    simp
  · show (((((BitVec.setWidth 32 0#1).toInt : ℤ) : ℝ) : EReal)) = 0
    simp

/-- The column of a row's selection block, as the kernel's words say it. -/
theorem block_word : ∀ (i : Fin 512), IntOp.addi (64#32) (IntOp.shrsi ArithUnit.vector (BitVec.ofNat 32 i) 3#32) = BitVec.ofNat 32 (64 + i / 8) := by
  decide +kernel

/-- Equality of two small numbers held in words. -/
theorem eq_word {a b : ℕ} (ha : a < 2 ^ 32) (hb : b < 2 ^ 32) :
    IntOp.cmpi CmpIPredicate.eq (BitVec.ofNat 32 a) (BitVec.ofNat 32 b) = if a = b then 1#1 else 0#1 := by
  have e : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases h : a = b
  · simp [IntOp.cmpi, h]
  · have : (BitVec.ofNat 32 a == BitVec.ofNat 32 b) = false := by simpa using fun k => h (e.1 k)
    simp [IntOp.cmpi, h, this]

/-- The compressed keys one grid point stores. -/
theorem pay0 (x0 x1 : FVec Ideal S1x1x512x2048 .bf16) (x2 x3 : FVec Ideal S1x2048x512 .bf16) (x4 x5 : FVec Ideal S1024x512 .bf16) (x6 x7 : FVec Ideal S16x2048 .bf16) (x8 : FVec Ideal S256x128 .bf16) (x9 : FVec Ideal S80x256 .bf16) (i : Fin 512) (e : Fin 128) :
    out0_10 (F := Ideal) x0 x1 x2 x3 x4 x5 x6 x7 x8 x9 (ix4 0 0 i e)
      = (if i.val < 511 then ∑ x, pre x0 x2 x4 x6 i x * Row.gate (pre x0 x2 x4 x6 i x) * x8 (ix2 x e) else 0)
        + if e.val = 64 + i.val / 8 then 1 else 0 := by
  frame_out
  pointwise [k0_pay5, k0_pay2, k0_pay3, k0_pay4]
  rw [before_last, block_word, eq_word (by omega) (by omega), bit_word]
  rfl

/-- The compressed values one grid point stores. -/
theorem pay1 (x0 x1 : FVec Ideal S1x1x512x2048 .bf16) (x2 x3 : FVec Ideal S1x2048x512 .bf16) (x4 x5 : FVec Ideal S1024x512 .bf16) (x6 x7 : FVec Ideal S16x2048 .bf16) (x8 : FVec Ideal S256x128 .bf16) (x9 : FVec Ideal S80x256 .bf16) (i : Fin 512) (e : Fin 80) :
    out0_11 (F := Ideal) x0 x1 x2 x3 x4 x5 x6 x7 x8 x9 (ix4 0 0 e i)
      = (if i.val < 511 then ∑ x, x9 (ix2 e x) * (pre x1 x3 x5 x7 i x * Row.gate (pre x1 x3 x5 x7 i x)) else 0)
        + if e.val = 64 then 1 else 0 := by
  frame_out
  pointwise [k0_pay1, k0_pay6, k0_pay7, k0_pay8, k0_pay9]
  rw [before_last, show (64#32 : BitVec 32) = BitVec.ofNat 32 64 from rfl, eq_word (by omega) (by omega), bit_word]
  rfl
end Cert.CmpIdeal.Val

end
-- ==== Proof.CmpValue.lean ====
module

public import proofs.«01_k».proof.Proof.Gen.CmpIdeal.Frame
public import proofs.«01_k».proof.Proof.CmpHost
public import proofs.«01_k».proof.Proof.CmpBlock
public import Idealize.ShloMosaic.Lib.Pipeline.ValueKit
public import Idealize.ShloMosaic.Lib.Pointwise
public import Idealize.ShloMosaic.Lib.Claim

/-! The two result arrays of the compression are its reference's terms. -/

@[expose] public section

set_option maxRecDepth 16384

noncomputable section

namespace Cert.CmpIdeal.Val

open Idealize.ShloMosaic Idealize.ShloMosaic.TcCoe Idealize.SL.Sem
open Idealize.ShloMosaic.Pipeline (Dat)
open Cert.CmpIdeal Cert.CmpIdeal.Gen

open Cert.CmpRefIdeal.Val (Finite hid hid_split sum_spread)

/-- A grid point's hidden value is the reference's, where the encodings and the weights are finite: the spread weights meet
    only the group's own 64 columns of every 128, and a sum of products may be taken apart. -/
theorem pre_hid (T : FVec Ideal S4x2x512x2048 .bf16) (P : FVec Ideal S32x64 .f32) (W : FVec Ideal S2048x256 .f32)
    (hP : ∀ y, Finite (P y)) (hW : ∀ y, Finite (W y)) (b g : Fin 4)
    (x0 : FVec Ideal S1x1x512x2048 .bf16) (x2 : FVec Ideal S1x2048x512 .bf16) (x4 : FVec Ideal S1024x512 .bf16)
    (x6 : FVec Ideal S16x2048 .bf16)
    (b0 : ∀ (i : Fin 512) (l : Fin 2048), x0 (ix4 0 0 i l) = T (ix4 b ⟨g / 2, by omega⟩ i l))
    (b2 : ∀ (l : Fin 2048) (j : Fin 512), x2 (ix3 0 l j) = if l.val % 128 / 64 = g.val % 2 then
        if h : j.val < 256 then W (ix2 ⟨l / 128 * 64 + l % 64, by omega⟩ ⟨j.val, by omega⟩)
        else W (ix2 ⟨1024 + (l / 128 * 64 + l % 64), by omega⟩ ⟨j.val - 256, by omega⟩)
      else (0 : EReal))
    (b4 : ∀ (k : Fin 1024) (j : Fin 512), x4 (ix2 k j) = if h : j.val < 256 then W (ix2 ⟨k.val, by omega⟩ ⟨j.val, by omega⟩)
      else W (ix2 ⟨1024 + k.val, by omega⟩ ⟨j.val - 256, by omega⟩))
    (b6 : ∀ k : Fin 2048, x6 (ix2 0 k) = P (ix2 ⟨k.val / 64, by omega⟩ ⟨k.val % 64, by omega⟩))
    (i : Fin 512) (hi : i.val < 511) (x : Fin 256) : pre x0 x2 x4 x6 i x = hid T P W b g ⟨i, hi⟩ x := by
  have hx : x.val < 256 := x.isLt
  have hx' : ¬ 256 + x.val < 256 := by omega
  have ex : 256 + x.val - 256 = x.val := by omega
  have en : (⟨(i + 512 - 511) % 512, by omega⟩ : Fin 512) = ⟨i + 1, by omega⟩ := Fin.ext (by dsimp only; omega)
  rw [hid_split T P W hP hW]
  unfold pre
  rw [en]
  simp only [b0, b2, b4, b6, hx, hx', ex, dite_true, dite_false]
  exact congrArg (· + _) (congrArg₂ (· + ·)
    (sum_spread (g.val % 2) (by omega) (fun l => T (ix4 b ⟨g / 2, by omega⟩ i l)) (fun y => W (ix2 ⟨y, by omega⟩ x)))
    (sum_spread (g.val % 2) (by omega) (fun l => T (ix4 b ⟨g / 2, by omega⟩ ⟨i + 1, by omega⟩ l)) (fun y => W (ix2 ⟨1024 + y, by omega⟩ x))))

/-- A stored key entry is the reference's: the compressed key before the last row, zeros in it, then the one-hot column. -/
theorem key_entry (T : FVec Ideal S4x2x512x2048 .bf16) (P : FVec Ideal S32x64 .f32) (W : FVec Ideal S2048x256 .f32)
    (V : FVec Ideal S256x64 .f32) (b g : Fin 4) (i : Fin 512) (e : Fin 128) (z w : Fin 256 → EReal)
    (hz : ∀ (k : i.val < 511) (x : Fin 256), z x = hid T P W b g ⟨i, k⟩ x)
    (hw : ∀ x, w x = if h : e.val < 64 then V (ix2 x ⟨e.val, h⟩) else (0 : EReal)) :
    ((if i.val < 511 then ∑ x, z x * Row.gate (z x) * w x else 0) + if e.val = 64 + i.val / 8 then (1 : EReal) else 0)
      = if h : e.val < 64 then if k : i.val < 511 then CmpRefIdeal.Val.cmp T P W V b g ⟨i, k⟩ ⟨e, h⟩ else 0
        else if e.val - 64 = i.val / 8 then 1 else 0 := by
  by_cases h : e.val < 64
  · have q : ¬ e.val = 64 + i.val / 8 := by omega
    rw [if_neg q, add_zero, dif_pos h]
    by_cases k : i.val < 511
    · rw [if_pos k, dif_pos k]
      unfold CmpRefIdeal.Val.cmp
      refine Finset.sum_congr rfl fun x _ => ?_
      rw [hz k x, hw x, dif_pos h]
    · rw [if_neg k, dif_neg k]
  · rw [dif_neg h]
    simp only [hw, h, dite_false, mul_zero, Finset.sum_const_zero, ite_self, zero_add]
    by_cases q : e.val = 64 + i.val / 8
    · rw [if_pos q, if_pos (show e.val - 64 = i.val / 8 by omega)]
    · rw [if_neg q, if_neg (show ¬ e.val - 64 = i.val / 8 by omega)]

/-- A stored value entry is the reference's: the compressed value before the last column, zeros in it, then the row of ones. -/
theorem value_entry (T : FVec Ideal S4x2x512x2048 .bf16) (P : FVec Ideal S32x64 .f32) (W : FVec Ideal S2048x256 .f32)
    (V : FVec Ideal S256x64 .f32) (b g : Fin 4) (i : Fin 512) (e : Fin 80) (z w : Fin 256 → EReal)
    (hz : ∀ (k : i.val < 511) (x : Fin 256), z x = hid T P W b g ⟨i, k⟩ x)
    (hw : ∀ x, w x = if h : e.val < 64 then V (ix2 x ⟨e.val, h⟩) else (0 : EReal)) :
    ((if i.val < 511 then ∑ x, w x * (z x * Row.gate (z x)) else 0) + if e.val = 64 then (1 : EReal) else 0)
      = if h : e.val < 64 then if k : i.val < 511 then CmpRefIdeal.Val.cmp T P W V b g ⟨i, k⟩ ⟨e, h⟩ else 0
        else if e.val = 64 then 1 else 0 := by
  by_cases h : e.val < 64
  · have q : ¬ e.val = 64 := by omega
    rw [if_neg q, add_zero, dif_pos h]
    by_cases k : i.val < 511
    · rw [if_pos k, dif_pos k]
      unfold CmpRefIdeal.Val.cmp
      refine Finset.sum_congr rfl fun x _ => ?_
      rw [hz k x, hw x, dif_pos h, mul_comm]
    · rw [if_neg k, dif_neg k]
  · rw [dif_neg h]
    simp only [hw, h, dite_false, zero_mul, Finset.sum_const_zero, ite_self, zero_add]

variable (m : (ℓ : Loc nD τ sig) → Buf (Elt Ideal) ℓ)

/-- The raw keys a grid point reads: its batch's, of the pair of groups its group is in. -/
theorem in0 (c : Dev nD) (t : Fin cfg0.N) (b g : Fin 4) (hb : b.val = t.val / 4) (hg : g.val = t.val % 4) (i : Fin 512)
    (l : Fin 2048) : iblk m c 0 t (ix4 0 0 i l) = m ((c : Thread nD τ).loc main_arg0) (ix4 b ⟨g / 2, by omega⟩ i l) := by
  have ht : t.val < 16 := lt_of_lt_of_eq t.isLt N_0
  have h : ((cfg0.win 0).blk t).view.emb (ix4 0 0 i l) = (ix4 b ⟨g / 2, by omega⟩ i l : S4x2x512x2048.Idx) := by
    blk_ext [(idx t).1]
  exact congrArg (V m c main_arg0) h

/-- The raw values a grid point reads: its batch's, of the pair of groups its group is in. -/
theorem in1 (c : Dev nD) (t : Fin cfg0.N) (b g : Fin 4) (hb : b.val = t.val / 4) (hg : g.val = t.val % 4) (i : Fin 512)
    (l : Fin 2048) : iblk m c 1 t (ix4 0 0 i l) = m ((c : Thread nD τ).loc main_arg1) (ix4 b ⟨g / 2, by omega⟩ i l) := by
  have ht : t.val < 16 := lt_of_lt_of_eq t.isLt N_0
  have h : ((cfg0.win 1).blk t).view.emb (ix4 0 0 i l) = (ix4 b ⟨g / 2, by omega⟩ i l : S4x2x512x2048.Idx) := by
    blk_ext [(idx t).2.1]
  exact congrArg (V m c main_arg1) h

/-- The spread weights a grid point reads for its keys. -/
theorem in2 (c : Dev nD) (t : Fin cfg0.N) (g : Fin 4) (hg : g.val = t.val % 4) (l : Fin 2048) (j : Fin 512) :
    iblk m c 2 t (ix3 0 l j) = V m c main_v16 (ix3 ⟨g % 2, by omega⟩ l j) := by
  have ht : t.val < 16 := lt_of_lt_of_eq t.isLt N_0
  have h : ((cfg0.win 2).blk t).view.emb (ix3 0 l j) = (ix3 ⟨g % 2, by omega⟩ l j : S2x2048x512.Idx) := by
    blk_ext [(idx t).2.2.1]
  exact congrArg (V m c main_v16) h

/-- The spread weights a grid point reads for its values. -/
theorem in3 (c : Dev nD) (t : Fin cfg0.N) (g : Fin 4) (hg : g.val = t.val % 4) (l : Fin 2048) (j : Fin 512) :
    iblk m c 3 t (ix3 0 l j) = V m c main_v28 (ix3 ⟨g % 2, by omega⟩ l j) := by
  have ht : t.val < 16 := lt_of_lt_of_eq t.isLt N_0
  have h : ((cfg0.win 3).blk t).view.emb (ix3 0 l j) = (ix3 ⟨g % 2, by omega⟩ l j : S2x2048x512.Idx) := by
    blk_ext [(idx t).2.2.2.1]
  exact congrArg (V m c main_v28) h

/-- The keys' first weights as every grid point reads them. -/
theorem in4 (c : Dev nD) (t : Fin cfg0.N) (k : Fin 1024) (j : Fin 512) : iblk m c 4 t (ix2 k j) = V m c main_v32 (ix2 k j) := by
  have h : ((cfg0.win 4).blk t).view.emb (ix2 k j) = ix2 k j := by blk_ext [(idx t).2.2.2.2.1]
  exact congrArg (V m c main_v32) h

/-- The values' first weights as every grid point reads them. -/
theorem in5 (c : Dev nD) (t : Fin cfg0.N) (k : Fin 1024) (j : Fin 512) : iblk m c 5 t (ix2 k j) = V m c main_v36 (ix2 k j) := by
  have h : ((cfg0.win 5).blk t).view.emb (ix2 k j) = ix2 k j := by blk_ext [(idx t).2.2.2.2.2.1]
  exact congrArg (V m c main_v36) h

/-- The keys' position encodings as every grid point reads them. -/
theorem in6 (c : Dev nD) (t : Fin cfg0.N) (k : Fin 16) (j : Fin 2048) : iblk m c 6 t (ix2 k j) = V m c main_v39 (ix2 k j) := by
  have h : ((cfg0.win 6).blk t).view.emb (ix2 k j) = ix2 k j := by blk_ext [(idx t).2.2.2.2.2.2.1]
  exact congrArg (V m c main_v39) h

/-- The values' position encodings as every grid point reads them. -/
theorem in7 (c : Dev nD) (t : Fin cfg0.N) (k : Fin 16) (j : Fin 2048) : iblk m c 7 t (ix2 k j) = V m c main_v42 (ix2 k j) := by
  have h : ((cfg0.win 7).blk t).view.emb (ix2 k j) = ix2 k j := by blk_ext [(idx t).2.2.2.2.2.2.2.1]
  exact congrArg (V m c main_v42) h

/-- The keys' second weights as every grid point reads them. -/
theorem in8 (c : Dev nD) (t : Fin cfg0.N) (k : Fin 256) (j : Fin 128) : iblk m c 8 t (ix2 k j) = V m c main_v1 (ix2 k j) := by
  have h : ((cfg0.win 8).blk t).view.emb (ix2 k j) = ix2 k j := by blk_ext [(idx t).2.2.2.2.2.2.2.2.1]
  exact congrArg (V m c main_v1) h

/-- The values' second weights as every grid point reads them. -/
theorem in9 (c : Dev nD) (t : Fin cfg0.N) (k : Fin 80) (j : Fin 256) : iblk m c 9 t (ix2 k j) = V m c main_v4 (ix2 k j) := by
  have h : ((cfg0.win 9).blk t).view.emb (ix2 k j) = ix2 k j := by blk_ext [(idx t).2.2.2.2.2.2.2.2.2.1]
  exact congrArg (V m c main_v4) h

/-- A grid point's hidden value of the keys' blocks is the reference's. -/
theorem hid0 (c : Dev nD) (hP : ∀ y, Finite (m ((c : Thread nD τ).loc main_arg2) y)) (hW : ∀ y, Finite (m ((c : Thread nD τ).loc main_arg4) y)) (t : Fin cfg0.N) (b g : Fin 4)
    (hb : b.val = t.val / 4) (hg : g.val = t.val % 4) (i : Fin 512) (hi : i.val < 511) (x : Fin 256) :
    pre (iblk m c 0 t) (iblk m c 2 t) (iblk m c 4 t) (iblk m c 6 t) i x
      = hid (m ((c : Thread nD τ).loc main_arg0)) (m ((c : Thread nD τ).loc main_arg2)) (m ((c : Thread nD τ).loc main_arg4)) b g ⟨i, hi⟩ x :=
  pre_hid _ _ _ hP hW b g _ _ _ _ (fun i l => in0 m c t b g hb hg i l)
    (fun l j => (in2 m c t g hg l j).trans (V_v16 m c _ l j))
    (fun k j => (in4 m c t k j).trans (V_v32 m c k j))
    (fun k => (in6 m c t 0 k).trans (V_v39 m c 0 k)) i hi x

/-- A grid point's hidden value of the values' blocks is the reference's. -/
theorem hid1 (c : Dev nD) (hP : ∀ y, Finite (m ((c : Thread nD τ).loc main_arg3) y)) (hW : ∀ y, Finite (m ((c : Thread nD τ).loc main_arg6) y)) (t : Fin cfg0.N) (b g : Fin 4)
    (hb : b.val = t.val / 4) (hg : g.val = t.val % 4) (i : Fin 512) (hi : i.val < 511) (x : Fin 256) :
    pre (iblk m c 1 t) (iblk m c 3 t) (iblk m c 5 t) (iblk m c 7 t) i x
      = hid (m ((c : Thread nD τ).loc main_arg1)) (m ((c : Thread nD τ).loc main_arg3)) (m ((c : Thread nD τ).loc main_arg6)) b g ⟨i, hi⟩ x :=
  pre_hid _ _ _ hP hW b g _ _ _ _ (fun i l => in1 m c t b g hb hg i l)
    (fun l j => (in3 m c t g hg l j).trans (V_v28 m c _ l j))
    (fun k j => (in5 m c t k j).trans (V_v36 m c k j))
    (fun k => (in7 m c t 0 k).trans (V_v42 m c 0 k)) i hi x

/-- Where a grid point's key block lies in its array. -/
theorem at0 (t : Fin cfg0.N) (r : Fin 512) (s : Fin 128) : ((cfg0.win 10).blk t).view.emb (ix4 0 0 r s)
    = (ix4 ⟨t.val / 4, by have := lt_of_lt_of_eq t.isLt N_0; omega⟩ ⟨t.val % 4, by omega⟩ r s : S4x4x512x128.Idx) := by
  have ht : t.val < 16 := lt_of_lt_of_eq t.isLt N_0
  blk_ext [(idx t).2.2.2.2.2.2.2.2.2.2.1]

/-- The compressed key array is the reference's first term. -/
theorem final0 (c : Dev nD) (hP : ∀ y, Finite (m ((c : Thread nD τ).loc main_arg2) y)) (hW : ∀ y, Finite (m ((c : Thread nD τ).loc main_arg4) y)) :
    (dats m 0 c).arrAt 10 (cfgs 0).N
    = CmpRefIdeal.Val.term0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]
  have ht : t.val < 16 := lt_of_lt_of_eq t.isLt N_0
  idx_vars y
  obtain rfl : y0 = 0 := Subsingleton.elim _ _
  obtain rfl : y1 = 0 := Subsingleton.elim _ _
  refine (pay0 _ _ _ _ _ _ _ _ _ _ y2 y3).trans (Eq.trans ?_ ((congrArg _ (at0 t y2 y3)).trans (CmpRefIdeal.Val.term0_at _ _ _ _ _ _ _ _ _ _ _ _)).symm)
  exact key_entry (m ((c : Thread nD τ).loc main_arg0)) (m ((c : Thread nD τ).loc main_arg2)) (m ((c : Thread nD τ).loc main_arg4)) (m ((c : Thread nD τ).loc main_arg5)) _ _ y2 y3 _ _
    (fun k x => hid0 m c hP hW t _ _ rfl rfl _ k x) (fun x => (in8 m c t x y3).trans (V_v1 m c x y3))

/-- Where a grid point's value block lies in its array. -/
theorem at1 (t : Fin cfg0.N) (r : Fin 80) (s : Fin 512) : ((cfg0.win 11).blk t).view.emb (ix4 0 0 r s)
    = (ix4 ⟨t.val / 4, by have := lt_of_lt_of_eq t.isLt N_0; omega⟩ ⟨t.val % 4, by omega⟩ r s : S4x4x80x512.Idx) := by
  have ht : t.val < 16 := lt_of_lt_of_eq t.isLt N_0
  blk_ext [(idx t).2.2.2.2.2.2.2.2.2.2.2]

/-- The compressed value array is the reference's second term. -/
theorem final1 (c : Dev nD) (hP : ∀ y, Finite (m ((c : Thread nD τ).loc main_arg3) y)) (hW : ∀ y, Finite (m ((c : Thread nD τ).loc main_arg6) y)) :
    (dats m 0 c).arrAt 11 (cfgs 0).N
    = CmpRefIdeal.Val.term1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]
  have ht : t.val < 16 := lt_of_lt_of_eq t.isLt N_0
  idx_vars y
  obtain rfl : y0 = 0 := Subsingleton.elim _ _
  obtain rfl : y1 = 0 := Subsingleton.elim _ _
  refine (pay1 _ _ _ _ _ _ _ _ _ _ y3 y2).trans (Eq.trans ?_ ((congrArg _ (at1 t y2 y3)).trans (CmpRefIdeal.Val.term1_at _ _ _ _ _ _ _ _ _ _ _ _)).symm)
  exact value_entry (m ((c : Thread nD τ).loc main_arg1)) (m ((c : Thread nD τ).loc main_arg3)) (m ((c : Thread nD τ).loc main_arg6)) (m ((c : Thread nD τ).loc main_arg7)) _ _ y3 y2 _ _
    (fun k x => hid1 m c hP hW t _ _ rfl rfl _ k x) (fun x => (in9 m c t y2 x).trans (V_v4 m c y2 x))

end Cert.CmpIdeal.Val

end
-- ==== Proof.QpRef.lean ====
module

public import proofs.«01_k».proof.Proof.RowMath
public import proofs.«01_k».proof.Proof.Gen.QpRefIdeal.Run
public import Idealize.ShloMosaic.Lib.Pointwise

/-! The query reference's results, read at an index. -/

@[expose] public section

set_option maxRecDepth 16384

noncomputable section

namespace Cert.QpRefIdeal.Val

open Idealize.ShloMosaic Idealize.ShloMosaic.TcCoe Idealize.SL.Sem
open Cert.QpRefIdeal Cert.QpRefIdeal.Gen

/-- The reference's result 0 as the composed term of its arguments. -/
def term0 (A0 : FVec Ideal S4x8192x1024 .f32) (A1 : FVec Ideal S2x1024 .f32) (A2 : FVec Ideal S1x1024x1072 .f32) : FVec Ideal S4x1024x8192 .bf16 :=
  truncf .bf16 (transpose S4x1024x8192 [0, 2, 1] (mulf (extractStridedSlice S4x8192x1024 ![0, 0, 0] (Host.dotGeneral dot_S4x8192x1024_S1024x1072_S4x8192x1072_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![1, 0] A1 slices_S2x1024_S1x1024_1_0) shapeCasts_S1x1024_S1024)))) (shapeCast _ A2 shapeCasts_S1x1024x1072_S1024x1072)) slices_S4x8192x1072_S4x8192x1024_0_0_0) (broadcastInDim S4x8192x1024 ![] bcast_S_S4x8192x1024 (constant S_ .f32 0x3E38AA3B#32))) transposes_S4x8192x1024_S4x1024x8192_0_2_1) bitsLt_bf16_f32

/-- The reference's result 1 as the composed term of its arguments. -/
def term1 (A0 : FVec Ideal S4x8192x1024 .f32) (A1 : FVec Ideal S2x1024 .f32) (A2 : FVec Ideal S1x1024x1072 .f32) : FVec Ideal S4x64x8192 .f32 :=
  shapeCast _ (concatenate S4x4x16x8192 2 [⟨S4x4x12x8192, (transpose S4x4x12x8192 [0, 2, 3, 1] (shapeCast _ (Host.divf (broadcastInDim S4x8192x48 ![] bcast_S_S4x8192x48 (constant S_ .f32 0x3F800000#32)) (addf (broadcastInDim S4x8192x48 ![] bcast_S_S4x8192x48 (constant S_ .f32 0x3F800000#32)) (Host.exp (Host.negf (extractStridedSlice S4x8192x48 ![0, 0, 1024] (Host.dotGeneral dot_S4x8192x1024_S1024x1072_S4x8192x1072_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![1, 0] A1 slices_S2x1024_S1x1024_1_0) shapeCasts_S1x1024_S1024)))) (shapeCast _ A2 shapeCasts_S1x1024x1072_S1024x1072)) slices_S4x8192x1072_S4x8192x48_0_0_1024))))) shapeCasts_S4x8192x48_S4x8192x4x12) transposes_S4x8192x4x12_S4x4x12x8192_0_2_3_1)⟩, ⟨S4x4x4x8192, (broadcastInDim S4x4x4x8192 ![] bcast_S_S4x4x4x8192 (constant S_ .f32 0x3F000000#32))⟩] concatenates_S4x4x12x8192_S4x4x4x8192_S4x4x16x8192_d2) shapeCasts_S4x4x16x8192_S4x64x8192

/-- The scaled query of one head row at one token. -/
theorem term0_at (A0 : FVec Ideal S4x8192x1024 .f32) (A1 : FVec Ideal S2x1024 .f32) (A2 : FVec Ideal S1x1024x1072 .f32)
    (b : Fin 4) (n : Fin 1024) (s : Fin 8192) :
    term0 A0 A1 A2 (ix3 b n s) = (∑ x, Row.rms (fun k => A0 (ix3 b s k)) (fun k => A1 (ix2 1 k)) x
      * A2 (ix3 0 x ⟨n.val, by omega⟩)) * Ideal.ofBits .f32 0x3E38AA3B#32 := by
  pointwise [term0, Row.rms]

/-- The gate in row `n` of the sixteen-row groups at one token: the logistic function of the gate's projection in a
    group's first twelve rows, one half in its last four. -/
theorem term1_at (A0 : FVec Ideal S4x8192x1024 .f32) (A1 : FVec Ideal S2x1024 .f32) (A2 : FVec Ideal S1x1024x1072 .f32)
    (b : Fin 4) (n : Fin 64) (s : Fin 8192) :
    term1 A0 A1 A2 (ix3 b n s) = if h : n.val % 16 < 12 then
        Row.gate (∑ x, Row.rms (fun k => A0 (ix3 b s k)) (fun k => A1 (ix2 1 k)) x
          * A2 (ix3 0 x ⟨1024 + (n.val / 16 * 12 + n.val % 16), by omega⟩))
      else Ideal.ofBits .f32 0x3F000000#32 := by
  pointwise [term1, Row.rms, Row.gate]

end Cert.QpRefIdeal.Val

end
-- ==== Proof.QpValue.lean ====
module

public import proofs.«01_k».proof.Proof.Gen.QpIdeal.Frame
public import proofs.«01_k».proof.Proof.QpRef
public import Idealize.ShloMosaic.Lib.Pipeline.ValueKit
public import Idealize.ShloMosaic.Lib.Pointwise
public import Idealize.ShloMosaic.Lib.Claim

/-! The two result arrays of the query projection are its reference's terms. -/

@[expose] public section

set_option maxRecDepth 16384

noncomputable section

namespace Cert.QpIdeal.Val

open Idealize.ShloMosaic Idealize.ShloMosaic.TcCoe Idealize.SL.Sem
open Idealize.ShloMosaic.Pipeline (Dat)
open Cert.QpIdeal Cert.QpIdeal.Gen

variable (m : (ℓ : Loc nD τ sig) → Buf (Elt Ideal) ℓ)

/-- Every window's block index at a grid point. -/
theorem idx : ∀ t : Fin cfg0.N, win0_0.index t = ![t.val / 8, t.val % 8, 0] ∧ win0_1.index t = ![0, 0]
    ∧ win0_2.index t = ![0, 0] ∧ win0_3.index t = ![0, 0] ∧ win0_4.index t = ![t.val / 8, 0, t.val % 8]
    ∧ win0_5.index t = ![t.val / 8, 0, t.val % 8] :=
  (by decide +kernel : ∀ t : Fin grid0.N, _)

/-- The gain row the kernel is given. -/
theorem V_v11 (c : Dev nD) (k : Fin 1024) : V m c main_v11 (ix2 0 k) = m ((c : Thread nD τ).loc main_arg1) (ix2 1 k) := by
  simp only [V, hostOps0, hostOps0_1, hostOps0_2, List.flatten_cons, List.flatten_nil, List.append_nil, List.cons_append,
    List.nil_append]
  after_results
  pointwise []

/-- The transposed query weights the kernel is given. -/
theorem V_v3 (c : Dev nD) (n x : Fin 1024) : V m c main_v3 (ix2 n x)
    = m ((c : Thread nD τ).loc main_arg2) (ix3 0 x ⟨n.val, by omega⟩) := by
  simp only [V, hostOps0, hostOps0_1, hostOps0_2, List.flatten_cons, List.flatten_nil, List.append_nil, List.cons_append,
    List.nil_append]
  after_results
  pointwise []

/-- The transposed gate weights the kernel is given: in each group of sixteen rows twelve of the weights' columns, then
    four rows of zeros. -/
theorem V_v12 (c : Dev nD) (n : Fin 64) (x : Fin 1024) : V m c main_v12 (ix2 n x) = if h : n.val % 16 < 12 then
      m ((c : Thread nD τ).loc main_arg2) (ix3 0 x ⟨1024 + (n.val / 16 * 12 + n.val % 16), by omega⟩) else (0 : EReal) := by
  simp only [V, hostOps0, hostOps0_1, hostOps0_2, List.flatten_cons, List.flatten_nil, List.append_nil, List.cons_append,
    List.nil_append]
  after_results_simp
  pointwise []
  simp only [StableHlo.TRef.toBuf, StableHlo.TRef.ofBuf, cast_eq]
  pointwise []
  have h4 : n.val / 16 < 4 := by omega
  have z : FloatOps.sitofp (F := Ideal) FTy.f32 0#32 = (0 : EReal) := by
    show ((((0#32 : BitVec 32).toInt : ℤ) : ℝ) : EReal) = 0
    simp
  by_cases h : n.val % 16 < 12
  · simp only [h4, h, and_self, dite_true]
  · simp only [h, and_false, dite_false]
    exact z

/-- The scaled queries one grid point stores. -/
theorem pay0 (x0 : FVec Ideal S1x1024x1024 .f32) (x1 : FVec Ideal S1x1024 .f32) (x2 : FVec Ideal S1024x1024 .bf16)
    (x3 : FVec Ideal S64x1024 .bf16) (n r : Fin 1024) :
    out0_4 (F := Ideal) x0 x1 x2 x3 (ix3 0 n r) = (∑ x, Row.rms (fun k => x0 (ix3 0 r k)) (fun k => x1 (ix2 0 k)) x
      * x2 (ix2 n x)) * Ideal.ofBits .f32 0x3E38AA3B#32 := by
  frame_out
  pointwise [k0_pay1, k0_pay2, Row.rms]
  simp only [mul_comm (x2 _)]

/-- The gates one grid point stores. -/
theorem pay1 (x0 : FVec Ideal S1x1024x1024 .f32) (x1 : FVec Ideal S1x1024 .f32) (x2 : FVec Ideal S1024x1024 .bf16)
    (x3 : FVec Ideal S64x1024 .bf16) (n : Fin 64) (r : Fin 1024) :
    out0_5 (F := Ideal) x0 x1 x2 x3 (ix3 0 n r) = Row.gate (∑ x, Row.rms (fun k => x0 (ix3 0 r k)) (fun k => x1 (ix2 0 k)) x
      * x3 (ix2 n x)) := by
  frame_out
  pointwise [k0_pay1, k0_pay3, Row.rms, Row.gate]
  simp only [mul_comm (x3 _)]
  rfl

/-- The query array is the reference's first term. -/
theorem final0 (c : Dev nD) : (dats m 0 c).arrAt 4 (cfgs 0).N
    = QpRefIdeal.Val.term0 (m ((c : Thread nD τ).loc main_arg0)) (m ((c : Thread nD τ).loc main_arg1))
      (m ((c : Thread nD τ).loc main_arg2)) := by
  refine (dats m 0 c).arrAt_eq_of_covers 4 _ (by decide +kernel) fun t _ y => ?_
  blk_simp
  rw [after0_4]
  have ht : t.val < 32 := lt_of_lt_of_eq t.isLt N_0
  idx_vars y
  obtain rfl : y0 = 0 := Subsingleton.elim _ _
  have e : ((cfg0.win 4).blk t).view.emb (ix3 0 y1 y2)
      = (ix3 ⟨t.val / 8, by omega⟩ y1 ⟨t.val % 8 * 1024 + y2, by omega⟩ : S4x1024x8192.Idx) := by
    blk_ext [idx t]
  refine (pay0 _ _ _ _ y1 y2).trans (Eq.trans ?_ ((congrArg _ e).trans (QpRefIdeal.Val.term0_at _ _ _ _ _ _)).symm)
  have b0 (k : Fin 1024) : iblk m c 0 t (ix3 0 y2 k) = m ((c : Thread nD τ).loc main_arg0)
      (ix3 ⟨t.val / 8, by omega⟩ ⟨t.val % 8 * 1024 + y2, by omega⟩ k) := by blk_point [iblk, V, idx t]
  have b1 (k : Fin 1024) : iblk m c 1 t (ix2 0 k) = m ((c : Thread nD τ).loc main_arg1) (ix2 1 k) := by
    have h : ((cfg0.win 1).blk t).view.emb (ix2 0 k) = ix2 0 k := by blk_ext [idx t]
    exact (congrArg (V m c main_v11) h).trans (V_v11 m c k)
  have b2 (n x : Fin 1024) : iblk m c 2 t (ix2 n x) = m ((c : Thread nD τ).loc main_arg2) (ix3 0 x ⟨n.val, by omega⟩) := by
    have h : ((cfg0.win 2).blk t).view.emb (ix2 n x) = ix2 n x := by blk_ext [idx t]
    exact (congrArg (V m c main_v3) h).trans (V_v3 m c n x)
  simp only [b0, b1, b2]

/-- The gate array is the reference's second term. -/
theorem final1 (c : Dev nD) : (dats m 0 c).arrAt 5 (cfgs 0).N
    = QpRefIdeal.Val.term1 (m ((c : Thread nD τ).loc main_arg0)) (m ((c : Thread nD τ).loc main_arg1))
      (m ((c : Thread nD τ).loc main_arg2)) := by
  refine (dats m 0 c).arrAt_eq_of_covers 5 _ (by decide +kernel) fun t _ y => ?_
  blk_simp
  rw [after0_5]
  have ht : t.val < 32 := lt_of_lt_of_eq t.isLt N_0
  idx_vars y
  obtain rfl : y0 = 0 := Subsingleton.elim _ _
  have e : ((cfg0.win 5).blk t).view.emb (ix3 0 y1 y2)
      = (ix3 ⟨t.val / 8, by omega⟩ y1 ⟨t.val % 8 * 1024 + y2, by omega⟩ : S4x64x8192.Idx) := by
    blk_ext [idx t]
  refine (pay1 _ _ _ _ y1 y2).trans (Eq.trans ?_ ((congrArg _ e).trans (QpRefIdeal.Val.term1_at _ _ _ _ _ _)).symm)
  have b0 (k : Fin 1024) : iblk m c 0 t (ix3 0 y2 k) = m ((c : Thread nD τ).loc main_arg0)
      (ix3 ⟨t.val / 8, by omega⟩ ⟨t.val % 8 * 1024 + y2, by omega⟩ k) := by blk_point [iblk, V, idx t]
  have b1 (k : Fin 1024) : iblk m c 1 t (ix2 0 k) = m ((c : Thread nD τ).loc main_arg1) (ix2 1 k) := by
    have h : ((cfg0.win 1).blk t).view.emb (ix2 0 k) = ix2 0 k := by blk_ext [idx t]
    exact (congrArg (V m c main_v11) h).trans (V_v11 m c k)
  have b3 (n : Fin 64) (x : Fin 1024) : iblk m c 3 t (ix2 n x) = if h : n.val % 16 < 12 then
      m ((c : Thread nD τ).loc main_arg2) (ix3 0 x ⟨1024 + (n.val / 16 * 12 + n.val % 16), by omega⟩) else (0 : EReal) := by
    have h : ((cfg0.win 3).blk t).view.emb (ix2 n x) = ix2 n x := by blk_ext [idx t]
    exact (congrArg (V m c main_v12) h).trans (V_v12 m c n x)
  simp only [b0, b1, b3]
  split
  · rfl
  · simp only [mul_zero, Finset.sum_const_zero, Row.gate_zero]

end Cert.QpIdeal.Val

end
-- ==== Proof.AttnIdealBody.lean ====
module

public import proofs.«01_k».proof.Proof.Gen.AttnIdeal.Frame
public import proofs.«01_k».proof.Proof.Gen.AttnIdeal.Points
public import proofs.«01_k».proof.Proof.Gen.AttnIdeal.Loops
public import proofs.«01_k».proof.Proof.Gen.AttnIdeal.Skeleton
public import Idealize.ShloMosaic.Lib.Pipeline.Frame
public import Idealize.ShloMosaic.Lib.Tactic

/-! The frame of the attention call: the body is run once at a symbolic grid point, its counted loops by their
    invariants, and the launch says nothing of the output array. -/

@[expose] public section

set_option maxRecDepth 65536
set_option maxHeartbeats 4000000

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The row offsets of the four mask loads depend on the query tile alone. -/
theorem off6_at (i : grid0.Coords) (k : BitVec 32) :
    k0_off6 i k = k0_off6 (fun a => match a with | 0 => ⟨0, by decide⟩ | 1 => ⟨0, by decide⟩ | 2 => i 2) k := rfl

/-- The row of the `k`-th mask load: twice the previous query tile, plus `k`. -/
theorem off6_eq (i : grid0.Coords) (k : Fin 4) : k0_off6 i (BitVec.ofNat 32 k.val) = ![2 * ((i 2).val - 1) + k.val, 0] := by
  rw [off6_at]
  exact (by decide +kernel : ∀ q : Fin 64, ∀ k : Fin 4, k0_off6 (fun a => match a with | 0 => ⟨0, by decide⟩ | 1 => ⟨0, by decide⟩ | 2 => q)
    (BitVec.ofNat 32 k.val) = ![2 * (q.val - 1) + k.val, 0]) (i 2) k

instance (i : grid0.Coords) : ClosedOff (k0_off6 i 0#32) := ⟨![2 * ((i 2).val - 1) + 0, 0], off6_eq i 0⟩
instance (i : grid0.Coords) : ClosedOff (k0_off6 i 1#32) := ⟨![2 * ((i 2).val - 1) + 1, 0], off6_eq i 1⟩
instance (i : grid0.Coords) : ClosedOff (k0_off6 i 2#32) := ⟨![2 * ((i 2).val - 1) + 2, 0], off6_eq i 2⟩
instance (i : grid0.Coords) : ClosedOff (k0_off6 i 3#32) := ⟨![2 * ((i 2).val - 1) + 3, 0], off6_eq i 3⟩

/-- The body's triple, for any continuation: from the ten inputs at given contents, the output and the eight scratch
    buffers at any, the kernel runs to its return and hands the inputs back unchanged, the rest at some contents. -/
theorem kernelRun (c : Dev nD) (i : grid0.Coords)
    (arg3 : Memref sig .tc .vmem S1x256x128 .bf16) (harg3 : arg3.IsWhole)
    (arg4 : Memref sig .tc .vmem S1x16x128 .f32) (harg4 : arg4.IsWhole)
    (arg5 : Memref sig .tc .vmem S1x1x512x128 .bf16) (harg5 : arg5.IsWhole)
    (arg6 : Memref sig .tc .vmem S1x1x80x512 .bf16) (harg6 : arg6.IsWhole)
    (arg7 : Memref sig .tc .vmem S1x1x8192x256 .bf16) (harg7 : arg7.IsWhole)
    (arg8 : Memref sig .tc .vmem S1x1x80x8192 .bf16) (harg8 : arg8.IsWhole)
    (arg9 : Memref sig .tc .vmem S1x1x8192x128 .bf16) (harg9 : arg9.IsWhole)
    (arg10 : Memref sig .tc .vmem S1x1x80x8192 .bf16) (harg10 : arg10.IsWhole)
    (arg11 : Memref sig .tc .vmem S1x1152x512 .f32) (harg11 : arg11.IsWhole)
    (arg12 : Memref sig .tc .vmem S1x64x512 .bf16) (harg12 : arg12.IsWhole)
    (arg13 : Memref sig .tc .vmem S1x128x256 .bf16) (harg13 : arg13.IsWhole)
    (arg14 : Memref sig .tc .vmem S256x512 .bf16) (harg14 : arg14.IsWhole)
    (arg15 : Memref sig .tc .vmem S256x512 .bf16) (harg15 : arg15.IsWhole)
    (arg16 : Memref sig .tc .vmem S512x256 .bf16) (harg16 : arg16.IsWhole)
    (arg17 : Memref sig .tc .vmem S528x128 .f32) (harg17 : arg17.IsWhole)
    (arg18 : Memref sig .tc .vmem S80x512 .f32) (harg18 : arg18.IsWhole)
    (arg19 : Memref sig .tc .vmem S8x512 .f32) (harg19 : arg19.IsWhole)
    (arg20 : Memref sig .tc .vmem S8x512 .f32) (harg20 : arg20.IsWhole)
    (arg21 : Memref sig .tc .vmem S128x128 .f32) (harg21 : arg21.IsWhole)
    (d3 : S1x256x128.Idx → Elt F .bf16)
    (d4 : S1x16x128.Idx → Elt F .f32)
    (d5 : S1x1x512x128.Idx → Elt F .bf16)
    (d6 : S1x1x80x512.Idx → Elt F .bf16)
    (d7 : S1x1x8192x256.Idx → Elt F .bf16)
    (d8 : S1x1x80x8192.Idx → Elt F .bf16)
    (d9 : S1x1x8192x128.Idx → Elt F .bf16)
    (d10 : S1x1x80x8192.Idx → Elt F .bf16)
    (d11 : S1x1152x512.Idx → Elt F .f32)
    (d12 : S1x64x512.Idx → Elt F .bf16)
    (K : PUnit → sProp 𝕄) :
    iprop(owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ owns (c : Thread nD τ) arg9 fullShare d9
        ∗ owns (c : Thread nD τ) arg10 fullShare d10
        ∗ owns (c : Thread nD τ) arg11 fullShare d11
        ∗ owns (c : Thread nD τ) arg12 fullShare d12
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (iprop(owns (c : Thread nD τ) arg3 fullShare d3
            ∗ owns (c : Thread nD τ) arg4 fullShare d4
            ∗ owns (c : Thread nD τ) arg5 fullShare d5
            ∗ owns (c : Thread nD τ) arg6 fullShare d6
            ∗ owns (c : Thread nD τ) arg7 fullShare d7
            ∗ owns (c : Thread nD τ) arg8 fullShare d8
            ∗ owns (c : Thread nD τ) arg9 fullShare d9
            ∗ owns (c : Thread nD τ) arg10 fullShare d10
            ∗ owns (c : Thread nD τ) arg11 fullShare d11
            ∗ owns (c : Thread nD τ) arg12 fullShare d12
            ∗ (∃ d, owns (c : Thread nD τ) arg13 fullShare d)
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)) -∗ K ⟨⟩))
      ⊢ wp frame (wpE (defs₀ (F := F)) Variants.none c none) Set.univ
          (cc0_nsa_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%e13, %f13, -, H13⟩, ⟨%e14, %f14, -, H14⟩, ⟨%e15, %f15, -, H15⟩, ⟨%e16, %f16, -, H16⟩, ⟨%e17, %f17, -, H17⟩, ⟨%e18, %f18, -, H18⟩, ⟨%e19, %f19, -, H19⟩, ⟨%e20, %f20, -, H20⟩, ⟨%e21, %f21, -, H21⟩, Hk⟩
  simp only [cc0_nsa_attention_eq_skeleton]; unfold cc0_nsa_attention_skel
  sl_exec_parts
  rcases Classical.em (kernelRun.sl.v666 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f3 f5 f7 f8 f11 f12 = 1#1) with hv | hv
  · rw [if_pos hv]
    sl_exec_parts
    sl_step
    iapply Hk
    isplitl [H3]
    · iexists f3; isplitr; swap; · iexact H3
      ipureintro; exact h3
    isplitl [H4]
    · iexists f4; isplitr; swap; · iexact H4
      ipureintro; exact h4
    isplitl [H5]
    · iexists f5; isplitr; swap; · iexact H5
      ipureintro; exact h5
    isplitl [H6]
    · iexists f6; isplitr; swap; · iexact H6
      ipureintro; exact h6
    isplitl [H7]
    · iexists f7; isplitr; swap; · iexact H7
      ipureintro; exact h7
    isplitl [H8]
    · iexists f8; isplitr; swap; · iexact H8
      ipureintro; exact h8
    isplitl [H9]
    · iexists f9; isplitr; swap; · iexact H9
      ipureintro; exact h9
    isplitl [H10]
    · iexists f10; isplitr; swap; · iexact H10
      ipureintro; exact h10
    isplitl [H11]
    · iexists f11; isplitr; swap; · iexact H11
      ipureintro; exact h11
    isplitl [H12]
    · iexists f12; isplitr; swap; · iexact H12
      ipureintro; exact h12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl
  · rw [if_neg hv]
    sl_exec_parts
    sl_step
    iapply Hk
    isplitl [H3]
    · iexists f3; isplitr; swap; · iexact H3
      ipureintro; exact h3
    isplitl [H4]
    · iexists f4; isplitr; swap; · iexact H4
      ipureintro; exact h4
    isplitl [H5]
    · iexists f5; isplitr; swap; · iexact H5
      ipureintro; exact h5
    isplitl [H6]
    · iexists f6; isplitr; swap; · iexact H6
      ipureintro; exact h6
    isplitl [H7]
    · iexists f7; isplitr; swap; · iexact H7
      ipureintro; exact h7
    isplitl [H8]
    · iexists f8; isplitr; swap; · iexact H8
      ipureintro; exact h8
    isplitl [H9]
    · iexists f9; isplitr; swap; · iexact H9
      ipureintro; exact h9
    isplitl [H10]
    · iexists f10; isplitr; swap; · iexact H10
      ipureintro; exact h10
    isplitl [H11]
    · iexists f11; isplitr; swap; · iexact H11
      ipureintro; exact h11
    isplitl [H12]
    · iexists f12; isplitr; swap; · iexact H12
      ipureintro; exact h12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

/-- The output window is the one whose contents nothing is said of. -/
def forgets0 : Fin 11 → Bool := fun w => w == 10

/-- The proof data on core `c`: the arrays as the region finds them, every input's block left in place, nothing said of
    the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Pipeline.Dat.unnamed (cfg := cfg0) 10 t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by dsimp only [dats]

/-- The body leaves input 0's block in place. -/
theorem after0_0 (c : Dev nD) (t : Fin cfg0.N) : (dats m 0 c).after 0 t = iblk m c 0 t := by dsimp only [dats]
/-- The body finds input 0's block. -/
theorem before0_0 (c : Dev nD) (t : Fin cfg0.N) (d) : (dats m 0 c).before 0 t d = iblk m c 0 t :=
  before0_0_of m (dats m 0 c) (A_eq m c 0) (after0_0 m c) t d
/-- The body leaves input 1's block in place. -/
theorem after0_1 (c : Dev nD) (t : Fin cfg0.N) : (dats m 0 c).after 1 t = iblk m c 1 t := by dsimp only [dats]
/-- The body finds input 1's block. -/
theorem before0_1 (c : Dev nD) (t : Fin cfg0.N) (d) : (dats m 0 c).before 1 t d = iblk m c 1 t :=
  before0_1_of m (dats m 0 c) (A_eq m c 1) (after0_1 m c) t d
/-- The body leaves input 2's block in place. -/
theorem after0_2 (c : Dev nD) (t : Fin cfg0.N) : (dats m 0 c).after 2 t = iblk m c 2 t := by dsimp only [dats]
/-- The body finds input 2's block. -/
theorem before0_2 (c : Dev nD) (t : Fin cfg0.N) (d) : (dats m 0 c).before 2 t d = iblk m c 2 t :=
  before0_2_of m (dats m 0 c) (A_eq m c 2) (after0_2 m c) t d
/-- The body leaves input 3's block in place. -/
theorem after0_3 (c : Dev nD) (t : Fin cfg0.N) : (dats m 0 c).after 3 t = iblk m c 3 t := by dsimp only [dats]
/-- The body finds input 3's block. -/
theorem before0_3 (c : Dev nD) (t : Fin cfg0.N) (d) : (dats m 0 c).before 3 t d = iblk m c 3 t :=
  before0_3_of m (dats m 0 c) (A_eq m c 3) (after0_3 m c) t d
/-- The body leaves input 4's block in place. -/
theorem after0_4 (c : Dev nD) (t : Fin cfg0.N) : (dats m 0 c).after 4 t = iblk m c 4 t := by dsimp only [dats]
/-- The body finds input 4's block. -/
theorem before0_4 (c : Dev nD) (t : Fin cfg0.N) (d) : (dats m 0 c).before 4 t d = iblk m c 4 t :=
  before0_4_of m (dats m 0 c) (A_eq m c 4) (after0_4 m c) t d
/-- The body leaves input 5's block in place. -/
theorem after0_5 (c : Dev nD) (t : Fin cfg0.N) : (dats m 0 c).after 5 t = iblk m c 5 t := by dsimp only [dats]
/-- The body finds input 5's block. -/
theorem before0_5 (c : Dev nD) (t : Fin cfg0.N) (d) : (dats m 0 c).before 5 t d = iblk m c 5 t :=
  before0_5_of m (dats m 0 c) (A_eq m c 5) (after0_5 m c) t d
/-- The body leaves input 6's block in place. -/
theorem after0_6 (c : Dev nD) (t : Fin cfg0.N) : (dats m 0 c).after 6 t = iblk m c 6 t := by dsimp only [dats]
/-- The body finds input 6's block. -/
theorem before0_6 (c : Dev nD) (t : Fin cfg0.N) (d) : (dats m 0 c).before 6 t d = iblk m c 6 t :=
  before0_6_of m (dats m 0 c) (A_eq m c 6) (after0_6 m c) t d
/-- The body leaves input 7's block in place. -/
theorem after0_7 (c : Dev nD) (t : Fin cfg0.N) : (dats m 0 c).after 7 t = iblk m c 7 t := by dsimp only [dats]
/-- The body finds input 7's block. -/
theorem before0_7 (c : Dev nD) (t : Fin cfg0.N) (d) : (dats m 0 c).before 7 t d = iblk m c 7 t :=
  before0_7_of m (dats m 0 c) (A_eq m c 7) (after0_7 m c) t d
/-- The body leaves input 8's block in place. -/
theorem after0_8 (c : Dev nD) (t : Fin cfg0.N) : (dats m 0 c).after 8 t = iblk m c 8 t := by dsimp only [dats]
/-- The body finds input 8's block. -/
theorem before0_8 (c : Dev nD) (t : Fin cfg0.N) (d) : (dats m 0 c).before 8 t d = iblk m c 8 t :=
  before0_8_of m (dats m 0 c) (A_eq m c 8) (after0_8 m c) t d
/-- The body leaves input 9's block in place. -/
theorem after0_9 (c : Dev nD) (t : Fin cfg0.N) : (dats m 0 c).after 9 t = iblk m c 9 t := by dsimp only [dats]
/-- The body finds input 9's block. -/
theorem before0_9 (c : Dev nD) (t : Fin cfg0.N) (d) : (dats m 0 c).before 9 t d = iblk m c 9 t :=
  before0_9_of m (dats m 0 c) (A_eq m c 9) (after0_9 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ (∃ d, owns (c : Thread nD τ) (win0_10.stage (cfg0.slots t 10)) fullShare d))

/-- The class invariant opened: the scratch buffers at some contents and the generator register at some state. -/
theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA
  rw [scopedRest0_eq]; simp only [owns_whole]; try rfl

/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5, after0_6, after0_7, after0_8, after0_9]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelRun c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, H10, S0, S1, S2, S3, S4, S5, S6, S7⟩
  isplitl [Hg S0 S1 S2 S3 S4 S5 S6 S7]
  · isplitr [Hg]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at the point. -/
theorem defs₀_row (t : Fin cfg0.N) : defs₀ (F := F) .tc cfg0.body (cfg0.bodyArgs t (cfg0.slots t)) = bodyAt0 t := by
  unfold defs₀; rw [Defs.onTc_tc]

/-- The body obligation with the output's contents unnamed. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every weakly fair execution terminates with the input arrays at their launch contents and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments keep their launch contents and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨fun c => ⟨
    (((dats m 0 c).toRForget_arrAt_iff (w := 0) rfl _ _).mp ((h.1 c).1 0)).trans (((dats m 0 c).arrAt_in 0 rfl _).trans ((A_eq m c 0).trans (V_main_arg0 m c))),
    (((dats m 0 c).toRForget_arrAt_iff (w := 1) rfl _ _).mp ((h.1 c).1 1)).trans (((dats m 0 c).arrAt_in 1 rfl _).trans ((A_eq m c 1).trans (V_main_arg1 m c))),
    (((dats m 0 c).toRForget_arrAt_iff (w := 2) rfl _ _).mp ((h.1 c).1 2)).trans (((dats m 0 c).arrAt_in 2 rfl _).trans ((A_eq m c 2).trans (V_main_arg2 m c))),
    (((dats m 0 c).toRForget_arrAt_iff (w := 3) rfl _ _).mp ((h.1 c).1 3)).trans (((dats m 0 c).arrAt_in 3 rfl _).trans ((A_eq m c 3).trans (V_main_arg3 m c))),
    (((dats m 0 c).toRForget_arrAt_iff (w := 4) rfl _ _).mp ((h.1 c).1 4)).trans (((dats m 0 c).arrAt_in 4 rfl _).trans ((A_eq m c 4).trans (V_main_arg4 m c))),
    (((dats m 0 c).toRForget_arrAt_iff (w := 5) rfl _ _).mp ((h.1 c).1 5)).trans (((dats m 0 c).arrAt_in 5 rfl _).trans ((A_eq m c 5).trans (V_main_arg5 m c))),
    (((dats m 0 c).toRForget_arrAt_iff (w := 6) rfl _ _).mp ((h.1 c).1 6)).trans (((dats m 0 c).arrAt_in 6 rfl _).trans ((A_eq m c 6).trans (V_main_arg6 m c))),
    (((dats m 0 c).toRForget_arrAt_iff (w := 7) rfl _ _).mp ((h.1 c).1 7)).trans (((dats m 0 c).arrAt_in 7 rfl _).trans ((A_eq m c 7).trans (V_main_arg7 m c))),
    (((dats m 0 c).toRForget_arrAt_iff (w := 8) rfl _ _).mp ((h.1 c).1 8)).trans (((dats m 0 c).arrAt_in 8 rfl _).trans ((A_eq m c 8).trans (V_main_arg8 m c))),
    (((dats m 0 c).toRForget_arrAt_iff (w := 9) rfl _ _).mp ((h.1 c).1 9)).trans (((dats m 0 c).arrAt_in 9 rfl _).trans ((A_eq m c 9).trans (V_main_arg9 m c)))⟩, h.2⟩) (run_main m ρ)

end Cert.AttnIdeal.Hand

end
-- ==== Proof.lean ====
module

public import proofs.«01_k».proof.Defs
public import proofs.«01_k».proof.Proof.Gen.Mix.Frame
public import proofs.«01_k».proof.Proof.Gen.MixIdeal.Frame
public import proofs.«01_k».proof.Proof.MixValue
public import proofs.«01_k».proof.Proof.Gen.MixRefIdeal.Run
public import proofs.«01_k».proof.Proof.Gen.Mlp.Frame
public import proofs.«01_k».proof.Proof.Gen.MlpIdeal.Frame
public import proofs.«01_k».proof.Proof.MlpValue
public import proofs.«01_k».proof.Proof.Gen.MlpRefIdeal.Run
public import proofs.«01_k».proof.Proof.Gen.Out.Frame
public import proofs.«01_k».proof.Proof.Gen.OutIdeal.Frame
public import proofs.«01_k».proof.Proof.OutValue
public import proofs.«01_k».proof.Proof.Gen.OutRefIdeal.Run
public import proofs.«01_k».proof.Proof.Gen.Kv.Frame
public import proofs.«01_k».proof.Proof.Gen.KvIdeal.Frame
public import proofs.«01_k».proof.Proof.KvValue
public import proofs.«01_k».proof.Proof.Gen.KvRefIdeal.Run
public import proofs.«01_k».proof.Proof.Gen.Cmp.Frame
public import proofs.«01_k».proof.Proof.Gen.CmpIdeal.Frame
public import proofs.«01_k».proof.Proof.CmpPre
public import proofs.«01_k».proof.Proof.CmpValue
public import proofs.«01_k».proof.Proof.Gen.CmpRefIdeal.Run
public import proofs.«01_k».proof.Proof.Gen.Qp.Frame
public import proofs.«01_k».proof.Proof.Gen.QpIdeal.Frame
public import proofs.«01_k».proof.Proof.QpValue
public import proofs.«01_k».proof.Proof.Gen.QpRefIdeal.Run
public import proofs.«01_k».proof.Proof.AttnBody
public import proofs.«01_k».proof.Proof.AttnIdealBody
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- `MixIdeal` and its reference leave equal results. -/
theorem mix_value : @Cert.algebraic_MixIdeal_MixRefIdeal Cert.MixIdeal.Gen.facts Cert.MixRefIdeal.Gen.facts := by
  pair_intro
  · run_from Cert.MixIdeal.Gen.run_main m g
  · run_from Cert.MixRefIdeal.Value.run m' g'
    have e : Cert.MixRefIdeal.Value.res_main_v48 m' c = Cert.MixRefIdeal.Val.term (m' (c.tc.loc Cert.MixRefIdeal.main_arg0)) (m' (c.tc.loc Cert.MixRefIdeal.main_arg1)) (m' (c.tc.loc Cert.MixRefIdeal.main_arg2)) (m' (c.tc.loc Cert.MixRefIdeal.main_arg3)) (m' (c.tc.loc Cert.MixRefIdeal.main_arg4)) := rfl
    obtain ⟨h0, h1, h2, h3, h4⟩ := hagree c
    rw [e, h0, h1, h2, h3, h4]
    exact (Cert.MixIdeal.Val.final m c).symm

/-- `MlpIdeal` and its reference leave equal results. -/
theorem mlp_value : @Cert.algebraic_MlpIdeal_MlpRefIdeal Cert.MlpIdeal.Gen.facts Cert.MlpRefIdeal.Gen.facts := by
  pair_intro
  · run_from Cert.MlpIdeal.Gen.run_main m g
  · run_from Cert.MlpRefIdeal.Value.run m' g'
    exact (Cert.MlpIdeal.Val.final m c).symm

/-- `OutIdeal` and its reference leave equal results. -/
theorem out_value : @Cert.algebraic_OutIdeal_OutRefIdeal Cert.OutIdeal.Gen.facts Cert.OutRefIdeal.Gen.facts := by
  pair_intro
  · run_from Cert.OutIdeal.Gen.run_main m g
  · run_from Cert.OutRefIdeal.Value.run m' g'
    have e : Cert.OutRefIdeal.Value.res_main_v42 m' c = Cert.OutRefIdeal.Val.term (m' (c.tc.loc Cert.OutRefIdeal.main_arg0)) (m' (c.tc.loc Cert.OutRefIdeal.main_arg1)) (m' (c.tc.loc Cert.OutRefIdeal.main_arg2)) (m' (c.tc.loc Cert.OutRefIdeal.main_arg3)) (m' (c.tc.loc Cert.OutRefIdeal.main_arg4)) (m' (c.tc.loc Cert.OutRefIdeal.main_arg5)) (m' (c.tc.loc Cert.OutRefIdeal.main_arg6)) := rfl
    obtain ⟨h0, h1, h2, h3, h4, h5, h6⟩ := hagree c
    rw [e, h0, h1, h2, h3, h4, h5, h6]
    exact (Cert.OutIdeal.Val.final m c).symm

/-- `KvIdeal` leaves its reference's terms and its arguments. -/
theorem kv_run (m : (ℓ : Loc Cert.KvIdeal.nD Cert.KvIdeal.τ Cert.KvIdeal.sig) → Buf (Elt Ideal) ℓ) (g : Dev Cert.KvIdeal.nD → PrngReg) :
    θ_run Cert.KvIdeal.defs (onTc (τ := Cert.KvIdeal.τ) (Cert.KvIdeal.main (F := Ideal))) ⟨m, fun _ => 0, g⟩ (fun r => ∀ c : Dev Cert.KvIdeal.nD,
      r.2.mem (c.tc.loc Cert.KvIdeal.main_v25_0) = Cert.KvRefIdeal.Val.term0 (m (c.tc.loc Cert.KvIdeal.main_arg0)) (m (c.tc.loc Cert.KvIdeal.main_arg1)) (m (c.tc.loc Cert.KvIdeal.main_arg2)) ∧
      r.2.mem (c.tc.loc Cert.KvIdeal.main_v25_1) = Cert.KvRefIdeal.Val.term1 (m (c.tc.loc Cert.KvIdeal.main_arg0)) (m (c.tc.loc Cert.KvIdeal.main_arg1)) (m (c.tc.loc Cert.KvIdeal.main_arg2)) ∧
      r.2.mem (c.tc.loc Cert.KvIdeal.main_v25_2) = Cert.KvRefIdeal.Val.term2 (m (c.tc.loc Cert.KvIdeal.main_arg0)) (m (c.tc.loc Cert.KvIdeal.main_arg1)) (m (c.tc.loc Cert.KvIdeal.main_arg2)) ∧
      r.2.mem (c.tc.loc Cert.KvIdeal.main_v25_3) = Cert.KvRefIdeal.Val.term3 (m (c.tc.loc Cert.KvIdeal.main_arg0)) (m (c.tc.loc Cert.KvIdeal.main_arg1)) (m (c.tc.loc Cert.KvIdeal.main_arg2)) ∧
      r.2.mem (c.tc.loc Cert.KvIdeal.main_v25_4) = Cert.KvRefIdeal.Val.term4 (m (c.tc.loc Cert.KvIdeal.main_arg0)) (m (c.tc.loc Cert.KvIdeal.main_arg1)) (m (c.tc.loc Cert.KvIdeal.main_arg2)) ∧
      r.2.mem (c.tc.loc Cert.KvIdeal.main_v25_5) = Cert.KvRefIdeal.Val.term5 (m (c.tc.loc Cert.KvIdeal.main_arg0)) (m (c.tc.loc Cert.KvIdeal.main_arg1)) (m (c.tc.loc Cert.KvIdeal.main_arg2)) ∧
      r.2.mem (c.tc.loc Cert.KvIdeal.main_arg0) = m (c.tc.loc Cert.KvIdeal.main_arg0) ∧
      r.2.mem (c.tc.loc Cert.KvIdeal.main_arg1) = m (c.tc.loc Cert.KvIdeal.main_arg1) ∧
      r.2.mem (c.tc.loc Cert.KvIdeal.main_arg2) = m (c.tc.loc Cert.KvIdeal.main_arg2)) := by
  refine θ_run_mono (θ_run_and (Cert.KvIdeal.Gen.unchanged m g) (Cert.KvIdeal.Gen.run_main m g)) ?_
  rintro r ⟨hu, hr⟩ c
  exact ⟨((hr c).1 4).trans (Cert.KvIdeal.Val.final0 m c), ((hr c).1 5).trans (Cert.KvIdeal.Val.final1 m c), ((hr c).1 6).trans (Cert.KvIdeal.Val.final2 m c), ((hr c).1 7).trans (Cert.KvIdeal.Val.final3 m c), ((hr c).1 8).trans (Cert.KvIdeal.Val.final4 m c), ((hr c).1 9).trans (Cert.KvIdeal.Val.final5 m c), hu c⟩

/-- `KvIdeal` and its reference leave equal results. -/
theorem kv_value : @Cert.algebraic_KvIdeal_KvRefIdeal Cert.KvIdeal.Gen.facts Cert.KvRefIdeal.Gen.facts := by
  intro m g m' g' hpre hagree
  refine ⟨fun c => Cert.KvRefIdeal.Val.term0 (m (c.tc.loc Cert.KvIdeal.main_arg0)) (m (c.tc.loc Cert.KvIdeal.main_arg1)) (m (c.tc.loc Cert.KvIdeal.main_arg2)), fun c => Cert.KvRefIdeal.Val.term1 (m (c.tc.loc Cert.KvIdeal.main_arg0)) (m (c.tc.loc Cert.KvIdeal.main_arg1)) (m (c.tc.loc Cert.KvIdeal.main_arg2)), fun c => Cert.KvRefIdeal.Val.term2 (m (c.tc.loc Cert.KvIdeal.main_arg0)) (m (c.tc.loc Cert.KvIdeal.main_arg1)) (m (c.tc.loc Cert.KvIdeal.main_arg2)), fun c => Cert.KvRefIdeal.Val.term3 (m (c.tc.loc Cert.KvIdeal.main_arg0)) (m (c.tc.loc Cert.KvIdeal.main_arg1)) (m (c.tc.loc Cert.KvIdeal.main_arg2)), fun c => Cert.KvRefIdeal.Val.term4 (m (c.tc.loc Cert.KvIdeal.main_arg0)) (m (c.tc.loc Cert.KvIdeal.main_arg1)) (m (c.tc.loc Cert.KvIdeal.main_arg2)), fun c => Cert.KvRefIdeal.Val.term5 (m (c.tc.loc Cert.KvIdeal.main_arg0)) (m (c.tc.loc Cert.KvIdeal.main_arg1)) (m (c.tc.loc Cert.KvIdeal.main_arg2)), kv_run m g, ?_⟩
  refine θ_run_mono (Cert.KvRefIdeal.Value.run m' g') ?_
  intro r hr c
  obtain ⟨h0, h1, h2⟩ := hagree c
  beta_reduce
  rw [← h0, ← h1, ← h2]
  exact hr c

/-- `CmpIdeal` leaves its reference's terms and its arguments, where the encodings and first weights are finite. -/
theorem cmp_run (m : (ℓ : Loc Cert.CmpIdeal.nD Cert.CmpIdeal.τ Cert.CmpIdeal.sig) → Buf (Elt Ideal) ℓ) (g : Dev Cert.CmpIdeal.nD → PrngReg)
    (h : @Cert.Pre_CmpIdeal_finite_encodings_and_weights Cert.CmpIdeal.Pre.facts m) :
    θ_run Cert.CmpIdeal.defs (onTc (τ := Cert.CmpIdeal.τ) (Cert.CmpIdeal.main (F := Ideal))) ⟨m, fun _ => 0, g⟩ (fun r => ∀ c : Dev Cert.CmpIdeal.nD,
      r.2.mem (c.tc.loc Cert.CmpIdeal.main_v43_0) = Cert.CmpRefIdeal.Val.term0 (m (c.tc.loc Cert.CmpIdeal.main_arg0)) (m (c.tc.loc Cert.CmpIdeal.main_arg1)) (m (c.tc.loc Cert.CmpIdeal.main_arg2)) (m (c.tc.loc Cert.CmpIdeal.main_arg3)) (m (c.tc.loc Cert.CmpIdeal.main_arg4)) (m (c.tc.loc Cert.CmpIdeal.main_arg5)) (m (c.tc.loc Cert.CmpIdeal.main_arg6)) (m (c.tc.loc Cert.CmpIdeal.main_arg7)) ∧
      r.2.mem (c.tc.loc Cert.CmpIdeal.main_v43_1) = Cert.CmpRefIdeal.Val.term1 (m (c.tc.loc Cert.CmpIdeal.main_arg0)) (m (c.tc.loc Cert.CmpIdeal.main_arg1)) (m (c.tc.loc Cert.CmpIdeal.main_arg2)) (m (c.tc.loc Cert.CmpIdeal.main_arg3)) (m (c.tc.loc Cert.CmpIdeal.main_arg4)) (m (c.tc.loc Cert.CmpIdeal.main_arg5)) (m (c.tc.loc Cert.CmpIdeal.main_arg6)) (m (c.tc.loc Cert.CmpIdeal.main_arg7)) ∧
      r.2.mem (c.tc.loc Cert.CmpIdeal.main_arg0) = m (c.tc.loc Cert.CmpIdeal.main_arg0) ∧
      r.2.mem (c.tc.loc Cert.CmpIdeal.main_arg1) = m (c.tc.loc Cert.CmpIdeal.main_arg1) ∧
      r.2.mem (c.tc.loc Cert.CmpIdeal.main_arg2) = m (c.tc.loc Cert.CmpIdeal.main_arg2) ∧
      r.2.mem (c.tc.loc Cert.CmpIdeal.main_arg3) = m (c.tc.loc Cert.CmpIdeal.main_arg3) ∧
      r.2.mem (c.tc.loc Cert.CmpIdeal.main_arg4) = m (c.tc.loc Cert.CmpIdeal.main_arg4) ∧
      r.2.mem (c.tc.loc Cert.CmpIdeal.main_arg5) = m (c.tc.loc Cert.CmpIdeal.main_arg5) ∧
      r.2.mem (c.tc.loc Cert.CmpIdeal.main_arg6) = m (c.tc.loc Cert.CmpIdeal.main_arg6) ∧
      r.2.mem (c.tc.loc Cert.CmpIdeal.main_arg7) = m (c.tc.loc Cert.CmpIdeal.main_arg7)) := by
  refine θ_run_mono (θ_run_and (Cert.CmpIdeal.Gen.unchanged m g) (Cert.CmpIdeal.Gen.run_main m g)) ?_
  rintro r ⟨hu, hr⟩ c
  obtain ⟨p2, p3, p4, p6⟩ := Cert.CmpIdeal.Pre.finite m h c
  exact ⟨((hr c).1 10).trans (Cert.CmpIdeal.Val.final0 m c p2 p4), ((hr c).1 11).trans (Cert.CmpIdeal.Val.final1 m c p3 p6), hu c⟩

/-- `CmpIdeal` and its reference leave equal results, where the encodings and first weights are finite. -/
theorem cmp_value : @Cert.algebraic_CmpIdeal_CmpRefIdeal_pre_finite_encodings_and_weights Cert.CmpIdeal.Gen.facts Cert.CmpRefIdeal.Gen.facts Cert.CmpIdeal.Pre.facts := by
  intro m g m' g' hpre hagree
  refine ⟨fun c => Cert.CmpRefIdeal.Val.term0 (m (c.tc.loc Cert.CmpIdeal.main_arg0)) (m (c.tc.loc Cert.CmpIdeal.main_arg1)) (m (c.tc.loc Cert.CmpIdeal.main_arg2)) (m (c.tc.loc Cert.CmpIdeal.main_arg3)) (m (c.tc.loc Cert.CmpIdeal.main_arg4)) (m (c.tc.loc Cert.CmpIdeal.main_arg5)) (m (c.tc.loc Cert.CmpIdeal.main_arg6)) (m (c.tc.loc Cert.CmpIdeal.main_arg7)), fun c => Cert.CmpRefIdeal.Val.term1 (m (c.tc.loc Cert.CmpIdeal.main_arg0)) (m (c.tc.loc Cert.CmpIdeal.main_arg1)) (m (c.tc.loc Cert.CmpIdeal.main_arg2)) (m (c.tc.loc Cert.CmpIdeal.main_arg3)) (m (c.tc.loc Cert.CmpIdeal.main_arg4)) (m (c.tc.loc Cert.CmpIdeal.main_arg5)) (m (c.tc.loc Cert.CmpIdeal.main_arg6)) (m (c.tc.loc Cert.CmpIdeal.main_arg7)), cmp_run m g hpre, ?_⟩
  refine θ_run_mono (Cert.CmpRefIdeal.Value.run m' g') ?_
  intro r hr c
  obtain ⟨h0, h1, h2, h3, h4, h5, h6, h7⟩ := hagree c
  beta_reduce
  rw [← h0, ← h1, ← h2, ← h3, ← h4, ← h5, ← h6, ← h7]
  exact hr c

/-- `QpIdeal` and its reference leave equal results. -/
theorem qp_value : @Cert.algebraic_QpIdeal_QpRefIdeal Cert.QpIdeal.Gen.facts Cert.QpRefIdeal.Gen.facts := by
  pair_intro
  · run_from Cert.QpIdeal.Gen.run_main m g
    · exact Cert.QpIdeal.Gen.V_main_arg1 m c
    · exact Cert.QpIdeal.Gen.V_main_arg2 m c
  · run_from Cert.QpRefIdeal.Value.run m' g'
    · exact (Cert.QpIdeal.Val.final0 m c).symm
    · have e := (Cert.QpIdeal.Val.final1 m c).symm
      obtain ⟨-, -, h2⟩ := hagree c
      rw [← h2] at e
      exact e

/-- The claims of the statement, in its order. -/
theorem claim : Cert.Claim := ⟨Cert.Mix.Gen.facts, Cert.MixIdeal.Gen.facts, Cert.MixRefIdeal.Gen.facts, Cert.Mlp.Gen.facts, Cert.MlpIdeal.Gen.facts, Cert.MlpRefIdeal.Gen.facts, Cert.Out.Gen.facts, Cert.OutIdeal.Gen.facts, Cert.OutRefIdeal.Gen.facts, Cert.Kv.Gen.facts, Cert.KvIdeal.Gen.facts, Cert.KvRefIdeal.Gen.facts, Cert.Cmp.Gen.facts, Cert.CmpIdeal.Gen.facts, Cert.CmpRefIdeal.Gen.facts, Cert.Qp.Gen.facts, Cert.QpIdeal.Gen.facts, Cert.QpRefIdeal.Gen.facts, Cert.Attn.Gen.facts, Cert.AttnIdeal.Gen.facts, Cert.CmpIdeal.Pre.facts,
  fun m ρ _ => Cert.Mix.Gen.frame m ρ,
  fun m ρ _ => Cert.MixIdeal.Gen.frame m ρ,
  fun m ρ _ => (θ_run _ _ _).mono (fun _ h => ⟨fun c => (h c).2, sem_eq_zero_of_no_sems rfl _⟩) (Cert.MixRefIdeal.Value.run m ρ),
  fun m ρ _ => Cert.Mlp.Gen.frame m ρ,
  fun m ρ _ => Cert.MlpIdeal.Gen.frame m ρ,
  fun m ρ _ => (θ_run _ _ _).mono (fun _ h => ⟨fun c => (h c).2, sem_eq_zero_of_no_sems rfl _⟩) (Cert.MlpRefIdeal.Value.run m ρ),
  fun m ρ _ => Cert.Out.Gen.frame m ρ,
  fun m ρ _ => Cert.OutIdeal.Gen.frame m ρ,
  fun m ρ _ => (θ_run _ _ _).mono (fun _ h => ⟨fun c => (h c).2, sem_eq_zero_of_no_sems rfl _⟩) (Cert.OutRefIdeal.Value.run m ρ),
  fun m ρ _ => Cert.Kv.Gen.frame m ρ,
  fun m ρ _ => Cert.KvIdeal.Gen.frame m ρ,
  fun m ρ _ => (θ_run _ _ _).mono (fun _ h => ⟨fun c => (h c).2.2.2.2.2.2, sem_eq_zero_of_no_sems rfl _⟩) (Cert.KvRefIdeal.Value.run m ρ),
  fun m ρ _ => Cert.Cmp.Gen.frame m ρ,
  fun m ρ _ => Cert.CmpIdeal.Gen.frame m ρ,
  fun m ρ _ => Cert.CmpIdeal.Gen.frame m ρ,
  fun m ρ _ => (θ_run _ _ _).mono (fun _ h => ⟨fun c => (h c).2.2, sem_eq_zero_of_no_sems rfl _⟩) (Cert.CmpRefIdeal.Value.run m ρ),
  fun m ρ _ => (θ_run _ _ _).mono (fun _ h => ⟨fun c => (h c).2.2, sem_eq_zero_of_no_sems rfl _⟩) (Cert.CmpRefIdeal.Value.run m ρ),
  fun m ρ _ => Cert.Qp.Gen.frame m ρ,
  fun m ρ _ => Cert.QpIdeal.Gen.frame m ρ,
  fun m ρ _ => (θ_run _ _ _).mono (fun _ h => ⟨fun c => (h c).2.2, sem_eq_zero_of_no_sems rfl _⟩) (Cert.QpRefIdeal.Value.run m ρ),
  fun m ρ _ => Cert.Attn.Hand.frame m ρ,
  fun m ρ _ => Cert.AttnIdeal.Hand.frame m ρ,
  trivial,
  mix_value,
  trivial,
  mlp_value,
  trivial,
  out_value,
  trivial,
  kv_value,
  trivial,
  cmp_value,
  trivial,
  qp_value,
  trivial⟩

end Cert.Proof

end
